-- ==== Defs.lean ====
def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_ReferenceHIdeal (m : (ℓ : Loc Cert.ReferenceHIdeal.nD Cert.ReferenceHIdeal.τ Cert.ReferenceHIdeal.sig) → Buf (Elt Ideal) ℓ) : Prop :=
  True

def Pre_KernelDa (m : (ℓ : Loc Cert.KernelDa.nD Cert.KernelDa.τ Cert.KernelDa.sig) → Buf (Elt Bits) ℓ) : Prop :=
  True

def Pre_KernelDaIdeal (m : (ℓ : Loc Cert.KernelDaIdeal.nD Cert.KernelDaIdeal.τ Cert.KernelDaIdeal.sig) → Buf (Elt Ideal) ℓ) : Prop :=
  True

def Pre_ReferenceDaIdeal (m : (ℓ : Loc Cert.ReferenceDaIdeal.nD Cert.ReferenceDaIdeal.τ Cert.ReferenceDaIdeal.sig) → Buf (Elt Ideal) ℓ) : Prop :=
  True

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_ReferenceYIdeal (m : (ℓ : Loc Cert.ReferenceYIdeal.nD Cert.ReferenceYIdeal.τ Cert.ReferenceYIdeal.sig) → Buf (Elt Ideal) ℓ) : Prop :=
  True

def Pre_KernelDxn (m : (ℓ : Loc Cert.KernelDxn.nD Cert.KernelDxn.τ Cert.KernelDxn.sig) → Buf (Elt Bits) ℓ) : Prop :=
  True

def Pre_KernelDxnIdeal (m : (ℓ : Loc Cert.KernelDxnIdeal.nD Cert.KernelDxnIdeal.τ Cert.KernelDxnIdeal.sig) → Buf (Elt Ideal) ℓ) : Prop :=
  True

def Pre_ReferenceDxnIdeal (m : (ℓ : Loc Cert.ReferenceDxnIdeal.nD Cert.ReferenceDxnIdeal.τ Cert.ReferenceDxnIdeal.sig) → Buf (Elt Ideal) ℓ) : Prop :=
  True

def Pre_KernelDw2 (m : (ℓ : Loc Cert.KernelDw2.nD Cert.KernelDw2.τ Cert.KernelDw2.sig) → Buf (Elt Bits) ℓ) : Prop :=
  True

def Pre_KernelDw2Ideal (m : (ℓ : Loc Cert.KernelDw2Ideal.nD Cert.KernelDw2Ideal.τ Cert.KernelDw2Ideal.sig) → Buf (Elt Ideal) ℓ) : Prop :=
  True

def Pre_ReferenceDw2Ideal (m : (ℓ : Loc Cert.ReferenceDw2Ideal.nD Cert.ReferenceDw2Ideal.τ Cert.ReferenceDw2Ideal.sig) → Buf (Elt Ideal) ℓ) : Prop :=
  True

def Pre_KernelDw1 (m : (ℓ : Loc Cert.KernelDw1.nD Cert.KernelDw1.τ Cert.KernelDw1.sig) → Buf (Elt Bits) ℓ) : Prop :=
  True

def Pre_KernelDw1Ideal (m : (ℓ : Loc Cert.KernelDw1Ideal.nD Cert.KernelDw1Ideal.τ Cert.KernelDw1Ideal.sig) → Buf (Elt Ideal) ℓ) : Prop :=
  True

def Pre_ReferenceDw1Ideal (m : (ℓ : Loc Cert.ReferenceDw1Ideal.nD Cert.ReferenceDw1Ideal.τ Cert.ReferenceDw1Ideal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelScalesW1 (m : (ℓ : Loc Cert.KernelScalesW1.nD Cert.KernelScalesW1.τ Cert.KernelScalesW1.sig) → Buf (Elt Bits) ℓ) : Prop :=
  True

def Pre_KernelScalesW1Ideal (m : (ℓ : Loc Cert.KernelScalesW1Ideal.nD Cert.KernelScalesW1Ideal.τ Cert.KernelScalesW1Ideal.sig) → Buf (Elt Ideal) ℓ) : Prop :=
  True

def Pre_ReferenceScalesW1Ideal (m : (ℓ : Loc Cert.ReferenceScalesW1Ideal.nD Cert.ReferenceScalesW1Ideal.τ Cert.ReferenceScalesW1Ideal.sig) → Buf (Elt Ideal) ℓ) : Prop :=
  True

def Pre_KernelScalesW2 (m : (ℓ : Loc Cert.KernelScalesW2.nD Cert.KernelScalesW2.τ Cert.KernelScalesW2.sig) → Buf (Elt Bits) ℓ) : Prop :=
  True

def Pre_KernelScalesW2Ideal (m : (ℓ : Loc Cert.KernelScalesW2Ideal.nD Cert.KernelScalesW2Ideal.τ Cert.KernelScalesW2Ideal.sig) → Buf (Elt Ideal) ℓ) : Prop :=
  True

def Pre_ReferenceScalesW2Ideal (m : (ℓ : Loc Cert.ReferenceScalesW2Ideal.nD Cert.ReferenceScalesW2Ideal.τ Cert.ReferenceScalesW2Ideal.sig) → Buf (Elt Ideal) ℓ) : Prop :=
  True

def Pre_KernelScalesC (m : (ℓ : Loc Cert.KernelScalesC.nD Cert.KernelScalesC.τ Cert.KernelScalesC.sig) → Buf (Elt Bits) ℓ) : Prop :=
  True

def Pre_KernelScalesCIdeal (m : (ℓ : Loc Cert.KernelScalesCIdeal.nD Cert.KernelScalesCIdeal.τ Cert.KernelScalesCIdeal.sig) → Buf (Elt Ideal) ℓ) : Prop :=
  True

def Pre_ReferenceScalesCIdeal (m : (ℓ : Loc Cert.ReferenceScalesCIdeal.nD Cert.ReferenceScalesCIdeal.τ Cert.ReferenceScalesCIdeal.sig) → Buf (Elt Ideal) ℓ) : Prop :=
  True

def Pre_KernelScalesR (m : (ℓ : Loc Cert.KernelScalesR.nD Cert.KernelScalesR.τ Cert.KernelScalesR.sig) → Buf (Elt Bits) ℓ) : Prop :=
  True

def Pre_KernelScalesRIdeal (m : (ℓ : Loc Cert.KernelScalesRIdeal.nD Cert.KernelScalesRIdeal.τ Cert.KernelScalesRIdeal.sig) → Buf (Elt Ideal) ℓ) : Prop :=
  True

def Pre_ReferenceScalesRIdeal (m : (ℓ : Loc Cert.ReferenceScalesRIdeal.nD Cert.ReferenceScalesRIdeal.τ Cert.ReferenceScalesRIdeal.sig) → Buf (Elt Ideal) ℓ) : Prop :=
  True

def Pre_KernelWmax1 (m : (ℓ : Loc Cert.KernelWmax1.nD Cert.KernelWmax1.τ Cert.KernelWmax1.sig) → Buf (Elt Bits) ℓ) : Prop :=
  True

def Pre_KernelWmax1Ideal (m : (ℓ : Loc Cert.KernelWmax1Ideal.nD Cert.KernelWmax1Ideal.τ Cert.KernelWmax1Ideal.sig) → Buf (Elt Ideal) ℓ) : Prop :=
  True

def Pre_ReferenceWmax1Ideal (m : (ℓ : Loc Cert.ReferenceWmax1Ideal.nD Cert.ReferenceWmax1Ideal.τ Cert.ReferenceWmax1Ideal.sig) → Buf (Elt Ideal) ℓ) : Prop :=
  True

def Pre_KernelWmax2 (m : (ℓ : Loc Cert.KernelWmax2.nD Cert.KernelWmax2.τ Cert.KernelWmax2.sig) → Buf (Elt Bits) ℓ) : Prop :=
  True

def Pre_KernelWmax2Ideal (m : (ℓ : Loc Cert.KernelWmax2Ideal.nD Cert.KernelWmax2Ideal.τ Cert.KernelWmax2Ideal.sig) → Buf (Elt Ideal) ℓ) : Prop :=
  True

def Pre_ReferenceWmax2Ideal (m : (ℓ : Loc Cert.ReferenceWmax2Ideal.nD Cert.ReferenceWmax2Ideal.τ Cert.ReferenceWmax2Ideal.sig) → Buf (Elt Ideal) ℓ) : Prop :=
  True

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1)
      ∧ r.2.mem ((c.tc : Thread Cert.KernelH.nD Cert.KernelH.τ).loc Cert.KernelH.main_arg2) = m ((c.tc : Thread Cert.KernelH.nD Cert.KernelH.τ).loc Cert.KernelH.main_arg2)
      ∧ r.2.mem ((c.tc : Thread Cert.KernelH.nD Cert.KernelH.τ).loc Cert.KernelH.main_arg3) = m ((c.tc : Thread Cert.KernelH.nD Cert.KernelH.τ).loc Cert.KernelH.main_arg3))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
      ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
      ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3))
      ∧ r.2.sem = fun _ => 0)

def quiescent_ReferenceHIdeal [hReferenceHIdeal : Cert.ReferenceHIdeal.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1)
      ∧ r.2.mem ((c.tc : Thread Cert.ReferenceHIdeal.nD Cert.ReferenceHIdeal.τ).loc Cert.ReferenceHIdeal.main_arg2) = m ((c.tc : Thread Cert.ReferenceHIdeal.nD Cert.ReferenceHIdeal.τ).loc Cert.ReferenceHIdeal.main_arg2)
      ∧ r.2.mem ((c.tc : Thread Cert.ReferenceHIdeal.nD Cert.ReferenceHIdeal.τ).loc Cert.ReferenceHIdeal.main_arg3) = m ((c.tc : Thread Cert.ReferenceHIdeal.nD Cert.ReferenceHIdeal.τ).loc Cert.ReferenceHIdeal.main_arg3))
      ∧ r.2.sem = fun _ => 0)

def quiescent_KernelDa [hKernelDa : Cert.KernelDa.Facts] : Prop :=
  ∀ (m : (ℓ : Loc Cert.KernelDa.nD Cert.KernelDa.τ Cert.KernelDa.sig) → Buf (Elt Bits) ℓ) (g : Dev Cert.KernelDa.nD → PrngReg), Pre_KernelDa m →
    θ_run (Cert.KernelDa.defs (F := Bits)) (onTc (τ := Cert.KernelDa.τ) (Cert.KernelDa.main (F := Bits))) ⟨m, fun _ => 0, g⟩ (fun r => (∀ c : Dev Cert.KernelDa.nD,
      r.2.mem ((c.tc : Thread Cert.KernelDa.nD Cert.KernelDa.τ).loc Cert.KernelDa.main_arg0) = m ((c.tc : Thread Cert.KernelDa.nD Cert.KernelDa.τ).loc Cert.KernelDa.main_arg0)
      ∧ r.2.mem ((c.tc : Thread Cert.KernelDa.nD Cert.KernelDa.τ).loc Cert.KernelDa.main_arg1) = m ((c.tc : Thread Cert.KernelDa.nD Cert.KernelDa.τ).loc Cert.KernelDa.main_arg1)
      ∧ r.2.mem ((c.tc : Thread Cert.KernelDa.nD Cert.KernelDa.τ).loc Cert.KernelDa.main_arg2) = m ((c.tc : Thread Cert.KernelDa.nD Cert.KernelDa.τ).loc Cert.KernelDa.main_arg2)
      ∧ r.2.mem ((c.tc : Thread Cert.KernelDa.nD Cert.KernelDa.τ).loc Cert.KernelDa.main_arg3) = m ((c.tc : Thread Cert.KernelDa.nD Cert.KernelDa.τ).loc Cert.KernelDa.main_arg3)
      ∧ r.2.mem ((c.tc : Thread Cert.KernelDa.nD Cert.KernelDa.τ).loc Cert.KernelDa.main_arg4) = m ((c.tc : Thread Cert.KernelDa.nD Cert.KernelDa.τ).loc Cert.KernelDa.main_arg4))
      ∧ r.2.sem = fun _ => 0)

def quiescent_KernelDaIdeal [hKernelDaIdeal : Cert.KernelDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg), Pre_KernelDaIdeal m →
    θ_run (Cert.KernelDaIdeal.defs (F := Ideal)) (onTc (τ := Cert.KernelDaIdeal.τ) (Cert.KernelDaIdeal.main (F := Ideal))) ⟨m, fun _ => 0, g⟩ (fun r => (∀ c : Dev Cert.KernelDaIdeal.nD,
      r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
      ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
      ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2)
      ∧ r.2.mem ((c.tc : Thread Cert.KernelDaIdeal.nD Cert.KernelDaIdeal.τ).loc Cert.KernelDaIdeal.main_arg3) = m ((c.tc : Thread Cert.KernelDaIdeal.nD Cert.KernelDaIdeal.τ).loc Cert.KernelDaIdeal.main_arg3)
      ∧ r.2.mem ((c.tc : Thread Cert.KernelDaIdeal.nD Cert.KernelDaIdeal.τ).loc Cert.KernelDaIdeal.main_arg4) = m ((c.tc : Thread Cert.KernelDaIdeal.nD Cert.KernelDaIdeal.τ).loc Cert.KernelDaIdeal.main_arg4))
      ∧ r.2.sem = fun _ => 0)

def quiescent_ReferenceDaIdeal [hReferenceDaIdeal : Cert.ReferenceDaIdeal.Facts] : Prop :=
  ∀ (m : (ℓ : Loc Cert.ReferenceDaIdeal.nD Cert.ReferenceDaIdeal.τ Cert.ReferenceDaIdeal.sig) → Buf (Elt Ideal) ℓ) (g : Dev Cert.ReferenceDaIdeal.nD → PrngReg), Pre_ReferenceDaIdeal m →
    θ_run (Cert.ReferenceDaIdeal.defs (F := Ideal)) (onTc (τ := Cert.ReferenceDaIdeal.τ) (Cert.ReferenceDaIdeal.main (F := Ideal))) ⟨m, fun _ => 0, g⟩ (fun r => (∀ c : Dev Cert.ReferenceDaIdeal.nD,
      r.2.mem ((c.tc : Thread Cert.ReferenceDaIdeal.nD Cert.ReferenceDaIdeal.τ).loc Cert.ReferenceDaIdeal.main_arg0) = m ((c.tc : Thread Cert.ReferenceDaIdeal.nD Cert.ReferenceDaIdeal.τ).loc Cert.ReferenceDaIdeal.main_arg0)
      ∧ r.2.mem ((c.tc : Thread Cert.ReferenceDaIdeal.nD Cert.ReferenceDaIdeal.τ).loc Cert.ReferenceDaIdeal.main_arg1) = m ((c.tc : Thread Cert.ReferenceDaIdeal.nD Cert.ReferenceDaIdeal.τ).loc Cert.ReferenceDaIdeal.main_arg1)
      ∧ r.2.mem ((c.tc : Thread Cert.ReferenceDaIdeal.nD Cert.ReferenceDaIdeal.τ).loc Cert.ReferenceDaIdeal.main_arg2) = m ((c.tc : Thread Cert.ReferenceDaIdeal.nD Cert.ReferenceDaIdeal.τ).loc Cert.ReferenceDaIdeal.main_arg2)
      ∧ r.2.mem ((c.tc : Thread Cert.ReferenceDaIdeal.nD Cert.ReferenceDaIdeal.τ).loc Cert.ReferenceDaIdeal.main_arg3) = m ((c.tc : Thread Cert.ReferenceDaIdeal.nD Cert.ReferenceDaIdeal.τ).loc Cert.ReferenceDaIdeal.main_arg3)
      ∧ r.2.mem ((c.tc : Thread Cert.ReferenceDaIdeal.nD Cert.ReferenceDaIdeal.τ).loc Cert.ReferenceDaIdeal.main_arg4) = m ((c.tc : Thread Cert.ReferenceDaIdeal.nD Cert.ReferenceDaIdeal.τ).loc Cert.ReferenceDaIdeal.main_arg4))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1)
      ∧ r.2.mem ((c.tc : Thread Cert.KernelY.nD Cert.KernelY.τ).loc Cert.KernelY.main_arg2) = m ((c.tc : Thread Cert.KernelY.nD Cert.KernelY.τ).loc Cert.KernelY.main_arg2)
      ∧ r.2.mem ((c.tc : Thread Cert.KernelY.nD Cert.KernelY.τ).loc Cert.KernelY.main_arg3) = m ((c.tc : Thread Cert.KernelY.nD Cert.KernelY.τ).loc Cert.KernelY.main_arg3))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
      ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
      ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1)
      ∧ r.2.mem ((c.tc : Thread Cert.ReferenceYIdeal.nD Cert.ReferenceYIdeal.τ).loc Cert.ReferenceYIdeal.main_arg2) = m ((c.tc : Thread Cert.ReferenceYIdeal.nD Cert.ReferenceYIdeal.τ).loc Cert.ReferenceYIdeal.main_arg2)
      ∧ r.2.mem ((c.tc : Thread Cert.ReferenceYIdeal.nD Cert.ReferenceYIdeal.τ).loc Cert.ReferenceYIdeal.main_arg3) = m ((c.tc : Thread Cert.ReferenceYIdeal.nD Cert.ReferenceYIdeal.τ).loc Cert.ReferenceYIdeal.main_arg3))
      ∧ r.2.sem = fun _ => 0)

def quiescent_KernelDxn [hKernelDxn : Cert.KernelDxn.Facts] : Prop :=
  ∀ (m : (ℓ : Loc Cert.KernelDxn.nD Cert.KernelDxn.τ Cert.KernelDxn.sig) → Buf (Elt Bits) ℓ) (g : Dev Cert.KernelDxn.nD → PrngReg), Pre_KernelDxn m →
    θ_run (Cert.KernelDxn.defs (F := Bits)) (onTc (τ := Cert.KernelDxn.τ) (Cert.KernelDxn.main (F := Bits))) ⟨m, fun _ => 0, g⟩ (fun r => (∀ c : Dev Cert.KernelDxn.nD,
      r.2.mem ((c.tc : Thread Cert.KernelDxn.nD Cert.KernelDxn.τ).loc Cert.KernelDxn.main_arg0) = m ((c.tc : Thread Cert.KernelDxn.nD Cert.KernelDxn.τ).loc Cert.KernelDxn.main_arg0)
      ∧ r.2.mem ((c.tc : Thread Cert.KernelDxn.nD Cert.KernelDxn.τ).loc Cert.KernelDxn.main_arg1) = m ((c.tc : Thread Cert.KernelDxn.nD Cert.KernelDxn.τ).loc Cert.KernelDxn.main_arg1)
      ∧ r.2.mem ((c.tc : Thread Cert.KernelDxn.nD Cert.KernelDxn.τ).loc Cert.KernelDxn.main_arg2) = m ((c.tc : Thread Cert.KernelDxn.nD Cert.KernelDxn.τ).loc Cert.KernelDxn.main_arg2)
      ∧ r.2.mem ((c.tc : Thread Cert.KernelDxn.nD Cert.KernelDxn.τ).loc Cert.KernelDxn.main_arg3) = m ((c.tc : Thread Cert.KernelDxn.nD Cert.KernelDxn.τ).loc Cert.KernelDxn.main_arg3))
      ∧ r.2.sem = fun _ => 0)

def quiescent_KernelDxnIdeal [hKernelDxnIdeal : Cert.KernelDxnIdeal.Facts] : Prop :=
  ∀ (m : (ℓ : Loc Cert.KernelDxnIdeal.nD Cert.KernelDxnIdeal.τ Cert.KernelDxnIdeal.sig) → Buf (Elt Ideal) ℓ) (g : Dev Cert.KernelDxnIdeal.nD → PrngReg), Pre_KernelDxnIdeal m →
    θ_run (Cert.KernelDxnIdeal.defs (F := Ideal)) (onTc (τ := Cert.KernelDxnIdeal.τ) (Cert.KernelDxnIdeal.main (F := Ideal))) ⟨m, fun _ => 0, g⟩ (fun r => (∀ c : Dev Cert.KernelDxnIdeal.nD,
      r.2.mem ((c.tc : Thread Cert.KernelDxnIdeal.nD Cert.KernelDxnIdeal.τ).loc Cert.KernelDxnIdeal.main_arg0) = m ((c.tc : Thread Cert.KernelDxnIdeal.nD Cert.KernelDxnIdeal.τ).loc Cert.KernelDxnIdeal.main_arg0)
      ∧ r.2.mem ((c.tc : Thread Cert.KernelDxnIdeal.nD Cert.KernelDxnIdeal.τ).loc Cert.KernelDxnIdeal.main_arg1) = m ((c.tc : Thread Cert.KernelDxnIdeal.nD Cert.KernelDxnIdeal.τ).loc Cert.KernelDxnIdeal.main_arg1)
      ∧ r.2.mem ((c.tc : Thread Cert.KernelDxnIdeal.nD Cert.KernelDxnIdeal.τ).loc Cert.KernelDxnIdeal.main_arg2) = m ((c.tc : Thread Cert.KernelDxnIdeal.nD Cert.KernelDxnIdeal.τ).loc Cert.KernelDxnIdeal.main_arg2)
      ∧ r.2.mem ((c.tc : Thread Cert.KernelDxnIdeal.nD Cert.KernelDxnIdeal.τ).loc Cert.KernelDxnIdeal.main_arg3) = m ((c.tc : Thread Cert.KernelDxnIdeal.nD Cert.KernelDxnIdeal.τ).loc Cert.KernelDxnIdeal.main_arg3))
      ∧ r.2.sem = fun _ => 0)

def quiescent_ReferenceDxnIdeal [hReferenceDxnIdeal : Cert.ReferenceDxnIdeal.Facts] : Prop :=
  ∀ (m : (ℓ : Loc Cert.ReferenceDxnIdeal.nD Cert.ReferenceDxnIdeal.τ Cert.ReferenceDxnIdeal.sig) → Buf (Elt Ideal) ℓ) (g : Dev Cert.ReferenceDxnIdeal.nD → PrngReg), Pre_ReferenceDxnIdeal m →
    θ_run (Cert.ReferenceDxnIdeal.defs (F := Ideal)) (onTc (τ := Cert.ReferenceDxnIdeal.τ) (Cert.ReferenceDxnIdeal.main (F := Ideal))) ⟨m, fun _ => 0, g⟩ (fun r => (∀ c : Dev Cert.ReferenceDxnIdeal.nD,
      r.2.mem ((c.tc : Thread Cert.ReferenceDxnIdeal.nD Cert.ReferenceDxnIdeal.τ).loc Cert.ReferenceDxnIdeal.main_arg0) = m ((c.tc : Thread Cert.ReferenceDxnIdeal.nD Cert.ReferenceDxnIdeal.τ).loc Cert.ReferenceDxnIdeal.main_arg0)
      ∧ r.2.mem ((c.tc : Thread Cert.ReferenceDxnIdeal.nD Cert.ReferenceDxnIdeal.τ).loc Cert.ReferenceDxnIdeal.main_arg1) = m ((c.tc : Thread Cert.ReferenceDxnIdeal.nD Cert.ReferenceDxnIdeal.τ).loc Cert.ReferenceDxnIdeal.main_arg1)
      ∧ r.2.mem ((c.tc : Thread Cert.ReferenceDxnIdeal.nD Cert.ReferenceDxnIdeal.τ).loc Cert.ReferenceDxnIdeal.main_arg2) = m ((c.tc : Thread Cert.ReferenceDxnIdeal.nD Cert.ReferenceDxnIdeal.τ).loc Cert.ReferenceDxnIdeal.main_arg2)
      ∧ r.2.mem ((c.tc : Thread Cert.ReferenceDxnIdeal.nD Cert.ReferenceDxnIdeal.τ).loc Cert.ReferenceDxnIdeal.main_arg3) = m ((c.tc : Thread Cert.ReferenceDxnIdeal.nD Cert.ReferenceDxnIdeal.τ).loc Cert.ReferenceDxnIdeal.main_arg3))
      ∧ r.2.sem = fun _ => 0)

def quiescent_KernelDw2 [hKernelDw2 : Cert.KernelDw2.Facts] : Prop :=
  ∀ (m : (ℓ : Loc Cert.KernelDw2.nD Cert.KernelDw2.τ Cert.KernelDw2.sig) → Buf (Elt Bits) ℓ) (g : Dev Cert.KernelDw2.nD → PrngReg), Pre_KernelDw2 m →
    θ_run (Cert.KernelDw2.defs (F := Bits)) (onTc (τ := Cert.KernelDw2.τ) (Cert.KernelDw2.main (F := Bits))) ⟨m, fun _ => 0, g⟩ (fun r => (∀ c : Dev Cert.KernelDw2.nD,
      r.2.mem ((c.tc : Thread Cert.KernelDw2.nD Cert.KernelDw2.τ).loc Cert.KernelDw2.main_arg0) = m ((c.tc : Thread Cert.KernelDw2.nD Cert.KernelDw2.τ).loc Cert.KernelDw2.main_arg0)
      ∧ r.2.mem ((c.tc : Thread Cert.KernelDw2.nD Cert.KernelDw2.τ).loc Cert.KernelDw2.main_arg1) = m ((c.tc : Thread Cert.KernelDw2.nD Cert.KernelDw2.τ).loc Cert.KernelDw2.main_arg1)
      ∧ r.2.mem ((c.tc : Thread Cert.KernelDw2.nD Cert.KernelDw2.τ).loc Cert.KernelDw2.main_arg2) = m ((c.tc : Thread Cert.KernelDw2.nD Cert.KernelDw2.τ).loc Cert.KernelDw2.main_arg2)
      ∧ r.2.mem ((c.tc : Thread Cert.KernelDw2.nD Cert.KernelDw2.τ).loc Cert.KernelDw2.main_arg3) = m ((c.tc : Thread Cert.KernelDw2.nD Cert.KernelDw2.τ).loc Cert.KernelDw2.main_arg3))
      ∧ r.2.sem = fun _ => 0)

def quiescent_KernelDw2Ideal [hKernelDw2Ideal : Cert.KernelDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg), Pre_KernelDw2Ideal m →
    θ_run (Cert.KernelDw2Ideal.defs (F := Ideal)) (onTc (τ := Cert.KernelDw2Ideal.τ) (Cert.KernelDw2Ideal.main (F := Ideal))) ⟨m, fun _ => 0, g⟩ (fun r => (∀ c : Dev Cert.KernelDw2Ideal.nD,
      r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
      ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1)
      ∧ r.2.mem ((c.tc : Thread Cert.KernelDw2Ideal.nD Cert.KernelDw2Ideal.τ).loc Cert.KernelDw2Ideal.main_arg2) = m ((c.tc : Thread Cert.KernelDw2Ideal.nD Cert.KernelDw2Ideal.τ).loc Cert.KernelDw2Ideal.main_arg2)
      ∧ r.2.mem ((c.tc : Thread Cert.KernelDw2Ideal.nD Cert.KernelDw2Ideal.τ).loc Cert.KernelDw2Ideal.main_arg3) = m ((c.tc : Thread Cert.KernelDw2Ideal.nD Cert.KernelDw2Ideal.τ).loc Cert.KernelDw2Ideal.main_arg3))
      ∧ r.2.sem = fun _ => 0)

def quiescent_ReferenceDw2Ideal [hReferenceDw2Ideal : Cert.ReferenceDw2Ideal.Facts] : Prop :=
  ∀ (m : (ℓ : Loc Cert.ReferenceDw2Ideal.nD Cert.ReferenceDw2Ideal.τ Cert.ReferenceDw2Ideal.sig) → Buf (Elt Ideal) ℓ) (g : Dev Cert.ReferenceDw2Ideal.nD → PrngReg), Pre_ReferenceDw2Ideal m →
    θ_run (Cert.ReferenceDw2Ideal.defs (F := Ideal)) (onTc (τ := Cert.ReferenceDw2Ideal.τ) (Cert.ReferenceDw2Ideal.main (F := Ideal))) ⟨m, fun _ => 0, g⟩ (fun r => (∀ c : Dev Cert.ReferenceDw2Ideal.nD,
      r.2.mem ((c.tc : Thread Cert.ReferenceDw2Ideal.nD Cert.ReferenceDw2Ideal.τ).loc Cert.ReferenceDw2Ideal.main_arg0) = m ((c.tc : Thread Cert.ReferenceDw2Ideal.nD Cert.ReferenceDw2Ideal.τ).loc Cert.ReferenceDw2Ideal.main_arg0)
      ∧ r.2.mem ((c.tc : Thread Cert.ReferenceDw2Ideal.nD Cert.ReferenceDw2Ideal.τ).loc Cert.ReferenceDw2Ideal.main_arg1) = m ((c.tc : Thread Cert.ReferenceDw2Ideal.nD Cert.ReferenceDw2Ideal.τ).loc Cert.ReferenceDw2Ideal.main_arg1)
      ∧ r.2.mem ((c.tc : Thread Cert.ReferenceDw2Ideal.nD Cert.ReferenceDw2Ideal.τ).loc Cert.ReferenceDw2Ideal.main_arg2) = m ((c.tc : Thread Cert.ReferenceDw2Ideal.nD Cert.ReferenceDw2Ideal.τ).loc Cert.ReferenceDw2Ideal.main_arg2)
      ∧ r.2.mem ((c.tc : Thread Cert.ReferenceDw2Ideal.nD Cert.ReferenceDw2Ideal.τ).loc Cert.ReferenceDw2Ideal.main_arg3) = m ((c.tc : Thread Cert.ReferenceDw2Ideal.nD Cert.ReferenceDw2Ideal.τ).loc Cert.ReferenceDw2Ideal.main_arg3))
      ∧ r.2.sem = fun _ => 0)

def quiescent_KernelDw1 [hKernelDw1 : Cert.KernelDw1.Facts] : Prop :=
  ∀ (m : (ℓ : Loc Cert.KernelDw1.nD Cert.KernelDw1.τ Cert.KernelDw1.sig) → Buf (Elt Bits) ℓ) (g : Dev Cert.KernelDw1.nD → PrngReg), Pre_KernelDw1 m →
    θ_run (Cert.KernelDw1.defs (F := Bits)) (onTc (τ := Cert.KernelDw1.τ) (Cert.KernelDw1.main (F := Bits))) ⟨m, fun _ => 0, g⟩ (fun r => (∀ c : Dev Cert.KernelDw1.nD,
      r.2.mem ((c.tc : Thread Cert.KernelDw1.nD Cert.KernelDw1.τ).loc Cert.KernelDw1.main_arg0) = m ((c.tc : Thread Cert.KernelDw1.nD Cert.KernelDw1.τ).loc Cert.KernelDw1.main_arg0)
      ∧ r.2.mem ((c.tc : Thread Cert.KernelDw1.nD Cert.KernelDw1.τ).loc Cert.KernelDw1.main_arg1) = m ((c.tc : Thread Cert.KernelDw1.nD Cert.KernelDw1.τ).loc Cert.KernelDw1.main_arg1)
      ∧ r.2.mem ((c.tc : Thread Cert.KernelDw1.nD Cert.KernelDw1.τ).loc Cert.KernelDw1.main_arg2) = m ((c.tc : Thread Cert.KernelDw1.nD Cert.KernelDw1.τ).loc Cert.KernelDw1.main_arg2)
      ∧ r.2.mem ((c.tc : Thread Cert.KernelDw1.nD Cert.KernelDw1.τ).loc Cert.KernelDw1.main_arg3) = m ((c.tc : Thread Cert.KernelDw1.nD Cert.KernelDw1.τ).loc Cert.KernelDw1.main_arg3))
      ∧ r.2.sem = fun _ => 0)

def quiescent_KernelDw1Ideal [hKernelDw1Ideal : Cert.KernelDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg), Pre_KernelDw1Ideal m →
    θ_run (Cert.KernelDw1Ideal.defs (F := Ideal)) (onTc (τ := Cert.KernelDw1Ideal.τ) (Cert.KernelDw1Ideal.main (F := Ideal))) ⟨m, fun _ => 0, g⟩ (fun r => (∀ c : Dev Cert.KernelDw1Ideal.nD,
      r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
      ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1)
      ∧ r.2.mem ((c.tc : Thread Cert.KernelDw1Ideal.nD Cert.KernelDw1Ideal.τ).loc Cert.KernelDw1Ideal.main_arg2) = m ((c.tc : Thread Cert.KernelDw1Ideal.nD Cert.KernelDw1Ideal.τ).loc Cert.KernelDw1Ideal.main_arg2)
      ∧ r.2.mem ((c.tc : Thread Cert.KernelDw1Ideal.nD Cert.KernelDw1Ideal.τ).loc Cert.KernelDw1Ideal.main_arg3) = m ((c.tc : Thread Cert.KernelDw1Ideal.nD Cert.KernelDw1Ideal.τ).loc Cert.KernelDw1Ideal.main_arg3))
      ∧ r.2.sem = fun _ => 0)

def quiescent_ReferenceDw1Ideal [hReferenceDw1Ideal : Cert.ReferenceDw1Ideal.Facts] : Prop :=
  ∀ (m : (ℓ : Loc Cert.ReferenceDw1Ideal.nD Cert.ReferenceDw1Ideal.τ Cert.ReferenceDw1Ideal.sig) → Buf (Elt Ideal) ℓ) (g : Dev Cert.ReferenceDw1Ideal.nD → PrngReg), Pre_ReferenceDw1Ideal m →
    θ_run (Cert.ReferenceDw1Ideal.defs (F := Ideal)) (onTc (τ := Cert.ReferenceDw1Ideal.τ) (Cert.ReferenceDw1Ideal.main (F := Ideal))) ⟨m, fun _ => 0, g⟩ (fun r => (∀ c : Dev Cert.ReferenceDw1Ideal.nD,
      r.2.mem ((c.tc : Thread Cert.ReferenceDw1Ideal.nD Cert.ReferenceDw1Ideal.τ).loc Cert.ReferenceDw1Ideal.main_arg0) = m ((c.tc : Thread Cert.ReferenceDw1Ideal.nD Cert.ReferenceDw1Ideal.τ).loc Cert.ReferenceDw1Ideal.main_arg0)
      ∧ r.2.mem ((c.tc : Thread Cert.ReferenceDw1Ideal.nD Cert.ReferenceDw1Ideal.τ).loc Cert.ReferenceDw1Ideal.main_arg1) = m ((c.tc : Thread Cert.ReferenceDw1Ideal.nD Cert.ReferenceDw1Ideal.τ).loc Cert.ReferenceDw1Ideal.main_arg1)
      ∧ r.2.mem ((c.tc : Thread Cert.ReferenceDw1Ideal.nD Cert.ReferenceDw1Ideal.τ).loc Cert.ReferenceDw1Ideal.main_arg2) = m ((c.tc : Thread Cert.ReferenceDw1Ideal.nD Cert.ReferenceDw1Ideal.τ).loc Cert.ReferenceDw1Ideal.main_arg2)
      ∧ r.2.mem ((c.tc : Thread Cert.ReferenceDw1Ideal.nD Cert.ReferenceDw1Ideal.τ).loc Cert.ReferenceDw1Ideal.main_arg3) = m ((c.tc : Thread Cert.ReferenceDw1Ideal.nD Cert.ReferenceDw1Ideal.τ).loc Cert.ReferenceDw1Ideal.main_arg3))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelScalesW1 [hKernelScalesW1 : Cert.KernelScalesW1.Facts] : Prop :=
  ∀ (m : (ℓ : Loc Cert.KernelScalesW1.nD Cert.KernelScalesW1.τ Cert.KernelScalesW1.sig) → Buf (Elt Bits) ℓ) (g : Dev Cert.KernelScalesW1.nD → PrngReg), Pre_KernelScalesW1 m →
    θ_run (Cert.KernelScalesW1.defs (F := Bits)) (onTc (τ := Cert.KernelScalesW1.τ) (Cert.KernelScalesW1.main (F := Bits))) ⟨m, fun _ => 0, g⟩ (fun r => (∀ c : Dev Cert.KernelScalesW1.nD,
      r.2.mem ((c.tc : Thread Cert.KernelScalesW1.nD Cert.KernelScalesW1.τ).loc Cert.KernelScalesW1.main_arg0) = m ((c.tc : Thread Cert.KernelScalesW1.nD Cert.KernelScalesW1.τ).loc Cert.KernelScalesW1.main_arg0))
      ∧ r.2.sem = fun _ => 0)

def quiescent_KernelScalesW1Ideal [hKernelScalesW1Ideal : Cert.KernelScalesW1Ideal.Facts] : Prop :=
  ∀ (m : (ℓ : Loc Cert.KernelScalesW1Ideal.nD Cert.KernelScalesW1Ideal.τ Cert.KernelScalesW1Ideal.sig) → Buf (Elt Ideal) ℓ) (g : Dev Cert.KernelScalesW1Ideal.nD → PrngReg), Pre_KernelScalesW1Ideal m →
    θ_run (Cert.KernelScalesW1Ideal.defs (F := Ideal)) (onTc (τ := Cert.KernelScalesW1Ideal.τ) (Cert.KernelScalesW1Ideal.main (F := Ideal))) ⟨m, fun _ => 0, g⟩ (fun r => (∀ c : Dev Cert.KernelScalesW1Ideal.nD,
      r.2.mem ((c.tc : Thread Cert.KernelScalesW1Ideal.nD Cert.KernelScalesW1Ideal.τ).loc Cert.KernelScalesW1Ideal.main_arg0) = m ((c.tc : Thread Cert.KernelScalesW1Ideal.nD Cert.KernelScalesW1Ideal.τ).loc Cert.KernelScalesW1Ideal.main_arg0))
      ∧ r.2.sem = fun _ => 0)

def quiescent_ReferenceScalesW1Ideal [hReferenceScalesW1Ideal : Cert.ReferenceScalesW1Ideal.Facts] : Prop :=
  ∀ (m : (ℓ : Loc Cert.ReferenceScalesW1Ideal.nD Cert.ReferenceScalesW1Ideal.τ Cert.ReferenceScalesW1Ideal.sig) → Buf (Elt Ideal) ℓ) (g : Dev Cert.ReferenceScalesW1Ideal.nD → PrngReg), Pre_ReferenceScalesW1Ideal m →
    θ_run (Cert.ReferenceScalesW1Ideal.defs (F := Ideal)) (onTc (τ := Cert.ReferenceScalesW1Ideal.τ) (Cert.ReferenceScalesW1Ideal.main (F := Ideal))) ⟨m, fun _ => 0, g⟩ (fun r => (∀ c : Dev Cert.ReferenceScalesW1Ideal.nD,
      r.2.mem ((c.tc : Thread Cert.ReferenceScalesW1Ideal.nD Cert.ReferenceScalesW1Ideal.τ).loc Cert.ReferenceScalesW1Ideal.main_arg0) = m ((c.tc : Thread Cert.ReferenceScalesW1Ideal.nD Cert.ReferenceScalesW1Ideal.τ).loc Cert.ReferenceScalesW1Ideal.main_arg0))
      ∧ r.2.sem = fun _ => 0)

def quiescent_KernelScalesW2 [hKernelScalesW2 : Cert.KernelScalesW2.Facts] : Prop :=
  ∀ (m : (ℓ : Loc Cert.KernelScalesW2.nD Cert.KernelScalesW2.τ Cert.KernelScalesW2.sig) → Buf (Elt Bits) ℓ) (g : Dev Cert.KernelScalesW2.nD → PrngReg), Pre_KernelScalesW2 m →
    θ_run (Cert.KernelScalesW2.defs (F := Bits)) (onTc (τ := Cert.KernelScalesW2.τ) (Cert.KernelScalesW2.main (F := Bits))) ⟨m, fun _ => 0, g⟩ (fun r => (∀ c : Dev Cert.KernelScalesW2.nD,
      r.2.mem ((c.tc : Thread Cert.KernelScalesW2.nD Cert.KernelScalesW2.τ).loc Cert.KernelScalesW2.main_arg0) = m ((c.tc : Thread Cert.KernelScalesW2.nD Cert.KernelScalesW2.τ).loc Cert.KernelScalesW2.main_arg0))
      ∧ r.2.sem = fun _ => 0)

def quiescent_KernelScalesW2Ideal [hKernelScalesW2Ideal : Cert.KernelScalesW2Ideal.Facts] : Prop :=
  ∀ (m : (ℓ : Loc Cert.KernelScalesW2Ideal.nD Cert.KernelScalesW2Ideal.τ Cert.KernelScalesW2Ideal.sig) → Buf (Elt Ideal) ℓ) (g : Dev Cert.KernelScalesW2Ideal.nD → PrngReg), Pre_KernelScalesW2Ideal m →
    θ_run (Cert.KernelScalesW2Ideal.defs (F := Ideal)) (onTc (τ := Cert.KernelScalesW2Ideal.τ) (Cert.KernelScalesW2Ideal.main (F := Ideal))) ⟨m, fun _ => 0, g⟩ (fun r => (∀ c : Dev Cert.KernelScalesW2Ideal.nD,
      r.2.mem ((c.tc : Thread Cert.KernelScalesW2Ideal.nD Cert.KernelScalesW2Ideal.τ).loc Cert.KernelScalesW2Ideal.main_arg0) = m ((c.tc : Thread Cert.KernelScalesW2Ideal.nD Cert.KernelScalesW2Ideal.τ).loc Cert.KernelScalesW2Ideal.main_arg0))
      ∧ r.2.sem = fun _ => 0)

def quiescent_ReferenceScalesW2Ideal [hReferenceScalesW2Ideal : Cert.ReferenceScalesW2Ideal.Facts] : Prop :=
  ∀ (m : (ℓ : Loc Cert.ReferenceScalesW2Ideal.nD Cert.ReferenceScalesW2Ideal.τ Cert.ReferenceScalesW2Ideal.sig) → Buf (Elt Ideal) ℓ) (g : Dev Cert.ReferenceScalesW2Ideal.nD → PrngReg), Pre_ReferenceScalesW2Ideal m →
    θ_run (Cert.ReferenceScalesW2Ideal.defs (F := Ideal)) (onTc (τ := Cert.ReferenceScalesW2Ideal.τ) (Cert.ReferenceScalesW2Ideal.main (F := Ideal))) ⟨m, fun _ => 0, g⟩ (fun r => (∀ c : Dev Cert.ReferenceScalesW2Ideal.nD,
      r.2.mem ((c.tc : Thread Cert.ReferenceScalesW2Ideal.nD Cert.ReferenceScalesW2Ideal.τ).loc Cert.ReferenceScalesW2Ideal.main_arg0) = m ((c.tc : Thread Cert.ReferenceScalesW2Ideal.nD Cert.ReferenceScalesW2Ideal.τ).loc Cert.ReferenceScalesW2Ideal.main_arg0))
      ∧ r.2.sem = fun _ => 0)

def quiescent_KernelScalesC [hKernelScalesC : Cert.KernelScalesC.Facts] : Prop :=
  ∀ (m : (ℓ : Loc Cert.KernelScalesC.nD Cert.KernelScalesC.τ Cert.KernelScalesC.sig) → Buf (Elt Bits) ℓ) (g : Dev Cert.KernelScalesC.nD → PrngReg), Pre_KernelScalesC m →
    θ_run (Cert.KernelScalesC.defs (F := Bits)) (onTc (τ := Cert.KernelScalesC.τ) (Cert.KernelScalesC.main (F := Bits))) ⟨m, fun _ => 0, g⟩ (fun r => (∀ c : Dev Cert.KernelScalesC.nD,
      r.2.mem ((c.tc : Thread Cert.KernelScalesC.nD Cert.KernelScalesC.τ).loc Cert.KernelScalesC.main_arg0) = m ((c.tc : Thread Cert.KernelScalesC.nD Cert.KernelScalesC.τ).loc Cert.KernelScalesC.main_arg0)
      ∧ r.2.mem ((c.tc : Thread Cert.KernelScalesC.nD Cert.KernelScalesC.τ).loc Cert.KernelScalesC.main_arg1) = m ((c.tc : Thread Cert.KernelScalesC.nD Cert.KernelScalesC.τ).loc Cert.KernelScalesC.main_arg1))
      ∧ r.2.sem = fun _ => 0)

def quiescent_KernelScalesCIdeal [hKernelScalesCIdeal : Cert.KernelScalesCIdeal.Facts] : Prop :=
  ∀ (m : (ℓ : Loc Cert.KernelScalesCIdeal.nD Cert.KernelScalesCIdeal.τ Cert.KernelScalesCIdeal.sig) → Buf (Elt Ideal) ℓ) (g : Dev Cert.KernelScalesCIdeal.nD → PrngReg), Pre_KernelScalesCIdeal m →
    θ_run (Cert.KernelScalesCIdeal.defs (F := Ideal)) (onTc (τ := Cert.KernelScalesCIdeal.τ) (Cert.KernelScalesCIdeal.main (F := Ideal))) ⟨m, fun _ => 0, g⟩ (fun r => (∀ c : Dev Cert.KernelScalesCIdeal.nD,
      r.2.mem ((c.tc : Thread Cert.KernelScalesCIdeal.nD Cert.KernelScalesCIdeal.τ).loc Cert.KernelScalesCIdeal.main_arg0) = m ((c.tc : Thread Cert.KernelScalesCIdeal.nD Cert.KernelScalesCIdeal.τ).loc Cert.KernelScalesCIdeal.main_arg0)
      ∧ r.2.mem ((c.tc : Thread Cert.KernelScalesCIdeal.nD Cert.KernelScalesCIdeal.τ).loc Cert.KernelScalesCIdeal.main_arg1) = m ((c.tc : Thread Cert.KernelScalesCIdeal.nD Cert.KernelScalesCIdeal.τ).loc Cert.KernelScalesCIdeal.main_arg1))
      ∧ r.2.sem = fun _ => 0)

def quiescent_ReferenceScalesCIdeal [hReferenceScalesCIdeal : Cert.ReferenceScalesCIdeal.Facts] : Prop :=
  ∀ (m : (ℓ : Loc Cert.ReferenceScalesCIdeal.nD Cert.ReferenceScalesCIdeal.τ Cert.ReferenceScalesCIdeal.sig) → Buf (Elt Ideal) ℓ) (g : Dev Cert.ReferenceScalesCIdeal.nD → PrngReg), Pre_ReferenceScalesCIdeal m →
    θ_run (Cert.ReferenceScalesCIdeal.defs (F := Ideal)) (onTc (τ := Cert.ReferenceScalesCIdeal.τ) (Cert.ReferenceScalesCIdeal.main (F := Ideal))) ⟨m, fun _ => 0, g⟩ (fun r => (∀ c : Dev Cert.ReferenceScalesCIdeal.nD,
      r.2.mem ((c.tc : Thread Cert.ReferenceScalesCIdeal.nD Cert.ReferenceScalesCIdeal.τ).loc Cert.ReferenceScalesCIdeal.main_arg0) = m ((c.tc : Thread Cert.ReferenceScalesCIdeal.nD Cert.ReferenceScalesCIdeal.τ).loc Cert.ReferenceScalesCIdeal.main_arg0)
      ∧ r.2.mem ((c.tc : Thread Cert.ReferenceScalesCIdeal.nD Cert.ReferenceScalesCIdeal.τ).loc Cert.ReferenceScalesCIdeal.main_arg1) = m ((c.tc : Thread Cert.ReferenceScalesCIdeal.nD Cert.ReferenceScalesCIdeal.τ).loc Cert.ReferenceScalesCIdeal.main_arg1))
      ∧ r.2.sem = fun _ => 0)

def quiescent_KernelScalesR [hKernelScalesR : Cert.KernelScalesR.Facts] : Prop :=
  ∀ (m : (ℓ : Loc Cert.KernelScalesR.nD Cert.KernelScalesR.τ Cert.KernelScalesR.sig) → Buf (Elt Bits) ℓ) (g : Dev Cert.KernelScalesR.nD → PrngReg), Pre_KernelScalesR m →
    θ_run (Cert.KernelScalesR.defs (F := Bits)) (onTc (τ := Cert.KernelScalesR.τ) (Cert.KernelScalesR.main (F := Bits))) ⟨m, fun _ => 0, g⟩ (fun r => (∀ c : Dev Cert.KernelScalesR.nD,
      r.2.mem ((c.tc : Thread Cert.KernelScalesR.nD Cert.KernelScalesR.τ).loc Cert.KernelScalesR.main_arg0) = m ((c.tc : Thread Cert.KernelScalesR.nD Cert.KernelScalesR.τ).loc Cert.KernelScalesR.main_arg0)
      ∧ r.2.mem ((c.tc : Thread Cert.KernelScalesR.nD Cert.KernelScalesR.τ).loc Cert.KernelScalesR.main_arg1) = m ((c.tc : Thread Cert.KernelScalesR.nD Cert.KernelScalesR.τ).loc Cert.KernelScalesR.main_arg1))
      ∧ r.2.sem = fun _ => 0)

def quiescent_KernelScalesRIdeal [hKernelScalesRIdeal : Cert.KernelScalesRIdeal.Facts] : Prop :=
  ∀ (m : (ℓ : Loc Cert.KernelScalesRIdeal.nD Cert.KernelScalesRIdeal.τ Cert.KernelScalesRIdeal.sig) → Buf (Elt Ideal) ℓ) (g : Dev Cert.KernelScalesRIdeal.nD → PrngReg), Pre_KernelScalesRIdeal m →
    θ_run (Cert.KernelScalesRIdeal.defs (F := Ideal)) (onTc (τ := Cert.KernelScalesRIdeal.τ) (Cert.KernelScalesRIdeal.main (F := Ideal))) ⟨m, fun _ => 0, g⟩ (fun r => (∀ c : Dev Cert.KernelScalesRIdeal.nD,
      r.2.mem ((c.tc : Thread Cert.KernelScalesRIdeal.nD Cert.KernelScalesRIdeal.τ).loc Cert.KernelScalesRIdeal.main_arg0) = m ((c.tc : Thread Cert.KernelScalesRIdeal.nD Cert.KernelScalesRIdeal.τ).loc Cert.KernelScalesRIdeal.main_arg0)
      ∧ r.2.mem ((c.tc : Thread Cert.KernelScalesRIdeal.nD Cert.KernelScalesRIdeal.τ).loc Cert.KernelScalesRIdeal.main_arg1) = m ((c.tc : Thread Cert.KernelScalesRIdeal.nD Cert.KernelScalesRIdeal.τ).loc Cert.KernelScalesRIdeal.main_arg1))
      ∧ r.2.sem = fun _ => 0)

def quiescent_ReferenceScalesRIdeal [hReferenceScalesRIdeal : Cert.ReferenceScalesRIdeal.Facts] : Prop :=
  ∀ (m : (ℓ : Loc Cert.ReferenceScalesRIdeal.nD Cert.ReferenceScalesRIdeal.τ Cert.ReferenceScalesRIdeal.sig) → Buf (Elt Ideal) ℓ) (g : Dev Cert.ReferenceScalesRIdeal.nD → PrngReg), Pre_ReferenceScalesRIdeal m →
    θ_run (Cert.ReferenceScalesRIdeal.defs (F := Ideal)) (onTc (τ := Cert.ReferenceScalesRIdeal.τ) (Cert.ReferenceScalesRIdeal.main (F := Ideal))) ⟨m, fun _ => 0, g⟩ (fun r => (∀ c : Dev Cert.ReferenceScalesRIdeal.nD,
      r.2.mem ((c.tc : Thread Cert.ReferenceScalesRIdeal.nD Cert.ReferenceScalesRIdeal.τ).loc Cert.ReferenceScalesRIdeal.main_arg0) = m ((c.tc : Thread Cert.ReferenceScalesRIdeal.nD Cert.ReferenceScalesRIdeal.τ).loc Cert.ReferenceScalesRIdeal.main_arg0)
      ∧ r.2.mem ((c.tc : Thread Cert.ReferenceScalesRIdeal.nD Cert.ReferenceScalesRIdeal.τ).loc Cert.ReferenceScalesRIdeal.main_arg1) = m ((c.tc : Thread Cert.ReferenceScalesRIdeal.nD Cert.ReferenceScalesRIdeal.τ).loc Cert.ReferenceScalesRIdeal.main_arg1))
      ∧ r.2.sem = fun _ => 0)

def quiescent_KernelWmax1 [hKernelWmax1 : Cert.KernelWmax1.Facts] : Prop :=
  ∀ (m : (ℓ : Loc Cert.KernelWmax1.nD Cert.KernelWmax1.τ Cert.KernelWmax1.sig) → Buf (Elt Bits) ℓ) (g : Dev Cert.KernelWmax1.nD → PrngReg), Pre_KernelWmax1 m →
    θ_run (Cert.KernelWmax1.defs (F := Bits)) (onTc (τ := Cert.KernelWmax1.τ) (Cert.KernelWmax1.main (F := Bits))) ⟨m, fun _ => 0, g⟩ (fun r => (∀ c : Dev Cert.KernelWmax1.nD,
      r.2.mem ((c.tc : Thread Cert.KernelWmax1.nD Cert.KernelWmax1.τ).loc Cert.KernelWmax1.main_arg0) = m ((c.tc : Thread Cert.KernelWmax1.nD Cert.KernelWmax1.τ).loc Cert.KernelWmax1.main_arg0))
      ∧ r.2.sem = fun _ => 0)

def quiescent_KernelWmax1Ideal [hKernelWmax1Ideal : Cert.KernelWmax1Ideal.Facts] : Prop :=
  ∀ (m : (ℓ : Loc Cert.KernelWmax1Ideal.nD Cert.KernelWmax1Ideal.τ Cert.KernelWmax1Ideal.sig) → Buf (Elt Ideal) ℓ) (g : Dev Cert.KernelWmax1Ideal.nD → PrngReg), Pre_KernelWmax1Ideal m →
    θ_run (Cert.KernelWmax1Ideal.defs (F := Ideal)) (onTc (τ := Cert.KernelWmax1Ideal.τ) (Cert.KernelWmax1Ideal.main (F := Ideal))) ⟨m, fun _ => 0, g⟩ (fun r => (∀ c : Dev Cert.KernelWmax1Ideal.nD,
      r.2.mem ((c.tc : Thread Cert.KernelWmax1Ideal.nD Cert.KernelWmax1Ideal.τ).loc Cert.KernelWmax1Ideal.main_arg0) = m ((c.tc : Thread Cert.KernelWmax1Ideal.nD Cert.KernelWmax1Ideal.τ).loc Cert.KernelWmax1Ideal.main_arg0))
      ∧ r.2.sem = fun _ => 0)

def quiescent_ReferenceWmax1Ideal [hReferenceWmax1Ideal : Cert.ReferenceWmax1Ideal.Facts] : Prop :=
  ∀ (m : (ℓ : Loc Cert.ReferenceWmax1Ideal.nD Cert.ReferenceWmax1Ideal.τ Cert.ReferenceWmax1Ideal.sig) → Buf (Elt Ideal) ℓ) (g : Dev Cert.ReferenceWmax1Ideal.nD → PrngReg), Pre_ReferenceWmax1Ideal m →
    θ_run (Cert.ReferenceWmax1Ideal.defs (F := Ideal)) (onTc (τ := Cert.ReferenceWmax1Ideal.τ) (Cert.ReferenceWmax1Ideal.main (F := Ideal))) ⟨m, fun _ => 0, g⟩ (fun r => (∀ c : Dev Cert.ReferenceWmax1Ideal.nD,
      r.2.mem ((c.tc : Thread Cert.ReferenceWmax1Ideal.nD Cert.ReferenceWmax1Ideal.τ).loc Cert.ReferenceWmax1Ideal.main_arg0) = m ((c.tc : Thread Cert.ReferenceWmax1Ideal.nD Cert.ReferenceWmax1Ideal.τ).loc Cert.ReferenceWmax1Ideal.main_arg0))
      ∧ r.2.sem = fun _ => 0)

def quiescent_KernelWmax2 [hKernelWmax2 : Cert.KernelWmax2.Facts] : Prop :=
  ∀ (m : (ℓ : Loc Cert.KernelWmax2.nD Cert.KernelWmax2.τ Cert.KernelWmax2.sig) → Buf (Elt Bits) ℓ) (g : Dev Cert.KernelWmax2.nD → PrngReg), Pre_KernelWmax2 m →
    θ_run (Cert.KernelWmax2.defs (F := Bits)) (onTc (τ := Cert.KernelWmax2.τ) (Cert.KernelWmax2.main (F := Bits))) ⟨m, fun _ => 0, g⟩ (fun r => (∀ c : Dev Cert.KernelWmax2.nD,
      r.2.mem ((c.tc : Thread Cert.KernelWmax2.nD Cert.KernelWmax2.τ).loc Cert.KernelWmax2.main_arg0) = m ((c.tc : Thread Cert.KernelWmax2.nD Cert.KernelWmax2.τ).loc Cert.KernelWmax2.main_arg0))
      ∧ r.2.sem = fun _ => 0)

def quiescent_KernelWmax2Ideal [hKernelWmax2Ideal : Cert.KernelWmax2Ideal.Facts] : Prop :=
  ∀ (m : (ℓ : Loc Cert.KernelWmax2Ideal.nD Cert.KernelWmax2Ideal.τ Cert.KernelWmax2Ideal.sig) → Buf (Elt Ideal) ℓ) (g : Dev Cert.KernelWmax2Ideal.nD → PrngReg), Pre_KernelWmax2Ideal m →
    θ_run (Cert.KernelWmax2Ideal.defs (F := Ideal)) (onTc (τ := Cert.KernelWmax2Ideal.τ) (Cert.KernelWmax2Ideal.main (F := Ideal))) ⟨m, fun _ => 0, g⟩ (fun r => (∀ c : Dev Cert.KernelWmax2Ideal.nD,
      r.2.mem ((c.tc : Thread Cert.KernelWmax2Ideal.nD Cert.KernelWmax2Ideal.τ).loc Cert.KernelWmax2Ideal.main_arg0) = m ((c.tc : Thread Cert.KernelWmax2Ideal.nD Cert.KernelWmax2Ideal.τ).loc Cert.KernelWmax2Ideal.main_arg0))
      ∧ r.2.sem = fun _ => 0)

def quiescent_ReferenceWmax2Ideal [hReferenceWmax2Ideal : Cert.ReferenceWmax2Ideal.Facts] : Prop :=
  ∀ (m : (ℓ : Loc Cert.ReferenceWmax2Ideal.nD Cert.ReferenceWmax2Ideal.τ Cert.ReferenceWmax2Ideal.sig) → Buf (Elt Ideal) ℓ) (g : Dev Cert.ReferenceWmax2Ideal.nD → PrngReg), Pre_ReferenceWmax2Ideal m →
    θ_run (Cert.ReferenceWmax2Ideal.defs (F := Ideal)) (onTc (τ := Cert.ReferenceWmax2Ideal.τ) (Cert.ReferenceWmax2Ideal.main (F := Ideal))) ⟨m, fun _ => 0, g⟩ (fun r => (∀ c : Dev Cert.ReferenceWmax2Ideal.nD,
      r.2.mem ((c.tc : Thread Cert.ReferenceWmax2Ideal.nD Cert.ReferenceWmax2Ideal.τ).loc Cert.ReferenceWmax2Ideal.main_arg0) = m ((c.tc : Thread Cert.ReferenceWmax2Ideal.nD Cert.ReferenceWmax2Ideal.τ).loc Cert.ReferenceWmax2Ideal.main_arg0))
      ∧ r.2.sem = fun _ => 0)

def preserves_KernelH_KernelHIdeal : Prop :=
  True

def algebraic_KernelHIdeal_ReferenceHIdeal [hKernelHIdeal : Cert.KernelHIdeal.Facts] [hReferenceHIdeal : Cert.ReferenceHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg)
    (m' : (ℓ : Loc Cert.ReferenceHIdeal.nD Cert.ReferenceHIdeal.τ Cert.ReferenceHIdeal.sig) → Buf (Elt Ideal) ℓ) (g' : Dev Cert.ReferenceHIdeal.nD → PrngReg), Pre_KernelHIdeal m →
    (∀ c : Dev Cert.KernelHIdeal.nD,
      m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
      ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)
      ∧ m' ((c.tc : Thread Cert.ReferenceHIdeal.nD Cert.ReferenceHIdeal.τ).loc Cert.ReferenceHIdeal.main_arg2) = m ((c.tc : Thread Cert.KernelHIdeal.nD Cert.KernelHIdeal.τ).loc Cert.KernelHIdeal.main_arg2)
      ∧ m' ((c.tc : Thread Cert.ReferenceHIdeal.nD Cert.ReferenceHIdeal.τ).loc Cert.ReferenceHIdeal.main_arg3) = m ((c.tc : Thread Cert.KernelHIdeal.nD Cert.KernelHIdeal.τ).loc Cert.KernelHIdeal.main_arg3)) →
    ∃ (v0 : (c : Dev Cert.KernelHIdeal.nD) → Buf (Elt Ideal) ((c.tc : Thread Cert.KernelHIdeal.nD Cert.KernelHIdeal.τ).loc Cert.KernelHIdeal.main_v2)),
      θ_run (Cert.KernelHIdeal.defs (F := Ideal)) (onTc (τ := Cert.KernelHIdeal.τ) (Cert.KernelHIdeal.main (F := Ideal))) ⟨m, fun _ => 0, g⟩ (fun r => ∀ c : Dev Cert.KernelHIdeal.nD,
          r.2.mem ((c.tc : Thread Cert.KernelHIdeal.nD Cert.KernelHIdeal.τ).loc Cert.KernelHIdeal.main_v2) = v0 c
          ∧ r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
          ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
          ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
          ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3))
      ∧ θ_run (Cert.ReferenceHIdeal.defs (F := Ideal)) (onTc (τ := Cert.ReferenceHIdeal.τ) (Cert.ReferenceHIdeal.main (F := Ideal))) ⟨m', fun _ => 0, g'⟩ (fun r => ∀ c : Dev Cert.ReferenceHIdeal.nD,
          r.2.mem ((c.tc : Thread Cert.ReferenceHIdeal.nD Cert.ReferenceHIdeal.τ).loc Cert.ReferenceHIdeal.main_v6) = v0 c
          ∧ r.2.mem ((c.tc : Thread Cert.ReferenceHIdeal.nD Cert.ReferenceHIdeal.τ).loc Cert.ReferenceHIdeal.main_arg0) = m' ((c.tc : Thread Cert.ReferenceHIdeal.nD Cert.ReferenceHIdeal.τ).loc Cert.ReferenceHIdeal.main_arg0)
          ∧ r.2.mem ((c.tc : Thread Cert.ReferenceHIdeal.nD Cert.ReferenceHIdeal.τ).loc Cert.ReferenceHIdeal.main_arg1) = m' ((c.tc : Thread Cert.ReferenceHIdeal.nD Cert.ReferenceHIdeal.τ).loc Cert.ReferenceHIdeal.main_arg1)
          ∧ r.2.mem ((c.tc : Thread Cert.ReferenceHIdeal.nD Cert.ReferenceHIdeal.τ).loc Cert.ReferenceHIdeal.main_arg2) = m' ((c.tc : Thread Cert.ReferenceHIdeal.nD Cert.ReferenceHIdeal.τ).loc Cert.ReferenceHIdeal.main_arg2)
          ∧ r.2.mem ((c.tc : Thread Cert.ReferenceHIdeal.nD Cert.ReferenceHIdeal.τ).loc Cert.ReferenceHIdeal.main_arg3) = m' ((c.tc : Thread Cert.ReferenceHIdeal.nD Cert.ReferenceHIdeal.τ).loc Cert.ReferenceHIdeal.main_arg3))

def preserves_KernelDa_KernelDaIdeal : Prop :=
  True

def algebraic_KernelDaIdeal_ReferenceDaIdeal [hKernelDaIdeal : Cert.KernelDaIdeal.Facts] [hReferenceDaIdeal : Cert.ReferenceDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg)
    (m' : (ℓ : Loc Cert.ReferenceDaIdeal.nD Cert.ReferenceDaIdeal.τ Cert.ReferenceDaIdeal.sig) → Buf (Elt Ideal) ℓ) (g' : Dev Cert.ReferenceDaIdeal.nD → PrngReg), Pre_KernelDaIdeal m →
    (∀ c : Dev Cert.KernelDaIdeal.nD,
      m' ((c.tc : Thread Cert.ReferenceDaIdeal.nD Cert.ReferenceDaIdeal.τ).loc Cert.ReferenceDaIdeal.main_arg0) = m ((c.tc : Thread Cert.KernelDaIdeal.nD Cert.KernelDaIdeal.τ).loc Cert.KernelDaIdeal.main_arg0)
      ∧ m' ((c.tc : Thread Cert.ReferenceDaIdeal.nD Cert.ReferenceDaIdeal.τ).loc Cert.ReferenceDaIdeal.main_arg1) = m ((c.tc : Thread Cert.KernelDaIdeal.nD Cert.KernelDaIdeal.τ).loc Cert.KernelDaIdeal.main_arg1)
      ∧ m' ((c.tc : Thread Cert.ReferenceDaIdeal.nD Cert.ReferenceDaIdeal.τ).loc Cert.ReferenceDaIdeal.main_arg2) = m ((c.tc : Thread Cert.KernelDaIdeal.nD Cert.KernelDaIdeal.τ).loc Cert.KernelDaIdeal.main_arg2)
      ∧ m' ((c.tc : Thread Cert.ReferenceDaIdeal.nD Cert.ReferenceDaIdeal.τ).loc Cert.ReferenceDaIdeal.main_arg3) = m ((c.tc : Thread Cert.KernelDaIdeal.nD Cert.KernelDaIdeal.τ).loc Cert.KernelDaIdeal.main_arg3)
      ∧ m' ((c.tc : Thread Cert.ReferenceDaIdeal.nD Cert.ReferenceDaIdeal.τ).loc Cert.ReferenceDaIdeal.main_arg4) = m ((c.tc : Thread Cert.KernelDaIdeal.nD Cert.KernelDaIdeal.τ).loc Cert.KernelDaIdeal.main_arg4)) →
    ∃ (v0 : (c : Dev Cert.KernelDaIdeal.nD) → Buf (Elt Ideal) ((c.tc : Thread Cert.KernelDaIdeal.nD Cert.KernelDaIdeal.τ).loc Cert.KernelDaIdeal.main_v2)),
      θ_run (Cert.KernelDaIdeal.defs (F := Ideal)) (onTc (τ := Cert.KernelDaIdeal.τ) (Cert.KernelDaIdeal.main (F := Ideal))) ⟨m, fun _ => 0, g⟩ (fun r => ∀ c : Dev Cert.KernelDaIdeal.nD,
          r.2.mem ((c.tc : Thread Cert.KernelDaIdeal.nD Cert.KernelDaIdeal.τ).loc Cert.KernelDaIdeal.main_v2) = v0 c
          ∧ r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
          ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
          ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2)
          ∧ r.2.mem ((c.tc : Thread Cert.KernelDaIdeal.nD Cert.KernelDaIdeal.τ).loc Cert.KernelDaIdeal.main_arg3) = m ((c.tc : Thread Cert.KernelDaIdeal.nD Cert.KernelDaIdeal.τ).loc Cert.KernelDaIdeal.main_arg3)
          ∧ r.2.mem ((c.tc : Thread Cert.KernelDaIdeal.nD Cert.KernelDaIdeal.τ).loc Cert.KernelDaIdeal.main_arg4) = m ((c.tc : Thread Cert.KernelDaIdeal.nD Cert.KernelDaIdeal.τ).loc Cert.KernelDaIdeal.main_arg4))
      ∧ θ_run (Cert.ReferenceDaIdeal.defs (F := Ideal)) (onTc (τ := Cert.ReferenceDaIdeal.τ) (Cert.ReferenceDaIdeal.main (F := Ideal))) ⟨m', fun _ => 0, g'⟩ (fun r => ∀ c : Dev Cert.ReferenceDaIdeal.nD,
          r.2.mem ((c.tc : Thread Cert.ReferenceDaIdeal.nD Cert.ReferenceDaIdeal.τ).loc Cert.ReferenceDaIdeal.main_v8) = v0 c
          ∧ r.2.mem ((c.tc : Thread Cert.ReferenceDaIdeal.nD Cert.ReferenceDaIdeal.τ).loc Cert.ReferenceDaIdeal.main_arg0) = m' ((c.tc : Thread Cert.ReferenceDaIdeal.nD Cert.ReferenceDaIdeal.τ).loc Cert.ReferenceDaIdeal.main_arg0)
          ∧ r.2.mem ((c.tc : Thread Cert.ReferenceDaIdeal.nD Cert.ReferenceDaIdeal.τ).loc Cert.ReferenceDaIdeal.main_arg1) = m' ((c.tc : Thread Cert.ReferenceDaIdeal.nD Cert.ReferenceDaIdeal.τ).loc Cert.ReferenceDaIdeal.main_arg1)
          ∧ r.2.mem ((c.tc : Thread Cert.ReferenceDaIdeal.nD Cert.ReferenceDaIdeal.τ).loc Cert.ReferenceDaIdeal.main_arg2) = m' ((c.tc : Thread Cert.ReferenceDaIdeal.nD Cert.ReferenceDaIdeal.τ).loc Cert.ReferenceDaIdeal.main_arg2)
          ∧ r.2.mem ((c.tc : Thread Cert.ReferenceDaIdeal.nD Cert.ReferenceDaIdeal.τ).loc Cert.ReferenceDaIdeal.main_arg3) = m' ((c.tc : Thread Cert.ReferenceDaIdeal.nD Cert.ReferenceDaIdeal.τ).loc Cert.ReferenceDaIdeal.main_arg3)
          ∧ r.2.mem ((c.tc : Thread Cert.ReferenceDaIdeal.nD Cert.ReferenceDaIdeal.τ).loc Cert.ReferenceDaIdeal.main_arg4) = m' ((c.tc : Thread Cert.ReferenceDaIdeal.nD Cert.ReferenceDaIdeal.τ).loc Cert.ReferenceDaIdeal.main_arg4))

def preserves_KernelY_KernelYIdeal : Prop :=
  True

def algebraic_KernelYIdeal_ReferenceYIdeal [hKernelYIdeal : Cert.KernelYIdeal.Facts] [hReferenceYIdeal : Cert.ReferenceYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)
      ∧ m' ((c.tc : Thread Cert.ReferenceYIdeal.nD Cert.ReferenceYIdeal.τ).loc Cert.ReferenceYIdeal.main_arg2) = m ((c.tc : Thread Cert.KernelYIdeal.nD Cert.KernelYIdeal.τ).loc Cert.KernelYIdeal.main_arg2)
      ∧ m' ((c.tc : Thread Cert.ReferenceYIdeal.nD Cert.ReferenceYIdeal.τ).loc Cert.ReferenceYIdeal.main_arg3) = m ((c.tc : Thread Cert.KernelYIdeal.nD Cert.KernelYIdeal.τ).loc Cert.KernelYIdeal.main_arg3)) →
    ∃ (v0 : (c : Dev Cert.KernelYIdeal.nD) → Buf (Elt Ideal) ((c.tc : Thread Cert.KernelYIdeal.nD Cert.KernelYIdeal.τ).loc Cert.KernelYIdeal.main_v2)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v2) = v0 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
          ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
          ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v4) = v0 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1)
          ∧ r.2.mem ((c.tc : Thread Cert.ReferenceYIdeal.nD Cert.ReferenceYIdeal.τ).loc Cert.ReferenceYIdeal.main_arg2) = m' ((c.tc : Thread Cert.ReferenceYIdeal.nD Cert.ReferenceYIdeal.τ).loc Cert.ReferenceYIdeal.main_arg2)
          ∧ r.2.mem ((c.tc : Thread Cert.ReferenceYIdeal.nD Cert.ReferenceYIdeal.τ).loc Cert.ReferenceYIdeal.main_arg3) = m' ((c.tc : Thread Cert.ReferenceYIdeal.nD Cert.ReferenceYIdeal.τ).loc Cert.ReferenceYIdeal.main_arg3))

def preserves_KernelDxn_KernelDxnIdeal : Prop :=
  True

def algebraic_KernelDxnIdeal_ReferenceDxnIdeal [hKernelDxnIdeal : Cert.KernelDxnIdeal.Facts] [hReferenceDxnIdeal : Cert.ReferenceDxnIdeal.Facts] : Prop :=
  ∀ (m : (ℓ : Loc Cert.KernelDxnIdeal.nD Cert.KernelDxnIdeal.τ Cert.KernelDxnIdeal.sig) → Buf (Elt Ideal) ℓ) (g : Dev Cert.KernelDxnIdeal.nD → PrngReg)
    (m' : (ℓ : Loc Cert.ReferenceDxnIdeal.nD Cert.ReferenceDxnIdeal.τ Cert.ReferenceDxnIdeal.sig) → Buf (Elt Ideal) ℓ) (g' : Dev Cert.ReferenceDxnIdeal.nD → PrngReg), Pre_KernelDxnIdeal m →
    (∀ c : Dev Cert.KernelDxnIdeal.nD,
      m' ((c.tc : Thread Cert.ReferenceDxnIdeal.nD Cert.ReferenceDxnIdeal.τ).loc Cert.ReferenceDxnIdeal.main_arg0) = m ((c.tc : Thread Cert.KernelDxnIdeal.nD Cert.KernelDxnIdeal.τ).loc Cert.KernelDxnIdeal.main_arg0)
      ∧ m' ((c.tc : Thread Cert.ReferenceDxnIdeal.nD Cert.ReferenceDxnIdeal.τ).loc Cert.ReferenceDxnIdeal.main_arg1) = m ((c.tc : Thread Cert.KernelDxnIdeal.nD Cert.KernelDxnIdeal.τ).loc Cert.KernelDxnIdeal.main_arg1)
      ∧ m' ((c.tc : Thread Cert.ReferenceDxnIdeal.nD Cert.ReferenceDxnIdeal.τ).loc Cert.ReferenceDxnIdeal.main_arg2) = m ((c.tc : Thread Cert.KernelDxnIdeal.nD Cert.KernelDxnIdeal.τ).loc Cert.KernelDxnIdeal.main_arg2)
      ∧ m' ((c.tc : Thread Cert.ReferenceDxnIdeal.nD Cert.ReferenceDxnIdeal.τ).loc Cert.ReferenceDxnIdeal.main_arg3) = m ((c.tc : Thread Cert.KernelDxnIdeal.nD Cert.KernelDxnIdeal.τ).loc Cert.KernelDxnIdeal.main_arg3)) →
    ∃ (v0 : (c : Dev Cert.KernelDxnIdeal.nD) → Buf (Elt Ideal) ((c.tc : Thread Cert.KernelDxnIdeal.nD Cert.KernelDxnIdeal.τ).loc Cert.KernelDxnIdeal.main_v2)),
      θ_run (Cert.KernelDxnIdeal.defs (F := Ideal)) (onTc (τ := Cert.KernelDxnIdeal.τ) (Cert.KernelDxnIdeal.main (F := Ideal))) ⟨m, fun _ => 0, g⟩ (fun r => ∀ c : Dev Cert.KernelDxnIdeal.nD,
          r.2.mem ((c.tc : Thread Cert.KernelDxnIdeal.nD Cert.KernelDxnIdeal.τ).loc Cert.KernelDxnIdeal.main_v2) = v0 c
          ∧ r.2.mem ((c.tc : Thread Cert.KernelDxnIdeal.nD Cert.KernelDxnIdeal.τ).loc Cert.KernelDxnIdeal.main_arg0) = m ((c.tc : Thread Cert.KernelDxnIdeal.nD Cert.KernelDxnIdeal.τ).loc Cert.KernelDxnIdeal.main_arg0)
          ∧ r.2.mem ((c.tc : Thread Cert.KernelDxnIdeal.nD Cert.KernelDxnIdeal.τ).loc Cert.KernelDxnIdeal.main_arg1) = m ((c.tc : Thread Cert.KernelDxnIdeal.nD Cert.KernelDxnIdeal.τ).loc Cert.KernelDxnIdeal.main_arg1)
          ∧ r.2.mem ((c.tc : Thread Cert.KernelDxnIdeal.nD Cert.KernelDxnIdeal.τ).loc Cert.KernelDxnIdeal.main_arg2) = m ((c.tc : Thread Cert.KernelDxnIdeal.nD Cert.KernelDxnIdeal.τ).loc Cert.KernelDxnIdeal.main_arg2)
          ∧ r.2.mem ((c.tc : Thread Cert.KernelDxnIdeal.nD Cert.KernelDxnIdeal.τ).loc Cert.KernelDxnIdeal.main_arg3) = m ((c.tc : Thread Cert.KernelDxnIdeal.nD Cert.KernelDxnIdeal.τ).loc Cert.KernelDxnIdeal.main_arg3))
      ∧ θ_run (Cert.ReferenceDxnIdeal.defs (F := Ideal)) (onTc (τ := Cert.ReferenceDxnIdeal.τ) (Cert.ReferenceDxnIdeal.main (F := Ideal))) ⟨m', fun _ => 0, g'⟩ (fun r => ∀ c : Dev Cert.ReferenceDxnIdeal.nD,
          r.2.mem ((c.tc : Thread Cert.ReferenceDxnIdeal.nD Cert.ReferenceDxnIdeal.τ).loc Cert.ReferenceDxnIdeal.main_v3) = v0 c
          ∧ r.2.mem ((c.tc : Thread Cert.ReferenceDxnIdeal.nD Cert.ReferenceDxnIdeal.τ).loc Cert.ReferenceDxnIdeal.main_arg0) = m' ((c.tc : Thread Cert.ReferenceDxnIdeal.nD Cert.ReferenceDxnIdeal.τ).loc Cert.ReferenceDxnIdeal.main_arg0)
          ∧ r.2.mem ((c.tc : Thread Cert.ReferenceDxnIdeal.nD Cert.ReferenceDxnIdeal.τ).loc Cert.ReferenceDxnIdeal.main_arg1) = m' ((c.tc : Thread Cert.ReferenceDxnIdeal.nD Cert.ReferenceDxnIdeal.τ).loc Cert.ReferenceDxnIdeal.main_arg1)
          ∧ r.2.mem ((c.tc : Thread Cert.ReferenceDxnIdeal.nD Cert.ReferenceDxnIdeal.τ).loc Cert.ReferenceDxnIdeal.main_arg2) = m' ((c.tc : Thread Cert.ReferenceDxnIdeal.nD Cert.ReferenceDxnIdeal.τ).loc Cert.ReferenceDxnIdeal.main_arg2)
          ∧ r.2.mem ((c.tc : Thread Cert.ReferenceDxnIdeal.nD Cert.ReferenceDxnIdeal.τ).loc Cert.ReferenceDxnIdeal.main_arg3) = m' ((c.tc : Thread Cert.ReferenceDxnIdeal.nD Cert.ReferenceDxnIdeal.τ).loc Cert.ReferenceDxnIdeal.main_arg3))

def preserves_KernelDw2_KernelDw2Ideal : Prop :=
  True

def algebraic_KernelDw2Ideal_ReferenceDw2Ideal [hKernelDw2Ideal : Cert.KernelDw2Ideal.Facts] [hReferenceDw2Ideal : Cert.ReferenceDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg)
    (m' : (ℓ : Loc Cert.ReferenceDw2Ideal.nD Cert.ReferenceDw2Ideal.τ Cert.ReferenceDw2Ideal.sig) → Buf (Elt Ideal) ℓ) (g' : Dev Cert.ReferenceDw2Ideal.nD → PrngReg), Pre_KernelDw2Ideal m →
    (∀ c : Dev Cert.KernelDw2Ideal.nD,
      m' ((c.tc : Thread Cert.ReferenceDw2Ideal.nD Cert.ReferenceDw2Ideal.τ).loc Cert.ReferenceDw2Ideal.main_arg0) = m ((c.tc : Thread Cert.KernelDw2Ideal.nD Cert.KernelDw2Ideal.τ).loc Cert.KernelDw2Ideal.main_arg0)
      ∧ m' ((c.tc : Thread Cert.ReferenceDw2Ideal.nD Cert.ReferenceDw2Ideal.τ).loc Cert.ReferenceDw2Ideal.main_arg1) = m ((c.tc : Thread Cert.KernelDw2Ideal.nD Cert.KernelDw2Ideal.τ).loc Cert.KernelDw2Ideal.main_arg1)
      ∧ m' ((c.tc : Thread Cert.ReferenceDw2Ideal.nD Cert.ReferenceDw2Ideal.τ).loc Cert.ReferenceDw2Ideal.main_arg2) = m ((c.tc : Thread Cert.KernelDw2Ideal.nD Cert.KernelDw2Ideal.τ).loc Cert.KernelDw2Ideal.main_arg2)
      ∧ m' ((c.tc : Thread Cert.ReferenceDw2Ideal.nD Cert.ReferenceDw2Ideal.τ).loc Cert.ReferenceDw2Ideal.main_arg3) = m ((c.tc : Thread Cert.KernelDw2Ideal.nD Cert.KernelDw2Ideal.τ).loc Cert.KernelDw2Ideal.main_arg3)) →
    ∃ (v0 : (c : Dev Cert.KernelDw2Ideal.nD) → Buf (Elt Ideal) ((c.tc : Thread Cert.KernelDw2Ideal.nD Cert.KernelDw2Ideal.τ).loc Cert.KernelDw2Ideal.main_v2)),
      θ_run (Cert.KernelDw2Ideal.defs (F := Ideal)) (onTc (τ := Cert.KernelDw2Ideal.τ) (Cert.KernelDw2Ideal.main (F := Ideal))) ⟨m, fun _ => 0, g⟩ (fun r => ∀ c : Dev Cert.KernelDw2Ideal.nD,
          r.2.mem ((c.tc : Thread Cert.KernelDw2Ideal.nD Cert.KernelDw2Ideal.τ).loc Cert.KernelDw2Ideal.main_v2) = v0 c
          ∧ r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
          ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1)
          ∧ r.2.mem ((c.tc : Thread Cert.KernelDw2Ideal.nD Cert.KernelDw2Ideal.τ).loc Cert.KernelDw2Ideal.main_arg2) = m ((c.tc : Thread Cert.KernelDw2Ideal.nD Cert.KernelDw2Ideal.τ).loc Cert.KernelDw2Ideal.main_arg2)
          ∧ r.2.mem ((c.tc : Thread Cert.KernelDw2Ideal.nD Cert.KernelDw2Ideal.τ).loc Cert.KernelDw2Ideal.main_arg3) = m ((c.tc : Thread Cert.KernelDw2Ideal.nD Cert.KernelDw2Ideal.τ).loc Cert.KernelDw2Ideal.main_arg3))
      ∧ θ_run (Cert.ReferenceDw2Ideal.defs (F := Ideal)) (onTc (τ := Cert.ReferenceDw2Ideal.τ) (Cert.ReferenceDw2Ideal.main (F := Ideal))) ⟨m', fun _ => 0, g'⟩ (fun r => ∀ c : Dev Cert.ReferenceDw2Ideal.nD,
          r.2.mem ((c.tc : Thread Cert.ReferenceDw2Ideal.nD Cert.ReferenceDw2Ideal.τ).loc Cert.ReferenceDw2Ideal.main_v4) = v0 c
          ∧ r.2.mem ((c.tc : Thread Cert.ReferenceDw2Ideal.nD Cert.ReferenceDw2Ideal.τ).loc Cert.ReferenceDw2Ideal.main_arg0) = m' ((c.tc : Thread Cert.ReferenceDw2Ideal.nD Cert.ReferenceDw2Ideal.τ).loc Cert.ReferenceDw2Ideal.main_arg0)
          ∧ r.2.mem ((c.tc : Thread Cert.ReferenceDw2Ideal.nD Cert.ReferenceDw2Ideal.τ).loc Cert.ReferenceDw2Ideal.main_arg1) = m' ((c.tc : Thread Cert.ReferenceDw2Ideal.nD Cert.ReferenceDw2Ideal.τ).loc Cert.ReferenceDw2Ideal.main_arg1)
          ∧ r.2.mem ((c.tc : Thread Cert.ReferenceDw2Ideal.nD Cert.ReferenceDw2Ideal.τ).loc Cert.ReferenceDw2Ideal.main_arg2) = m' ((c.tc : Thread Cert.ReferenceDw2Ideal.nD Cert.ReferenceDw2Ideal.τ).loc Cert.ReferenceDw2Ideal.main_arg2)
          ∧ r.2.mem ((c.tc : Thread Cert.ReferenceDw2Ideal.nD Cert.ReferenceDw2Ideal.τ).loc Cert.ReferenceDw2Ideal.main_arg3) = m' ((c.tc : Thread Cert.ReferenceDw2Ideal.nD Cert.ReferenceDw2Ideal.τ).loc Cert.ReferenceDw2Ideal.main_arg3))

def preserves_KernelDw1_KernelDw1Ideal : Prop :=
  True

def algebraic_KernelDw1Ideal_ReferenceDw1Ideal [hKernelDw1Ideal : Cert.KernelDw1Ideal.Facts] [hReferenceDw1Ideal : Cert.ReferenceDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg)
    (m' : (ℓ : Loc Cert.ReferenceDw1Ideal.nD Cert.ReferenceDw1Ideal.τ Cert.ReferenceDw1Ideal.sig) → Buf (Elt Ideal) ℓ) (g' : Dev Cert.ReferenceDw1Ideal.nD → PrngReg), Pre_KernelDw1Ideal m →
    (∀ c : Dev Cert.KernelDw1Ideal.nD,
      m' ((c.tc : Thread Cert.ReferenceDw1Ideal.nD Cert.ReferenceDw1Ideal.τ).loc Cert.ReferenceDw1Ideal.main_arg0) = m ((c.tc : Thread Cert.KernelDw1Ideal.nD Cert.KernelDw1Ideal.τ).loc Cert.KernelDw1Ideal.main_arg0)
      ∧ m' ((c.tc : Thread Cert.ReferenceDw1Ideal.nD Cert.ReferenceDw1Ideal.τ).loc Cert.ReferenceDw1Ideal.main_arg1) = m ((c.tc : Thread Cert.KernelDw1Ideal.nD Cert.KernelDw1Ideal.τ).loc Cert.KernelDw1Ideal.main_arg1)
      ∧ m' ((c.tc : Thread Cert.ReferenceDw1Ideal.nD Cert.ReferenceDw1Ideal.τ).loc Cert.ReferenceDw1Ideal.main_arg2) = m ((c.tc : Thread Cert.KernelDw1Ideal.nD Cert.KernelDw1Ideal.τ).loc Cert.KernelDw1Ideal.main_arg2)
      ∧ m' ((c.tc : Thread Cert.ReferenceDw1Ideal.nD Cert.ReferenceDw1Ideal.τ).loc Cert.ReferenceDw1Ideal.main_arg3) = m ((c.tc : Thread Cert.KernelDw1Ideal.nD Cert.KernelDw1Ideal.τ).loc Cert.KernelDw1Ideal.main_arg3)) →
    ∃ (v0 : (c : Dev Cert.KernelDw1Ideal.nD) → Buf (Elt Ideal) ((c.tc : Thread Cert.KernelDw1Ideal.nD Cert.KernelDw1Ideal.τ).loc Cert.KernelDw1Ideal.main_v2)),
      θ_run (Cert.KernelDw1Ideal.defs (F := Ideal)) (onTc (τ := Cert.KernelDw1Ideal.τ) (Cert.KernelDw1Ideal.main (F := Ideal))) ⟨m, fun _ => 0, g⟩ (fun r => ∀ c : Dev Cert.KernelDw1Ideal.nD,
          r.2.mem ((c.tc : Thread Cert.KernelDw1Ideal.nD Cert.KernelDw1Ideal.τ).loc Cert.KernelDw1Ideal.main_v2) = v0 c
          ∧ r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
          ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1)
          ∧ r.2.mem ((c.tc : Thread Cert.KernelDw1Ideal.nD Cert.KernelDw1Ideal.τ).loc Cert.KernelDw1Ideal.main_arg2) = m ((c.tc : Thread Cert.KernelDw1Ideal.nD Cert.KernelDw1Ideal.τ).loc Cert.KernelDw1Ideal.main_arg2)
          ∧ r.2.mem ((c.tc : Thread Cert.KernelDw1Ideal.nD Cert.KernelDw1Ideal.τ).loc Cert.KernelDw1Ideal.main_arg3) = m ((c.tc : Thread Cert.KernelDw1Ideal.nD Cert.KernelDw1Ideal.τ).loc Cert.KernelDw1Ideal.main_arg3))
      ∧ θ_run (Cert.ReferenceDw1Ideal.defs (F := Ideal)) (onTc (τ := Cert.ReferenceDw1Ideal.τ) (Cert.ReferenceDw1Ideal.main (F := Ideal))) ⟨m', fun _ => 0, g'⟩ (fun r => ∀ c : Dev Cert.ReferenceDw1Ideal.nD,
          r.2.mem ((c.tc : Thread Cert.ReferenceDw1Ideal.nD Cert.ReferenceDw1Ideal.τ).loc Cert.ReferenceDw1Ideal.main_v4) = v0 c
          ∧ r.2.mem ((c.tc : Thread Cert.ReferenceDw1Ideal.nD Cert.ReferenceDw1Ideal.τ).loc Cert.ReferenceDw1Ideal.main_arg0) = m' ((c.tc : Thread Cert.ReferenceDw1Ideal.nD Cert.ReferenceDw1Ideal.τ).loc Cert.ReferenceDw1Ideal.main_arg0)
          ∧ r.2.mem ((c.tc : Thread Cert.ReferenceDw1Ideal.nD Cert.ReferenceDw1Ideal.τ).loc Cert.ReferenceDw1Ideal.main_arg1) = m' ((c.tc : Thread Cert.ReferenceDw1Ideal.nD Cert.ReferenceDw1Ideal.τ).loc Cert.ReferenceDw1Ideal.main_arg1)
          ∧ r.2.mem ((c.tc : Thread Cert.ReferenceDw1Ideal.nD Cert.ReferenceDw1Ideal.τ).loc Cert.ReferenceDw1Ideal.main_arg2) = m' ((c.tc : Thread Cert.ReferenceDw1Ideal.nD Cert.ReferenceDw1Ideal.τ).loc Cert.ReferenceDw1Ideal.main_arg2)
          ∧ r.2.mem ((c.tc : Thread Cert.ReferenceDw1Ideal.nD Cert.ReferenceDw1Ideal.τ).loc Cert.ReferenceDw1Ideal.main_arg3) = m' ((c.tc : Thread Cert.ReferenceDw1Ideal.nD Cert.ReferenceDw1Ideal.τ).loc Cert.ReferenceDw1Ideal.main_arg3))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v1_0)) (v1 : (c : Dev Cert.KernelNormIdeal.nD) → Buf (Elt Ideal) ((c.tc : Thread Cert.KernelNormIdeal.nD Cert.KernelNormIdeal.τ).loc Cert.KernelNormIdeal.main_v3)) (v2 : (c : Dev Cert.KernelNormIdeal.nD) → Buf (Elt Ideal) ((c.tc : Thread Cert.KernelNormIdeal.nD Cert.KernelNormIdeal.τ).loc Cert.KernelNormIdeal.main_v4)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1_0) = v0 c
          ∧ r.2.mem ((c.tc : Thread Cert.KernelNormIdeal.nD Cert.KernelNormIdeal.τ).loc Cert.KernelNormIdeal.main_v3) = v1 c
          ∧ r.2.mem ((c.tc : Thread Cert.KernelNormIdeal.nD Cert.KernelNormIdeal.τ).loc Cert.KernelNormIdeal.main_v4) = v2 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v19) = v0 c
          ∧ r.2.mem ((c.tc : Thread Cert.ReferenceNormIdeal.nD Cert.ReferenceNormIdeal.τ).loc Cert.ReferenceNormIdeal.main_v12) = v1 c
          ∧ r.2.mem ((c.tc : Thread Cert.ReferenceNormIdeal.nD Cert.ReferenceNormIdeal.τ).loc Cert.ReferenceNormIdeal.main_v5) = v2 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelScalesW1_KernelScalesW1Ideal : Prop :=
  IdealRules.named_const.Statement Cert.KernelScalesW1Ideal.κ "inv_divisor" .f32 0x39C30C31#32 ((1 / 2688 : ℝ) : EReal)

def algebraic_KernelScalesW1Ideal_ReferenceScalesW1Ideal [hKernelScalesW1Ideal : Cert.KernelScalesW1Ideal.Facts] [hReferenceScalesW1Ideal : Cert.ReferenceScalesW1Ideal.Facts] : Prop :=
  ∀ (m : (ℓ : Loc Cert.KernelScalesW1Ideal.nD Cert.KernelScalesW1Ideal.τ Cert.KernelScalesW1Ideal.sig) → Buf (Elt Ideal) ℓ) (g : Dev Cert.KernelScalesW1Ideal.nD → PrngReg)
    (m' : (ℓ : Loc Cert.ReferenceScalesW1Ideal.nD Cert.ReferenceScalesW1Ideal.τ Cert.ReferenceScalesW1Ideal.sig) → Buf (Elt Ideal) ℓ) (g' : Dev Cert.ReferenceScalesW1Ideal.nD → PrngReg), Pre_KernelScalesW1Ideal m →
    (∀ c : Dev Cert.KernelScalesW1Ideal.nD,
      m' ((c.tc : Thread Cert.ReferenceScalesW1Ideal.nD Cert.ReferenceScalesW1Ideal.τ).loc Cert.ReferenceScalesW1Ideal.main_arg0) = m ((c.tc : Thread Cert.KernelScalesW1Ideal.nD Cert.KernelScalesW1Ideal.τ).loc Cert.KernelScalesW1Ideal.main_arg0)) →
    ∃ (v0 : (c : Dev Cert.KernelScalesW1Ideal.nD) → Buf (Elt Ideal) ((c.tc : Thread Cert.KernelScalesW1Ideal.nD Cert.KernelScalesW1Ideal.τ).loc Cert.KernelScalesW1Ideal.main_v0_0)) (v1 : (c : Dev Cert.KernelScalesW1Ideal.nD) → Buf (Elt Ideal) ((c.tc : Thread Cert.KernelScalesW1Ideal.nD Cert.KernelScalesW1Ideal.τ).loc Cert.KernelScalesW1Ideal.main_v2)),
      θ_run (Cert.KernelScalesW1Ideal.defs (F := Ideal)) (onTc (τ := Cert.KernelScalesW1Ideal.τ) (Cert.KernelScalesW1Ideal.main (F := Ideal))) ⟨m, fun _ => 0, g⟩ (fun r => ∀ c : Dev Cert.KernelScalesW1Ideal.nD,
          r.2.mem ((c.tc : Thread Cert.KernelScalesW1Ideal.nD Cert.KernelScalesW1Ideal.τ).loc Cert.KernelScalesW1Ideal.main_v0_0) = v0 c
          ∧ r.2.mem ((c.tc : Thread Cert.KernelScalesW1Ideal.nD Cert.KernelScalesW1Ideal.τ).loc Cert.KernelScalesW1Ideal.main_v2) = v1 c
          ∧ r.2.mem ((c.tc : Thread Cert.KernelScalesW1Ideal.nD Cert.KernelScalesW1Ideal.τ).loc Cert.KernelScalesW1Ideal.main_arg0) = m ((c.tc : Thread Cert.KernelScalesW1Ideal.nD Cert.KernelScalesW1Ideal.τ).loc Cert.KernelScalesW1Ideal.main_arg0))
      ∧ θ_run (Cert.ReferenceScalesW1Ideal.defs (F := Ideal)) (onTc (τ := Cert.ReferenceScalesW1Ideal.τ) (Cert.ReferenceScalesW1Ideal.main (F := Ideal))) ⟨m', fun _ => 0, g'⟩ (fun r => ∀ c : Dev Cert.ReferenceScalesW1Ideal.nD,
          r.2.mem ((c.tc : Thread Cert.ReferenceScalesW1Ideal.nD Cert.ReferenceScalesW1Ideal.τ).loc Cert.ReferenceScalesW1Ideal.main_v0_0) = v0 c
          ∧ r.2.mem ((c.tc : Thread Cert.ReferenceScalesW1Ideal.nD Cert.ReferenceScalesW1Ideal.τ).loc Cert.ReferenceScalesW1Ideal.main_v1) = v1 c
          ∧ r.2.mem ((c.tc : Thread Cert.ReferenceScalesW1Ideal.nD Cert.ReferenceScalesW1Ideal.τ).loc Cert.ReferenceScalesW1Ideal.main_arg0) = m' ((c.tc : Thread Cert.ReferenceScalesW1Ideal.nD Cert.ReferenceScalesW1Ideal.τ).loc Cert.ReferenceScalesW1Ideal.main_arg0))

def preserves_KernelScalesW2_KernelScalesW2Ideal : Prop :=
  IdealRules.named_const.Statement Cert.KernelScalesW2Ideal.κ "inv_divisor" .f32 0x39C30C31#32 ((1 / 2688 : ℝ) : EReal)

def algebraic_KernelScalesW2Ideal_ReferenceScalesW2Ideal [hKernelScalesW2Ideal : Cert.KernelScalesW2Ideal.Facts] [hReferenceScalesW2Ideal : Cert.ReferenceScalesW2Ideal.Facts] : Prop :=
  ∀ (m : (ℓ : Loc Cert.KernelScalesW2Ideal.nD Cert.KernelScalesW2Ideal.τ Cert.KernelScalesW2Ideal.sig) → Buf (Elt Ideal) ℓ) (g : Dev Cert.KernelScalesW2Ideal.nD → PrngReg)
    (m' : (ℓ : Loc Cert.ReferenceScalesW2Ideal.nD Cert.ReferenceScalesW2Ideal.τ Cert.ReferenceScalesW2Ideal.sig) → Buf (Elt Ideal) ℓ) (g' : Dev Cert.ReferenceScalesW2Ideal.nD → PrngReg), Pre_KernelScalesW2Ideal m →
    (∀ c : Dev Cert.KernelScalesW2Ideal.nD,
      m' ((c.tc : Thread Cert.ReferenceScalesW2Ideal.nD Cert.ReferenceScalesW2Ideal.τ).loc Cert.ReferenceScalesW2Ideal.main_arg0) = m ((c.tc : Thread Cert.KernelScalesW2Ideal.nD Cert.KernelScalesW2Ideal.τ).loc Cert.KernelScalesW2Ideal.main_arg0)) →
    ∃ (v0 : (c : Dev Cert.KernelScalesW2Ideal.nD) → Buf (Elt Ideal) ((c.tc : Thread Cert.KernelScalesW2Ideal.nD Cert.KernelScalesW2Ideal.τ).loc Cert.KernelScalesW2Ideal.main_v0_0)) (v1 : (c : Dev Cert.KernelScalesW2Ideal.nD) → Buf (Elt Ideal) ((c.tc : Thread Cert.KernelScalesW2Ideal.nD Cert.KernelScalesW2Ideal.τ).loc Cert.KernelScalesW2Ideal.main_v2)),
      θ_run (Cert.KernelScalesW2Ideal.defs (F := Ideal)) (onTc (τ := Cert.KernelScalesW2Ideal.τ) (Cert.KernelScalesW2Ideal.main (F := Ideal))) ⟨m, fun _ => 0, g⟩ (fun r => ∀ c : Dev Cert.KernelScalesW2Ideal.nD,
          r.2.mem ((c.tc : Thread Cert.KernelScalesW2Ideal.nD Cert.KernelScalesW2Ideal.τ).loc Cert.KernelScalesW2Ideal.main_v0_0) = v0 c
          ∧ r.2.mem ((c.tc : Thread Cert.KernelScalesW2Ideal.nD Cert.KernelScalesW2Ideal.τ).loc Cert.KernelScalesW2Ideal.main_v2) = v1 c
          ∧ r.2.mem ((c.tc : Thread Cert.KernelScalesW2Ideal.nD Cert.KernelScalesW2Ideal.τ).loc Cert.KernelScalesW2Ideal.main_arg0) = m ((c.tc : Thread Cert.KernelScalesW2Ideal.nD Cert.KernelScalesW2Ideal.τ).loc Cert.KernelScalesW2Ideal.main_arg0))
      ∧ θ_run (Cert.ReferenceScalesW2Ideal.defs (F := Ideal)) (onTc (τ := Cert.ReferenceScalesW2Ideal.τ) (Cert.ReferenceScalesW2Ideal.main (F := Ideal))) ⟨m', fun _ => 0, g'⟩ (fun r => ∀ c : Dev Cert.ReferenceScalesW2Ideal.nD,
          r.2.mem ((c.tc : Thread Cert.ReferenceScalesW2Ideal.nD Cert.ReferenceScalesW2Ideal.τ).loc Cert.ReferenceScalesW2Ideal.main_v0_0) = v0 c
          ∧ r.2.mem ((c.tc : Thread Cert.ReferenceScalesW2Ideal.nD Cert.ReferenceScalesW2Ideal.τ).loc Cert.ReferenceScalesW2Ideal.main_v1) = v1 c
          ∧ r.2.mem ((c.tc : Thread Cert.ReferenceScalesW2Ideal.nD Cert.ReferenceScalesW2Ideal.τ).loc Cert.ReferenceScalesW2Ideal.main_arg0) = m' ((c.tc : Thread Cert.ReferenceScalesW2Ideal.nD Cert.ReferenceScalesW2Ideal.τ).loc Cert.ReferenceScalesW2Ideal.main_arg0))

def preserves_KernelScalesC_KernelScalesCIdeal : Prop :=
  IdealRules.named_const.Statement Cert.KernelScalesCIdeal.κ "inv_divisor" .f32 0x39C30C31#32 ((1 / 2688 : ℝ) : EReal)

def algebraic_KernelScalesCIdeal_ReferenceScalesCIdeal [hKernelScalesCIdeal : Cert.KernelScalesCIdeal.Facts] [hReferenceScalesCIdeal : Cert.ReferenceScalesCIdeal.Facts] : Prop :=
  ∀ (m : (ℓ : Loc Cert.KernelScalesCIdeal.nD Cert.KernelScalesCIdeal.τ Cert.KernelScalesCIdeal.sig) → Buf (Elt Ideal) ℓ) (g : Dev Cert.KernelScalesCIdeal.nD → PrngReg)
    (m' : (ℓ : Loc Cert.ReferenceScalesCIdeal.nD Cert.ReferenceScalesCIdeal.τ Cert.ReferenceScalesCIdeal.sig) → Buf (Elt Ideal) ℓ) (g' : Dev Cert.ReferenceScalesCIdeal.nD → PrngReg), Pre_KernelScalesCIdeal m →
    (∀ c : Dev Cert.KernelScalesCIdeal.nD,
      m' ((c.tc : Thread Cert.ReferenceScalesCIdeal.nD Cert.ReferenceScalesCIdeal.τ).loc Cert.ReferenceScalesCIdeal.main_arg0) = m ((c.tc : Thread Cert.KernelScalesCIdeal.nD Cert.KernelScalesCIdeal.τ).loc Cert.KernelScalesCIdeal.main_arg0)
      ∧ m' ((c.tc : Thread Cert.ReferenceScalesCIdeal.nD Cert.ReferenceScalesCIdeal.τ).loc Cert.ReferenceScalesCIdeal.main_arg1) = m ((c.tc : Thread Cert.KernelScalesCIdeal.nD Cert.KernelScalesCIdeal.τ).loc Cert.KernelScalesCIdeal.main_arg1)) →
    ∃ (v0 : (c : Dev Cert.KernelScalesCIdeal.nD) → Buf (Elt Ideal) ((c.tc : Thread Cert.KernelScalesCIdeal.nD Cert.KernelScalesCIdeal.τ).loc Cert.KernelScalesCIdeal.main_v0_0)) (v1 : (c : Dev Cert.KernelScalesCIdeal.nD) → Buf (Elt Ideal) ((c.tc : Thread Cert.KernelScalesCIdeal.nD Cert.KernelScalesCIdeal.τ).loc Cert.KernelScalesCIdeal.main_v2)),
      θ_run (Cert.KernelScalesCIdeal.defs (F := Ideal)) (onTc (τ := Cert.KernelScalesCIdeal.τ) (Cert.KernelScalesCIdeal.main (F := Ideal))) ⟨m, fun _ => 0, g⟩ (fun r => ∀ c : Dev Cert.KernelScalesCIdeal.nD,
          r.2.mem ((c.tc : Thread Cert.KernelScalesCIdeal.nD Cert.KernelScalesCIdeal.τ).loc Cert.KernelScalesCIdeal.main_v0_0) = v0 c
          ∧ r.2.mem ((c.tc : Thread Cert.KernelScalesCIdeal.nD Cert.KernelScalesCIdeal.τ).loc Cert.KernelScalesCIdeal.main_v2) = v1 c
          ∧ r.2.mem ((c.tc : Thread Cert.KernelScalesCIdeal.nD Cert.KernelScalesCIdeal.τ).loc Cert.KernelScalesCIdeal.main_arg0) = m ((c.tc : Thread Cert.KernelScalesCIdeal.nD Cert.KernelScalesCIdeal.τ).loc Cert.KernelScalesCIdeal.main_arg0)
          ∧ r.2.mem ((c.tc : Thread Cert.KernelScalesCIdeal.nD Cert.KernelScalesCIdeal.τ).loc Cert.KernelScalesCIdeal.main_arg1) = m ((c.tc : Thread Cert.KernelScalesCIdeal.nD Cert.KernelScalesCIdeal.τ).loc Cert.KernelScalesCIdeal.main_arg1))
      ∧ θ_run (Cert.ReferenceScalesCIdeal.defs (F := Ideal)) (onTc (τ := Cert.ReferenceScalesCIdeal.τ) (Cert.ReferenceScalesCIdeal.main (F := Ideal))) ⟨m', fun _ => 0, g'⟩ (fun r => ∀ c : Dev Cert.ReferenceScalesCIdeal.nD,
          r.2.mem ((c.tc : Thread Cert.ReferenceScalesCIdeal.nD Cert.ReferenceScalesCIdeal.τ).loc Cert.ReferenceScalesCIdeal.main_v0_0) = v0 c
          ∧ r.2.mem ((c.tc : Thread Cert.ReferenceScalesCIdeal.nD Cert.ReferenceScalesCIdeal.τ).loc Cert.ReferenceScalesCIdeal.main_v1) = v1 c
          ∧ r.2.mem ((c.tc : Thread Cert.ReferenceScalesCIdeal.nD Cert.ReferenceScalesCIdeal.τ).loc Cert.ReferenceScalesCIdeal.main_arg0) = m' ((c.tc : Thread Cert.ReferenceScalesCIdeal.nD Cert.ReferenceScalesCIdeal.τ).loc Cert.ReferenceScalesCIdeal.main_arg0)
          ∧ r.2.mem ((c.tc : Thread Cert.ReferenceScalesCIdeal.nD Cert.ReferenceScalesCIdeal.τ).loc Cert.ReferenceScalesCIdeal.main_arg1) = m' ((c.tc : Thread Cert.ReferenceScalesCIdeal.nD Cert.ReferenceScalesCIdeal.τ).loc Cert.ReferenceScalesCIdeal.main_arg1))

def preserves_KernelScalesR_KernelScalesRIdeal : Prop :=
  IdealRules.named_const.Statement Cert.KernelScalesRIdeal.κ "inv_divisor" .f32 0x39C30C31#32 ((1 / 2688 : ℝ) : EReal)

def algebraic_KernelScalesRIdeal_ReferenceScalesRIdeal [hKernelScalesRIdeal : Cert.KernelScalesRIdeal.Facts] [hReferenceScalesRIdeal : Cert.ReferenceScalesRIdeal.Facts] : Prop :=
  ∀ (m : (ℓ : Loc Cert.KernelScalesRIdeal.nD Cert.KernelScalesRIdeal.τ Cert.KernelScalesRIdeal.sig) → Buf (Elt Ideal) ℓ) (g : Dev Cert.KernelScalesRIdeal.nD → PrngReg)
    (m' : (ℓ : Loc Cert.ReferenceScalesRIdeal.nD Cert.ReferenceScalesRIdeal.τ Cert.ReferenceScalesRIdeal.sig) → Buf (Elt Ideal) ℓ) (g' : Dev Cert.ReferenceScalesRIdeal.nD → PrngReg), Pre_KernelScalesRIdeal m →
    (∀ c : Dev Cert.KernelScalesRIdeal.nD,
      m' ((c.tc : Thread Cert.ReferenceScalesRIdeal.nD Cert.ReferenceScalesRIdeal.τ).loc Cert.ReferenceScalesRIdeal.main_arg0) = m ((c.tc : Thread Cert.KernelScalesRIdeal.nD Cert.KernelScalesRIdeal.τ).loc Cert.KernelScalesRIdeal.main_arg0)
      ∧ m' ((c.tc : Thread Cert.ReferenceScalesRIdeal.nD Cert.ReferenceScalesRIdeal.τ).loc Cert.ReferenceScalesRIdeal.main_arg1) = m ((c.tc : Thread Cert.KernelScalesRIdeal.nD Cert.KernelScalesRIdeal.τ).loc Cert.KernelScalesRIdeal.main_arg1)) →
    ∃ (v0 : (c : Dev Cert.KernelScalesRIdeal.nD) → Buf (Elt Ideal) ((c.tc : Thread Cert.KernelScalesRIdeal.nD Cert.KernelScalesRIdeal.τ).loc Cert.KernelScalesRIdeal.main_v0_0)) (v1 : (c : Dev Cert.KernelScalesRIdeal.nD) → Buf (Elt Ideal) ((c.tc : Thread Cert.KernelScalesRIdeal.nD Cert.KernelScalesRIdeal.τ).loc Cert.KernelScalesRIdeal.main_v2)),
      θ_run (Cert.KernelScalesRIdeal.defs (F := Ideal)) (onTc (τ := Cert.KernelScalesRIdeal.τ) (Cert.KernelScalesRIdeal.main (F := Ideal))) ⟨m, fun _ => 0, g⟩ (fun r => ∀ c : Dev Cert.KernelScalesRIdeal.nD,
          r.2.mem ((c.tc : Thread Cert.KernelScalesRIdeal.nD Cert.KernelScalesRIdeal.τ).loc Cert.KernelScalesRIdeal.main_v0_0) = v0 c
          ∧ r.2.mem ((c.tc : Thread Cert.KernelScalesRIdeal.nD Cert.KernelScalesRIdeal.τ).loc Cert.KernelScalesRIdeal.main_v2) = v1 c
          ∧ r.2.mem ((c.tc : Thread Cert.KernelScalesRIdeal.nD Cert.KernelScalesRIdeal.τ).loc Cert.KernelScalesRIdeal.main_arg0) = m ((c.tc : Thread Cert.KernelScalesRIdeal.nD Cert.KernelScalesRIdeal.τ).loc Cert.KernelScalesRIdeal.main_arg0)
          ∧ r.2.mem ((c.tc : Thread Cert.KernelScalesRIdeal.nD Cert.KernelScalesRIdeal.τ).loc Cert.KernelScalesRIdeal.main_arg1) = m ((c.tc : Thread Cert.KernelScalesRIdeal.nD Cert.KernelScalesRIdeal.τ).loc Cert.KernelScalesRIdeal.main_arg1))
      ∧ θ_run (Cert.ReferenceScalesRIdeal.defs (F := Ideal)) (onTc (τ := Cert.ReferenceScalesRIdeal.τ) (Cert.ReferenceScalesRIdeal.main (F := Ideal))) ⟨m', fun _ => 0, g'⟩ (fun r => ∀ c : Dev Cert.ReferenceScalesRIdeal.nD,
          r.2.mem ((c.tc : Thread Cert.ReferenceScalesRIdeal.nD Cert.ReferenceScalesRIdeal.τ).loc Cert.ReferenceScalesRIdeal.main_v0_0) = v0 c
          ∧ r.2.mem ((c.tc : Thread Cert.ReferenceScalesRIdeal.nD Cert.ReferenceScalesRIdeal.τ).loc Cert.ReferenceScalesRIdeal.main_v1) = v1 c
          ∧ r.2.mem ((c.tc : Thread Cert.ReferenceScalesRIdeal.nD Cert.ReferenceScalesRIdeal.τ).loc Cert.ReferenceScalesRIdeal.main_arg0) = m' ((c.tc : Thread Cert.ReferenceScalesRIdeal.nD Cert.ReferenceScalesRIdeal.τ).loc Cert.ReferenceScalesRIdeal.main_arg0)
          ∧ r.2.mem ((c.tc : Thread Cert.ReferenceScalesRIdeal.nD Cert.ReferenceScalesRIdeal.τ).loc Cert.ReferenceScalesRIdeal.main_arg1) = m' ((c.tc : Thread Cert.ReferenceScalesRIdeal.nD Cert.ReferenceScalesRIdeal.τ).loc Cert.ReferenceScalesRIdeal.main_arg1))

def preserves_KernelWmax1_KernelWmax1Ideal : Prop :=
  True

def algebraic_KernelWmax1Ideal_ReferenceWmax1Ideal [hKernelWmax1Ideal : Cert.KernelWmax1Ideal.Facts] [hReferenceWmax1Ideal : Cert.ReferenceWmax1Ideal.Facts] : Prop :=
  ∀ (m : (ℓ : Loc Cert.KernelWmax1Ideal.nD Cert.KernelWmax1Ideal.τ Cert.KernelWmax1Ideal.sig) → Buf (Elt Ideal) ℓ) (g : Dev Cert.KernelWmax1Ideal.nD → PrngReg)
    (m' : (ℓ : Loc Cert.ReferenceWmax1Ideal.nD Cert.ReferenceWmax1Ideal.τ Cert.ReferenceWmax1Ideal.sig) → Buf (Elt Ideal) ℓ) (g' : Dev Cert.ReferenceWmax1Ideal.nD → PrngReg), Pre_KernelWmax1Ideal m →
    (∀ c : Dev Cert.KernelWmax1Ideal.nD,
      m' ((c.tc : Thread Cert.ReferenceWmax1Ideal.nD Cert.ReferenceWmax1Ideal.τ).loc Cert.ReferenceWmax1Ideal.main_arg0) = m ((c.tc : Thread Cert.KernelWmax1Ideal.nD Cert.KernelWmax1Ideal.τ).loc Cert.KernelWmax1Ideal.main_arg0)) →
    ∃ (v0 : (c : Dev Cert.KernelWmax1Ideal.nD) → Buf (Elt Ideal) ((c.tc : Thread Cert.KernelWmax1Ideal.nD Cert.KernelWmax1Ideal.τ).loc Cert.KernelWmax1Ideal.main_v0)),
      θ_run (Cert.KernelWmax1Ideal.defs (F := Ideal)) (onTc (τ := Cert.KernelWmax1Ideal.τ) (Cert.KernelWmax1Ideal.main (F := Ideal))) ⟨m, fun _ => 0, g⟩ (fun r => ∀ c : Dev Cert.KernelWmax1Ideal.nD,
          r.2.mem ((c.tc : Thread Cert.KernelWmax1Ideal.nD Cert.KernelWmax1Ideal.τ).loc Cert.KernelWmax1Ideal.main_v0) = v0 c
          ∧ r.2.mem ((c.tc : Thread Cert.KernelWmax1Ideal.nD Cert.KernelWmax1Ideal.τ).loc Cert.KernelWmax1Ideal.main_arg0) = m ((c.tc : Thread Cert.KernelWmax1Ideal.nD Cert.KernelWmax1Ideal.τ).loc Cert.KernelWmax1Ideal.main_arg0))
      ∧ θ_run (Cert.ReferenceWmax1Ideal.defs (F := Ideal)) (onTc (τ := Cert.ReferenceWmax1Ideal.τ) (Cert.ReferenceWmax1Ideal.main (F := Ideal))) ⟨m', fun _ => 0, g'⟩ (fun r => ∀ c : Dev Cert.ReferenceWmax1Ideal.nD,
          r.2.mem ((c.tc : Thread Cert.ReferenceWmax1Ideal.nD Cert.ReferenceWmax1Ideal.τ).loc Cert.ReferenceWmax1Ideal.main_v5) = v0 c
          ∧ r.2.mem ((c.tc : Thread Cert.ReferenceWmax1Ideal.nD Cert.ReferenceWmax1Ideal.τ).loc Cert.ReferenceWmax1Ideal.main_arg0) = m' ((c.tc : Thread Cert.ReferenceWmax1Ideal.nD Cert.ReferenceWmax1Ideal.τ).loc Cert.ReferenceWmax1Ideal.main_arg0))

def preserves_KernelWmax2_KernelWmax2Ideal : Prop :=
  True

def algebraic_KernelWmax2Ideal_ReferenceWmax2Ideal [hKernelWmax2Ideal : Cert.KernelWmax2Ideal.Facts] [hReferenceWmax2Ideal : Cert.ReferenceWmax2Ideal.Facts] : Prop :=
  ∀ (m : (ℓ : Loc Cert.KernelWmax2Ideal.nD Cert.KernelWmax2Ideal.τ Cert.KernelWmax2Ideal.sig) → Buf (Elt Ideal) ℓ) (g : Dev Cert.KernelWmax2Ideal.nD → PrngReg)
    (m' : (ℓ : Loc Cert.ReferenceWmax2Ideal.nD Cert.ReferenceWmax2Ideal.τ Cert.ReferenceWmax2Ideal.sig) → Buf (Elt Ideal) ℓ) (g' : Dev Cert.ReferenceWmax2Ideal.nD → PrngReg), Pre_KernelWmax2Ideal m →
    (∀ c : Dev Cert.KernelWmax2Ideal.nD,
      m' ((c.tc : Thread Cert.ReferenceWmax2Ideal.nD Cert.ReferenceWmax2Ideal.τ).loc Cert.ReferenceWmax2Ideal.main_arg0) = m ((c.tc : Thread Cert.KernelWmax2Ideal.nD Cert.KernelWmax2Ideal.τ).loc Cert.KernelWmax2Ideal.main_arg0)) →
    ∃ (v0 : (c : Dev Cert.KernelWmax2Ideal.nD) → Buf (Elt Ideal) ((c.tc : Thread Cert.KernelWmax2Ideal.nD Cert.KernelWmax2Ideal.τ).loc Cert.KernelWmax2Ideal.main_v0)),
      θ_run (Cert.KernelWmax2Ideal.defs (F := Ideal)) (onTc (τ := Cert.KernelWmax2Ideal.τ) (Cert.KernelWmax2Ideal.main (F := Ideal))) ⟨m, fun _ => 0, g⟩ (fun r => ∀ c : Dev Cert.KernelWmax2Ideal.nD,
          r.2.mem ((c.tc : Thread Cert.KernelWmax2Ideal.nD Cert.KernelWmax2Ideal.τ).loc Cert.KernelWmax2Ideal.main_v0) = v0 c
          ∧ r.2.mem ((c.tc : Thread Cert.KernelWmax2Ideal.nD Cert.KernelWmax2Ideal.τ).loc Cert.KernelWmax2Ideal.main_arg0) = m ((c.tc : Thread Cert.KernelWmax2Ideal.nD Cert.KernelWmax2Ideal.τ).loc Cert.KernelWmax2Ideal.main_arg0))
      ∧ θ_run (Cert.ReferenceWmax2Ideal.defs (F := Ideal)) (onTc (τ := Cert.ReferenceWmax2Ideal.τ) (Cert.ReferenceWmax2Ideal.main (F := Ideal))) ⟨m', fun _ => 0, g'⟩ (fun r => ∀ c : Dev Cert.ReferenceWmax2Ideal.nD,
          r.2.mem ((c.tc : Thread Cert.ReferenceWmax2Ideal.nD Cert.ReferenceWmax2Ideal.τ).loc Cert.ReferenceWmax2Ideal.main_v5) = v0 c
          ∧ r.2.mem ((c.tc : Thread Cert.ReferenceWmax2Ideal.nD Cert.ReferenceWmax2Ideal.τ).loc Cert.ReferenceWmax2Ideal.main_arg0) = m' ((c.tc : Thread Cert.ReferenceWmax2Ideal.nD Cert.ReferenceWmax2Ideal.τ).loc Cert.ReferenceWmax2Ideal.main_arg0))

def Claim : Prop :=
  ∃ (hKernelH : Cert.KernelH.Facts) (hKernelHIdeal : Cert.KernelHIdeal.Facts) (hReferenceHIdeal : Cert.ReferenceHIdeal.Facts) (hKernelDa : Cert.KernelDa.Facts) (hKernelDaIdeal : Cert.KernelDaIdeal.Facts) (hReferenceDaIdeal : Cert.ReferenceDaIdeal.Facts) (hKernelY : Cert.KernelY.Facts) (hKernelYIdeal : Cert.KernelYIdeal.Facts) (hReferenceYIdeal : Cert.ReferenceYIdeal.Facts) (hKernelDxn : Cert.KernelDxn.Facts) (hKernelDxnIdeal : Cert.KernelDxnIdeal.Facts) (hReferenceDxnIdeal : Cert.ReferenceDxnIdeal.Facts) (hKernelDw2 : Cert.KernelDw2.Facts) (hKernelDw2Ideal : Cert.KernelDw2Ideal.Facts) (hReferenceDw2Ideal : Cert.ReferenceDw2Ideal.Facts) (hKernelDw1 : Cert.KernelDw1.Facts) (hKernelDw1Ideal : Cert.KernelDw1Ideal.Facts) (hReferenceDw1Ideal : Cert.ReferenceDw1Ideal.Facts) (hKernelNorm : Cert.KernelNorm.Facts) (hKernelNormIdeal : Cert.KernelNormIdeal.Facts) (hReferenceNormIdeal : Cert.ReferenceNormIdeal.Facts) (hKernelScalesW1 : Cert.KernelScalesW1.Facts) (hKernelScalesW1Ideal : Cert.KernelScalesW1Ideal.Facts) (hReferenceScalesW1Ideal : Cert.ReferenceScalesW1Ideal.Facts) (hKernelScalesW2 : Cert.KernelScalesW2.Facts) (hKernelScalesW2Ideal : Cert.KernelScalesW2Ideal.Facts) (hReferenceScalesW2Ideal : Cert.ReferenceScalesW2Ideal.Facts) (hKernelScalesC : Cert.KernelScalesC.Facts) (hKernelScalesCIdeal : Cert.KernelScalesCIdeal.Facts) (hReferenceScalesCIdeal : Cert.ReferenceScalesCIdeal.Facts) (hKernelScalesR : Cert.KernelScalesR.Facts) (hKernelScalesRIdeal : Cert.KernelScalesRIdeal.Facts) (hReferenceScalesRIdeal : Cert.ReferenceScalesRIdeal.Facts) (hKernelWmax1 : Cert.KernelWmax1.Facts) (hKernelWmax1Ideal : Cert.KernelWmax1Ideal.Facts) (hReferenceWmax1Ideal : Cert.ReferenceWmax1Ideal.Facts) (hKernelWmax2 : Cert.KernelWmax2.Facts) (hKernelWmax2Ideal : Cert.KernelWmax2Ideal.Facts) (hReferenceWmax2Ideal : Cert.ReferenceWmax2Ideal.Facts),
    quiescent_KernelH (hKernelH := hKernelH)
    ∧ quiescent_KernelHIdeal (hKernelHIdeal := hKernelHIdeal)
    ∧ quiescent_ReferenceHIdeal (hReferenceHIdeal := hReferenceHIdeal)
    ∧ quiescent_KernelDa (hKernelDa := hKernelDa)
    ∧ quiescent_KernelDaIdeal (hKernelDaIdeal := hKernelDaIdeal)
    ∧ quiescent_ReferenceDaIdeal (hReferenceDaIdeal := hReferenceDaIdeal)
    ∧ quiescent_KernelY (hKernelY := hKernelY)
    ∧ quiescent_KernelYIdeal (hKernelYIdeal := hKernelYIdeal)
    ∧ quiescent_ReferenceYIdeal (hReferenceYIdeal := hReferenceYIdeal)
    ∧ quiescent_KernelDxn (hKernelDxn := hKernelDxn)
    ∧ quiescent_KernelDxnIdeal (hKernelDxnIdeal := hKernelDxnIdeal)
    ∧ quiescent_ReferenceDxnIdeal (hReferenceDxnIdeal := hReferenceDxnIdeal)
    ∧ quiescent_KernelDw2 (hKernelDw2 := hKernelDw2)
    ∧ quiescent_KernelDw2Ideal (hKernelDw2Ideal := hKernelDw2Ideal)
    ∧ quiescent_ReferenceDw2Ideal (hReferenceDw2Ideal := hReferenceDw2Ideal)
    ∧ quiescent_KernelDw1 (hKernelDw1 := hKernelDw1)
    ∧ quiescent_KernelDw1Ideal (hKernelDw1Ideal := hKernelDw1Ideal)
    ∧ quiescent_ReferenceDw1Ideal (hReferenceDw1Ideal := hReferenceDw1Ideal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelScalesW1 (hKernelScalesW1 := hKernelScalesW1)
    ∧ quiescent_KernelScalesW1Ideal (hKernelScalesW1Ideal := hKernelScalesW1Ideal)
    ∧ quiescent_ReferenceScalesW1Ideal (hReferenceScalesW1Ideal := hReferenceScalesW1Ideal)
    ∧ quiescent_KernelScalesW2 (hKernelScalesW2 := hKernelScalesW2)
    ∧ quiescent_KernelScalesW2Ideal (hKernelScalesW2Ideal := hKernelScalesW2Ideal)
    ∧ quiescent_ReferenceScalesW2Ideal (hReferenceScalesW2Ideal := hReferenceScalesW2Ideal)
    ∧ quiescent_KernelScalesC (hKernelScalesC := hKernelScalesC)
    ∧ quiescent_KernelScalesCIdeal (hKernelScalesCIdeal := hKernelScalesCIdeal)
    ∧ quiescent_ReferenceScalesCIdeal (hReferenceScalesCIdeal := hReferenceScalesCIdeal)
    ∧ quiescent_KernelScalesR (hKernelScalesR := hKernelScalesR)
    ∧ quiescent_KernelScalesRIdeal (hKernelScalesRIdeal := hKernelScalesRIdeal)
    ∧ quiescent_ReferenceScalesRIdeal (hReferenceScalesRIdeal := hReferenceScalesRIdeal)
    ∧ quiescent_KernelWmax1 (hKernelWmax1 := hKernelWmax1)
    ∧ quiescent_KernelWmax1Ideal (hKernelWmax1Ideal := hKernelWmax1Ideal)
    ∧ quiescent_ReferenceWmax1Ideal (hReferenceWmax1Ideal := hReferenceWmax1Ideal)
    ∧ quiescent_KernelWmax2 (hKernelWmax2 := hKernelWmax2)
    ∧ quiescent_KernelWmax2Ideal (hKernelWmax2Ideal := hKernelWmax2Ideal)
    ∧ quiescent_ReferenceWmax2Ideal (hReferenceWmax2Ideal := hReferenceWmax2Ideal)
    ∧ preserves_KernelH_KernelHIdeal
    ∧ algebraic_KernelHIdeal_ReferenceHIdeal (hKernelHIdeal := hKernelHIdeal) (hReferenceHIdeal := hReferenceHIdeal)
    ∧ preserves_KernelDa_KernelDaIdeal
    ∧ algebraic_KernelDaIdeal_ReferenceDaIdeal (hKernelDaIdeal := hKernelDaIdeal) (hReferenceDaIdeal := hReferenceDaIdeal)
    ∧ preserves_KernelY_KernelYIdeal
    ∧ algebraic_KernelYIdeal_ReferenceYIdeal (hKernelYIdeal := hKernelYIdeal) (hReferenceYIdeal := hReferenceYIdeal)
    ∧ preserves_KernelDxn_KernelDxnIdeal
    ∧ algebraic_KernelDxnIdeal_ReferenceDxnIdeal (hKernelDxnIdeal := hKernelDxnIdeal) (hReferenceDxnIdeal := hReferenceDxnIdeal)
    ∧ preserves_KernelDw2_KernelDw2Ideal
    ∧ algebraic_KernelDw2Ideal_ReferenceDw2Ideal (hKernelDw2Ideal := hKernelDw2Ideal) (hReferenceDw2Ideal := hReferenceDw2Ideal)
    ∧ preserves_KernelDw1_KernelDw1Ideal
    ∧ algebraic_KernelDw1Ideal_ReferenceDw1Ideal (hKernelDw1Ideal := hKernelDw1Ideal) (hReferenceDw1Ideal := hReferenceDw1Ideal)
    ∧ preserves_KernelNorm_KernelNormIdeal
    ∧ algebraic_KernelNormIdeal_ReferenceNormIdeal (hKernelNormIdeal := hKernelNormIdeal) (hReferenceNormIdeal := hReferenceNormIdeal)
    ∧ preserves_KernelScalesW1_KernelScalesW1Ideal
    ∧ algebraic_KernelScalesW1Ideal_ReferenceScalesW1Ideal (hKernelScalesW1Ideal := hKernelScalesW1Ideal) (hReferenceScalesW1Ideal := hReferenceScalesW1Ideal)
    ∧ preserves_KernelScalesW2_KernelScalesW2Ideal
    ∧ algebraic_KernelScalesW2Ideal_ReferenceScalesW2Ideal (hKernelScalesW2Ideal := hKernelScalesW2Ideal) (hReferenceScalesW2Ideal := hReferenceScalesW2Ideal)
    ∧ preserves_KernelScalesC_KernelScalesCIdeal
    ∧ algebraic_KernelScalesCIdeal_ReferenceScalesCIdeal (hKernelScalesCIdeal := hKernelScalesCIdeal) (hReferenceScalesCIdeal := hReferenceScalesCIdeal)
    ∧ preserves_KernelScalesR_KernelScalesRIdeal
    ∧ algebraic_KernelScalesRIdeal_ReferenceScalesRIdeal (hKernelScalesRIdeal := hKernelScalesRIdeal) (hReferenceScalesRIdeal := hReferenceScalesRIdeal)
    ∧ preserves_KernelWmax1_KernelWmax1Ideal
    ∧ algebraic_KernelWmax1Ideal_ReferenceWmax1Ideal (hKernelWmax1Ideal := hKernelWmax1Ideal) (hReferenceWmax1Ideal := hReferenceWmax1Ideal)
    ∧ preserves_KernelWmax2_KernelWmax2Ideal
    ∧ algebraic_KernelWmax2Ideal_ReferenceWmax2Ideal (hKernelWmax2Ideal := hKernelWmax2Ideal) (hReferenceWmax2Ideal := hReferenceWmax2Ideal)
-- ==== KernelH.lean ====
abbrev S2048x5120 : Shape := ⟨2, ![2048, 5120]⟩
abbrev S20480x5120 : Shape := ⟨2, ![20480, 5120]⟩
abbrev S_ : Shape := ⟨0, ![]⟩
abbrev S1 : Shape := ⟨1, ![1]⟩
abbrev S160x2048x128 : Shape := ⟨3, ![160, 2048, 128]⟩
abbrev S1024x5120 : Shape := ⟨2, ![1024, 5120]⟩
abbrev S512x5120 : Shape := ⟨2, ![512, 5120]⟩
abbrev S4x1024x128 : Shape := ⟨3, ![4, 1024, 128]⟩
abbrev S8x128 : Shape := ⟨2, ![8, 128]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 7
  | .vmem => 7
  | .smem => 1
  | _ => 0

abbrev bufTy : (tb : Table) → Fin (tcTables nBuf tb) → BufTy
  | .hbm, ⟨0, _⟩ => ⟨S2048x5120, .bf16⟩
  | .hbm, ⟨1, _⟩ => ⟨S20480x5120, .bf16⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1, .f32⟩
  | .hbm, ⟨6, _⟩ => ⟨S160x2048x128, .f32⟩
  | .local _ .vmem, ⟨0, _⟩ => ⟨S1024x5120, .bf16⟩
  | .local _ .vmem, ⟨1, _⟩ => ⟨S1024x5120, .bf16⟩
  | .local _ .vmem, ⟨2, _⟩ => ⟨S512x5120, .bf16⟩
  | .local _ .vmem, ⟨3, _⟩ => ⟨S512x5120, .bf16⟩
  | .local _ .vmem, ⟨4, _⟩ => ⟨S4x1024x128, .f32⟩
  | .local _ .vmem, ⟨5, _⟩ => ⟨S4x1024x128, .f32⟩
  | .local _ .vmem, ⟨6, _⟩ => ⟨S8x128, .f32⟩
  | .local _ .smem, ⟨0, _⟩ => ⟨S1, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 40, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S4x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceHIdeal.lean ====
abbrev S2048x5120 : Shape := ⟨2, ![2048, 5120]⟩
abbrev S20480x5120 : Shape := ⟨2, ![20480, 5120]⟩
abbrev S_ : Shape := ⟨0, ![]⟩
abbrev S20480x2048 : Shape := ⟨2, ![20480, 2048]⟩
abbrev S160x128x2048 : Shape := ⟨3, ![160, 128, 2048]⟩
abbrev S160x2048x128 : Shape := ⟨3, ![160, 2048, 128]⟩

abbrev nBuf : Space → Nat
  | .hbm => 13
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S20480x5120, .bf16⟩
  | .hbm, ⟨2, _⟩ => ⟨S_, .f32⟩
  | .hbm, ⟨3, _⟩ => ⟨S_, .f32⟩
  | .hbm, ⟨4, _⟩ => ⟨S20480x2048, .f32⟩
  | .hbm, ⟨5, _⟩ => ⟨S_, .f32⟩
  | .hbm, ⟨6, _⟩ => ⟨S20480x2048, .f32⟩
  | .hbm, ⟨7, _⟩ => ⟨S20480x2048, .f32⟩
  | .hbm, ⟨8, _⟩ => ⟨S_, .f32⟩
  | .hbm, ⟨9, _⟩ => ⟨S20480x2048, .f32⟩
  | .hbm, ⟨10, _⟩ => ⟨S20480x2048, .f32⟩
  | .hbm, ⟨11, _⟩ => ⟨S160x128x2048, .f32⟩
  | .hbm, ⟨12, _⟩ => ⟨S160x2048x128, .f32⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== KernelDa.lean ====
abbrev S2048x5120 : Shape := ⟨2, ![2048, 5120]⟩
abbrev S5120x20480 : Shape := ⟨2, ![5120, 20480]⟩
abbrev S160x2048x128 : Shape := ⟨3, ![160, 2048, 128]⟩
abbrev S_ : Shape := ⟨0, ![]⟩
abbrev S1 : Shape := ⟨1, ![1]⟩
abbrev S1024x5120 : Shape := ⟨2, ![1024, 5120]⟩
abbrev S5120x512 : Shape := ⟨2, ![5120, 512]⟩
abbrev S4x1024x128 : Shape := ⟨3, ![4, 1024, 128]⟩
abbrev S8x128 : Shape := ⟨2, ![8, 128]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 8
  | .vmem => 9
  | .smem => 1
  | _ => 0

abbrev bufTy : (tb : Table) → Fin (tcTables nBuf tb) → BufTy
  | .hbm, ⟨0, _⟩ => ⟨S2048x5120, .bf16⟩
  | .hbm, ⟨1, _⟩ => ⟨S5120x20480, .bf16⟩
  | .hbm, ⟨2, _⟩ => ⟨S160x2048x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S160x2048x128, .f32⟩
  | .local _ .vmem, ⟨0, _⟩ => ⟨S1024x5120, .bf16⟩
  | .local _ .vmem, ⟨1, _⟩ => ⟨S1024x5120, .bf16⟩
  | .local _ .vmem, ⟨2, _⟩ => ⟨S5120x512, .bf16⟩
  | .local _ .vmem, ⟨3, _⟩ => ⟨S5120x512, .bf16⟩
  | .local _ .vmem, ⟨4, _⟩ => ⟨S4x1024x128, .f32⟩
  | .local _ .vmem, ⟨5, _⟩ => ⟨S4x1024x128, .f32⟩
  | .local _ .vmem, ⟨6, _⟩ => ⟨S4x1024x128, .f32⟩
  | .local _ .vmem, ⟨7, _⟩ => ⟨S4x1024x128, .f32⟩
  | .local _ .vmem, ⟨8, _⟩ => ⟨S8x128, .f32⟩
  | .local _ .smem, ⟨0, _⟩ => ⟨S1, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 40, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5120x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S4x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceDaIdeal.lean ====
abbrev S2048x5120 : Shape := ⟨2, ![2048, 5120]⟩
abbrev S5120x20480 : Shape := ⟨2, ![5120, 20480]⟩
abbrev S160x2048x128 : Shape := ⟨3, ![160, 2048, 128]⟩
abbrev S_ : Shape := ⟨0, ![]⟩
abbrev S20480x2048 : Shape := ⟨2, ![20480, 2048]⟩
abbrev S160x128x2048 : Shape := ⟨3, ![160, 128, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S5120x20480, .bf16⟩
  | .hbm, ⟨2, _⟩ => ⟨S160x2048x128, .f32⟩
  | .hbm, ⟨3, _⟩ => ⟨S_, .f32⟩
  | .hbm, ⟨4, _⟩ => ⟨S_, .f32⟩
  | .hbm, ⟨5, _⟩ => ⟨S20480x2048, .f32⟩
  | .hbm, ⟨6, _⟩ => ⟨S_, .f32⟩
  | .hbm, ⟨7, _⟩ => ⟨S20480x2048, .f32⟩
  | .hbm, ⟨8, _⟩ => ⟨S20480x2048, .f32⟩
  | .hbm, ⟨9, _⟩ => ⟨S160x128x2048, .f32⟩
  | .hbm, ⟨10, _⟩ => ⟨S160x2048x128, .f32⟩
  | .hbm, ⟨11, _⟩ => ⟨S_, .f32⟩
  | .hbm, ⟨12, _⟩ => ⟨S160x2048x128, .f32⟩
  | .hbm, ⟨13, _⟩ => ⟨S160x2048x128, .f32⟩
  | .hbm, ⟨14, _⟩ => ⟨S160x2048x128, .f32⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== KernelY.lean ====
abbrev S2048x20480 : Shape := ⟨2, ![2048, 20480]⟩
abbrev S5120x20480 : Shape := ⟨2, ![5120, 20480]⟩
abbrev S_ : Shape := ⟨0, ![]⟩
abbrev S1 : Shape := ⟨1, ![1]⟩
abbrev S2048x5120 : Shape := ⟨2, ![2048, 5120]⟩
abbrev S1024x2048 : Shape := ⟨2, ![1024, 2048]⟩
abbrev S1024x1024 : Shape := ⟨2, ![1024, 1024]⟩

abbrev nBuf : Space → Nat
  | .hbm => 7
  | .vmem => 7
  | .smem => 1
  | _ => 0

abbrev bufTy : (tb : Table) → Fin (tcTables nBuf tb) → BufTy
  | .hbm, ⟨0, _⟩ => ⟨S2048x20480, .bf16⟩
  | .hbm, ⟨1, _⟩ => ⟨S5120x20480, .bf16⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1, .f32⟩
  | .hbm, ⟨6, _⟩ => ⟨S2048x5120, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .smem, ⟨0, _⟩ => ⟨S1, .f32⟩
  | _, _ => ⟨S2048x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 5, 10], ![false, false, false]⟩

def k0_cond2 (i : grid0.Coords) : BitVec 1 :=
  let arg2 : BitVec 32 := BitVec.ofNat 32 (i 2).val
  let c9_i32 : BitVec 32 := 9#32
  let v11 : BitVec 1 := Scalar.cmpi .eq arg2 c9_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceYIdeal.lean ====
abbrev S2048x20480 : Shape := ⟨2, ![2048, 20480]⟩
abbrev S5120x20480 : Shape := ⟨2, ![5120, 20480]⟩
abbrev S_ : Shape := ⟨0, ![]⟩
abbrev S2048x5120 : Shape := ⟨2, ![2048, 5120]⟩

abbrev nBuf : Space → Nat
  | .hbm => 9
  | .vmem => 0
  | .smem => 0
  | _ => 0

abbrev bufTy : (tb : Table) → Fin (tcTables nBuf tb) → BufTy
  | .hbm, ⟨0, _⟩ => ⟨S2048x20480, .bf16⟩
  | .hbm, ⟨1, _⟩ => ⟨S5120x20480, .bf16⟩
  | .hbm, ⟨2, _⟩ => ⟨S_, .f32⟩
  | .hbm, ⟨3, _⟩ => ⟨S_, .f32⟩
  | .hbm, ⟨4, _⟩ => ⟨S2048x5120, .f32⟩
  | .hbm, ⟨5, _⟩ => ⟨S_, .f32⟩
  | .hbm, ⟨6, _⟩ => ⟨S2048x5120, .f32⟩
  | .hbm, ⟨7, _⟩ => ⟨S2048x5120, .f32⟩
  | .hbm, ⟨8, _⟩ => ⟨S2048x5120, .bf16⟩
  | _, _ => ⟨S2048x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelDxn.lean ====
abbrev S2048x20480 : Shape := ⟨2, ![2048, 20480]⟩
abbrev S20480x5120 : Shape := ⟨2, ![20480, 5120]⟩
abbrev S_ : Shape := ⟨0, ![]⟩
abbrev S1 : Shape := ⟨1, ![1]⟩
abbrev S2048x5120 : Shape := ⟨2, ![2048, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 7
  | .smem => 1
  | _ => 0

abbrev bufTy : (tb : Table) → Fin (tcTables nBuf tb) → BufTy
  | .hbm, ⟨0, _⟩ => ⟨S2048x20480, .bf16⟩
  | .hbm, ⟨1, _⟩ => ⟨S20480x5120, .bf16⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1, .f32⟩
  | .hbm, ⟨6, _⟩ => ⟨S2048x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .smem, ⟨0, _⟩ => ⟨S1, .f32⟩
  | _, _ => ⟨S2048x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 5, 10], ![false, false, false]⟩

def k0_cond2 (i : grid0.Coords) : BitVec 1 :=
  let arg2 : BitVec 32 := BitVec.ofNat 32 (i 2).val
  let c9_i32 : BitVec 32 := 9#32
  let v11 : BitVec 1 := Scalar.cmpi .eq arg2 c9_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDxnIdeal.lean ====
abbrev S2048x20480 : Shape := ⟨2, ![2048, 20480]⟩
abbrev S20480x5120 : Shape := ⟨2, ![20480, 5120]⟩
abbrev S_ : Shape := ⟨0, ![]⟩
abbrev S2048x5120 : Shape := ⟨2, ![2048, 5120]⟩

abbrev nBuf : Space → Nat
  | .hbm => 8
  | .vmem => 0
  | .smem => 0
  | _ => 0

abbrev bufTy : (tb : Table) → Fin (tcTables nBuf tb) → BufTy
  | .hbm, ⟨0, _⟩ => ⟨S2048x20480, .bf16⟩
  | .hbm, ⟨1, _⟩ => ⟨S20480x5120, .bf16⟩
  | .hbm, ⟨2, _⟩ => ⟨S_, .f32⟩
  | .hbm, ⟨3, _⟩ => ⟨S_, .f32⟩
  | .hbm, ⟨4, _⟩ => ⟨S2048x5120, .f32⟩
  | .hbm, ⟨5, _⟩ => ⟨S_, .f32⟩
  | .hbm, ⟨6, _⟩ => ⟨S2048x5120, .f32⟩
  | .hbm, ⟨7, _⟩ => ⟨S2048x5120, .f32⟩
  | _, _ => ⟨S2048x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelDw2.lean ====
abbrev S5120x2048 : Shape := ⟨2, ![5120, 2048]⟩
abbrev S2048x20480 : Shape := ⟨2, ![2048, 20480]⟩
abbrev S_ : Shape := ⟨0, ![]⟩
abbrev S1 : Shape := ⟨1, ![1]⟩
abbrev S5120x20480 : Shape := ⟨2, ![5120, 20480]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 7
  | .vmem => 7
  | .smem => 1
  | _ => 0

abbrev bufTy : (tb : Table) → Fin (tcTables nBuf tb) → BufTy
  | .hbm, ⟨0, _⟩ => ⟨S5120x2048, .bf16⟩
  | .hbm, ⟨1, _⟩ => ⟨S2048x20480, .bf16⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1, .f32⟩
  | .hbm, ⟨6, _⟩ => ⟨S5120x20480, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | .local _ .smem, ⟨0, _⟩ => ⟨S1, .f32⟩
  | _, _ => ⟨S5120x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![5, 20, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDw2Ideal.lean ====
abbrev S5120x2048 : Shape := ⟨2, ![5120, 2048]⟩
abbrev S2048x20480 : Shape := ⟨2, ![2048, 20480]⟩
abbrev S_ : Shape := ⟨0, ![]⟩
abbrev S5120x20480 : Shape := ⟨2, ![5120, 20480]⟩

abbrev nBuf : Space → Nat
  | .hbm => 9
  | .vmem => 0
  | .smem => 0
  | _ => 0

abbrev bufTy : (tb : Table) → Fin (tcTables nBuf tb) → BufTy
  | .hbm, ⟨0, _⟩ => ⟨S5120x2048, .bf16⟩
  | .hbm, ⟨1, _⟩ => ⟨S2048x20480, .bf16⟩
  | .hbm, ⟨2, _⟩ => ⟨S_, .f32⟩
  | .hbm, ⟨3, _⟩ => ⟨S_, .f32⟩
  | .hbm, ⟨4, _⟩ => ⟨S5120x20480, .f32⟩
  | .hbm, ⟨5, _⟩ => ⟨S_, .f32⟩
  | .hbm, ⟨6, _⟩ => ⟨S5120x20480, .f32⟩
  | .hbm, ⟨7, _⟩ => ⟨S5120x20480, .f32⟩
  | .hbm, ⟨8, _⟩ => ⟨S5120x20480, .bf16⟩
  | _, _ => ⟨S5120x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelDw1.lean ====
abbrev S20480x2048 : Shape := ⟨2, ![20480, 2048]⟩
abbrev S2048x5120 : Shape := ⟨2, ![2048, 5120]⟩
abbrev S_ : Shape := ⟨0, ![]⟩
abbrev S1 : Shape := ⟨1, ![1]⟩
abbrev S20480x5120 : Shape := ⟨2, ![20480, 5120]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 7
  | .vmem => 7
  | .smem => 1
  | _ => 0

abbrev bufTy : (tb : Table) → Fin (tcTables nBuf tb) → BufTy
  | .hbm, ⟨0, _⟩ => ⟨S20480x2048, .bf16⟩
  | .hbm, ⟨1, _⟩ => ⟨S2048x5120, .bf16⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1, .f32⟩
  | .hbm, ⟨6, _⟩ => ⟨S20480x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | .local _ .smem, ⟨0, _⟩ => ⟨S1, .f32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![20, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDw1Ideal.lean ====
abbrev S20480x2048 : Shape := ⟨2, ![20480, 2048]⟩
abbrev S2048x5120 : Shape := ⟨2, ![2048, 5120]⟩
abbrev S_ : Shape := ⟨0, ![]⟩
abbrev S20480x5120 : Shape := ⟨2, ![20480, 5120]⟩

abbrev nBuf : Space → Nat
  | .hbm => 9
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S2048x5120, .bf16⟩
  | .hbm, ⟨2, _⟩ => ⟨S_, .f32⟩
  | .hbm, ⟨3, _⟩ => ⟨S_, .f32⟩
  | .hbm, ⟨4, _⟩ => ⟨S20480x5120, .f32⟩
  | .hbm, ⟨5, _⟩ => ⟨S_, .f32⟩
  | .hbm, ⟨6, _⟩ => ⟨S20480x5120, .f32⟩
  | .hbm, ⟨7, _⟩ => ⟨S20480x5120, .f32⟩
  | .hbm, ⟨8, _⟩ => ⟨S20480x5120, .bf16⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelNorm.lean ====
abbrev S2048x5120 : Shape := ⟨2, ![2048, 5120]⟩
abbrev S2048x128 : Shape := ⟨2, ![2048, 128]⟩
abbrev S5120 : Shape := ⟨1, ![5120]⟩
abbrev S1x5120 : Shape := ⟨2, ![1, 5120]⟩
abbrev S8x5120 : Shape := ⟨2, ![8, 5120]⟩
abbrev S64x5120 : Shape := ⟨2, ![64, 5120]⟩
abbrev S64x128 : Shape := ⟨2, ![64, 128]⟩
abbrev S64x1 : Shape := ⟨2, ![64, 1]⟩
abbrev S8x8x5120 : Shape := ⟨3, ![8, 8, 5120]⟩
abbrev S64 : Shape := ⟨1, ![64]⟩
abbrev S2048x1 : Shape := ⟨2, ![2048, 1]⟩
abbrev S2048 : Shape := ⟨1, ![2048]⟩
abbrev S_ : Shape := ⟨0, ![]⟩

abbrev nBuf : Space → Nat
  | .hbm => 12
  | .vmem => 12
  | .smem => 0
  | _ => 0

abbrev bufTy : (tb : Table) → Fin (tcTables nBuf tb) → BufTy
  | .hbm, ⟨0, _⟩ => ⟨S2048x5120, .bf16⟩
  | .hbm, ⟨1, _⟩ => ⟨S2048x128, .f32⟩
  | .hbm, ⟨2, _⟩ => ⟨S5120, .f32⟩
  | .hbm, ⟨3, _⟩ => ⟨S2048x5120, .f32⟩
  | .hbm, ⟨4, _⟩ => ⟨S1x5120, .f32⟩
  | .hbm, ⟨5, _⟩ => ⟨S2048x5120, .bf16⟩
  | .hbm, ⟨6, _⟩ => ⟨S2048x128, .f32⟩
  | .hbm, ⟨7, _⟩ => ⟨S8x5120, .f32⟩
  | .hbm, ⟨8, _⟩ => ⟨S2048x1, .f32⟩
  | .hbm, ⟨9, _⟩ => ⟨S2048, .f32⟩
  | .hbm, ⟨10, _⟩ => ⟨S_, .f32⟩
  | .hbm, ⟨11, _⟩ => ⟨S5120, .f32⟩
  | .local _ .vmem, ⟨0, _⟩ => ⟨S64x5120, .bf16⟩
  | .local _ .vmem, ⟨1, _⟩ => ⟨S64x5120, .bf16⟩
  | .local _ .vmem, ⟨2, _⟩ => ⟨S64x128, .f32⟩
  | .local _ .vmem, ⟨3, _⟩ => ⟨S64x128, .f32⟩
  | .local _ .vmem, ⟨4, _⟩ => ⟨S1x5120, .f32⟩
  | .local _ .vmem, ⟨5, _⟩ => ⟨S64x5120, .f32⟩
  | .local _ .vmem, ⟨6, _⟩ => ⟨S64x5120, .f32⟩
  | .local _ .vmem, ⟨7, _⟩ => ⟨S64x5120, .bf16⟩
  | .local _ .vmem, ⟨8, _⟩ => ⟨S64x5120, .bf16⟩
  | .local _ .vmem, ⟨9, _⟩ => ⟨S64x128, .f32⟩
  | .local _ .vmem, ⟨10, _⟩ => ⟨S64x128, .f32⟩
  | .local _ .vmem, ⟨11, _⟩ => ⟨S8x5120, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormIdeal.lean ====
abbrev S2048x5120 : Shape := ⟨2, ![2048, 5120]⟩
abbrev S2048x128 : Shape := ⟨2, ![2048, 128]⟩
abbrev S5120 : Shape := ⟨1, ![5120]⟩
abbrev S2048x1 : Shape := ⟨2, ![2048, 1]⟩
abbrev S_ : Shape := ⟨0, ![]⟩
abbrev S1x5120 : Shape := ⟨2, ![1, 5120]⟩
abbrev S2048 : Shape := ⟨1, ![2048]⟩

abbrev nBuf : Space → Nat
  | .hbm => 27
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S2048x128, .f32⟩
  | .hbm, ⟨2, _⟩ => ⟨S5120, .f32⟩
  | .hbm, ⟨3, _⟩ => ⟨S2048x5120, .f32⟩
  | .hbm, ⟨4, _⟩ => ⟨S2048x1, .f32⟩
  | .hbm, ⟨5, _⟩ => ⟨S2048x5120, .f32⟩
  | .hbm, ⟨6, _⟩ => ⟨S2048x5120, .f32⟩
  | .hbm, ⟨7, _⟩ => ⟨S2048x5120, .f32⟩
  | .hbm, ⟨8, _⟩ => ⟨S2048x5120, .f32⟩
  | .hbm, ⟨9, _⟩ => ⟨S_, .f32⟩
  | .hbm, ⟨10, _⟩ => ⟨S5120, .f32⟩
  | .hbm, ⟨11, _⟩ => ⟨S1x5120, .f32⟩
  | .hbm, ⟨12, _⟩ => ⟨S2048x5120, .f32⟩
  | .hbm, ⟨13, _⟩ => ⟨S2048x5120, .f32⟩
  | .hbm, ⟨14, _⟩ => ⟨S2048x5120, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048x1, .f32⟩
  | .hbm, ⟨21, _⟩ => ⟨S2048x5120, .f32⟩
  | .hbm, ⟨22, _⟩ => ⟨S2048x5120, .f32⟩
  | .hbm, ⟨23, _⟩ => ⟨S2048x5120, .f32⟩
  | .hbm, ⟨24, _⟩ => ⟨S2048x5120, .f32⟩
  | .hbm, ⟨25, _⟩ => ⟨S2048x5120, .f32⟩
  | .hbm, ⟨26, _⟩ => ⟨S2048x5120, .bf16⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelScalesW1.lean ====
abbrev S1280x320 : Shape := ⟨2, ![1280, 320]⟩
abbrev S8x128 : Shape := ⟨2, ![8, 128]⟩
abbrev S128x320 : Shape := ⟨2, ![128, 320]⟩
abbrev S1x1280x320 : Shape := ⟨3, ![1, 1280, 320]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S1280x320, .f32⟩
  | .hbm, ⟨1, _⟩ => ⟨S1280x320, .f32⟩
  | .hbm, ⟨2, _⟩ => ⟨S1280x320, .f32⟩
  | .hbm, ⟨3, _⟩ => ⟨S8x128, .f32⟩
  | .hbm, ⟨4, _⟩ => ⟨S1x1, .f32⟩
  | .hbm, ⟨5, _⟩ => ⟨S_, .f32⟩
  | .local _ .vmem, ⟨0, _⟩ => ⟨S128x320, .f32⟩
  | .local _ .vmem, ⟨1, _⟩ => ⟨S128x320, .f32⟩
  | .local _ .vmem, ⟨2, _⟩ => ⟨S1280x320, .f32⟩
  | .local _ .vmem, ⟨3, _⟩ => ⟨S128x320, .f32⟩
  | .local _ .vmem, ⟨4, _⟩ => ⟨S128x320, .f32⟩
  | .local _ .vmem, ⟨5, _⟩ => ⟨S128x320, .f32⟩
  | .local _ .vmem, ⟨6, _⟩ => ⟨S128x320, .f32⟩
  | .local _ .vmem, ⟨7, _⟩ => ⟨S8x128, .f32⟩
  | _, _ => ⟨S1280x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelScalesW1Ideal.lean ====
abbrev S1280x320 : Shape := ⟨2, ![1280, 320]⟩
abbrev S8x128 : Shape := ⟨2, ![8, 128]⟩
abbrev S128x320 : Shape := ⟨2, ![128, 320]⟩
abbrev S1x1280x320 : Shape := ⟨3, ![1, 1280, 320]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S1280x320, .f32⟩
  | .hbm, ⟨1, _⟩ => ⟨S1280x320, .f32⟩
  | .hbm, ⟨2, _⟩ => ⟨S1280x320, .f32⟩
  | .hbm, ⟨3, _⟩ => ⟨S8x128, .f32⟩
  | .hbm, ⟨4, _⟩ => ⟨S1x1, .f32⟩
  | .hbm, ⟨5, _⟩ => ⟨S_, .f32⟩
  | .local _ .vmem, ⟨0, _⟩ => ⟨S128x320, .f32⟩
  | .local _ .vmem, ⟨1, _⟩ => ⟨S128x320, .f32⟩
  | .local _ .vmem, ⟨2, _⟩ => ⟨S1280x320, .f32⟩
  | .local _ .vmem, ⟨3, _⟩ => ⟨S128x320, .f32⟩
  | .local _ .vmem, ⟨4, _⟩ => ⟨S128x320, .f32⟩
  | .local _ .vmem, ⟨5, _⟩ => ⟨S128x320, .f32⟩
  | .local _ .vmem, ⟨6, _⟩ => ⟨S128x320, .f32⟩
  | .local _ .vmem, ⟨7, _⟩ => ⟨S8x128, .f32⟩
  | _, _ => ⟨S1280x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F] [Named F]

def κ : String → Option EReal := fun
  | "inv_divisor" => some ((1 / 2688 : ℝ) : EReal)
  | _ => none

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceScalesW1Ideal.lean ====
abbrev S1280x320 : Shape := ⟨2, ![1280, 320]⟩
abbrev S1x1 : Shape := ⟨2, ![1, 1]⟩
abbrev S1x1280x320 : Shape := ⟨3, ![1, 1280, 320]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 3
  | .smem => 0
  | _ => 0

abbrev bufTy : (tb : Table) → Fin (tcTables nBuf tb) → BufTy
  | .hbm, ⟨0, _⟩ => ⟨S1280x320, .f32⟩
  | .hbm, ⟨1, _⟩ => ⟨S1280x320, .f32⟩
  | .hbm, ⟨2, _⟩ => ⟨S1x1, .f32⟩
  | .hbm, ⟨3, _⟩ => ⟨S_, .f32⟩
  | .local _ .vmem, ⟨0, _⟩ => ⟨S1280x320, .f32⟩
  | .local _ .vmem, ⟨1, _⟩ => ⟨S1280x320, .f32⟩
  | .local _ .vmem, ⟨2, _⟩ => ⟨S1x1, .f32⟩
  | _, _ => ⟨S1280x320, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1280x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelScalesW2.lean ====
abbrev S320x1280 : Shape := ⟨2, ![320, 1280]⟩
abbrev S8x128 : Shape := ⟨2, ![8, 128]⟩
abbrev S1x320x1280 : Shape := ⟨3, ![1, 320, 1280]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S320x1280, .f32⟩
  | .hbm, ⟨1, _⟩ => ⟨S320x1280, .f32⟩
  | .hbm, ⟨2, _⟩ => ⟨S320x1280, .f32⟩
  | .hbm, ⟨3, _⟩ => ⟨S8x128, .f32⟩
  | .hbm, ⟨4, _⟩ => ⟨S1x1, .f32⟩
  | .hbm, ⟨5, _⟩ => ⟨S_, .f32⟩
  | .local _ .vmem, ⟨0, _⟩ => ⟨S320x1280, .f32⟩
  | .local _ .vmem, ⟨1, _⟩ => ⟨S320x1280, .f32⟩
  | .local _ .vmem, ⟨2, _⟩ => ⟨S320x1280, .f32⟩
  | .local _ .vmem, ⟨3, _⟩ => ⟨S320x1280, .f32⟩
  | .local _ .vmem, ⟨4, _⟩ => ⟨S8x128, .f32⟩
  | _, _ => ⟨S320x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S320x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S320x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S320x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S320x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelScalesW2Ideal.lean ====
variable {F : FTy → Type} [FloatOps F] [Named F]
def κ : String → Option EReal := fun
  | "inv_divisor" => some ((1 / 2688 : ℝ) : EReal)
  | _ => none
-- ==== ReferenceScalesW2Ideal.lean ====
abbrev S320x1280 : Shape := ⟨2, ![320, 1280]⟩
abbrev S1x1 : Shape := ⟨2, ![1, 1]⟩
abbrev S1x320x1280 : Shape := ⟨3, ![1, 320, 1280]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 3
  | .smem => 0
  | _ => 0

abbrev bufTy : (tb : Table) → Fin (tcTables nBuf tb) → BufTy
  | .hbm, ⟨0, _⟩ => ⟨S320x1280, .f32⟩
  | .hbm, ⟨1, _⟩ => ⟨S320x1280, .f32⟩
  | .hbm, ⟨2, _⟩ => ⟨S1x1, .f32⟩
  | .hbm, ⟨3, _⟩ => ⟨S_, .f32⟩
  | .local _ .vmem, ⟨0, _⟩ => ⟨S320x1280, .f32⟩
  | .local _ .vmem, ⟨1, _⟩ => ⟨S320x1280, .f32⟩
  | .local _ .vmem, ⟨2, _⟩ => ⟨S1x1, .f32⟩
  | _, _ => ⟨S320x1280, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S320x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S320x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelScalesC.lean ====
abbrev S1280x2048 : Shape := ⟨2, ![1280, 2048]⟩
abbrev S8x128 : Shape := ⟨2, ![8, 128]⟩
abbrev S128x2048 : Shape := ⟨2, ![128, 2048]⟩
abbrev S1x8x128 : Shape := ⟨3, ![1, 8, 128]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S1280x2048, .f32⟩
  | .hbm, ⟨1, _⟩ => ⟨S8x128, .f32⟩
  | .hbm, ⟨2, _⟩ => ⟨S1280x2048, .f32⟩
  | .hbm, ⟨3, _⟩ => ⟨S1280x2048, .f32⟩
  | .hbm, ⟨4, _⟩ => ⟨S8x128, .f32⟩
  | .hbm, ⟨5, _⟩ => ⟨S1x1, .f32⟩
  | .hbm, ⟨6, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S8x128, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S8x128, .f32⟩
  | _, _ => ⟨S1280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelScalesCIdeal.lean ====
abbrev S1280x2048 : Shape := ⟨2, ![1280, 2048]⟩
abbrev S8x128 : Shape := ⟨2, ![8, 128]⟩
abbrev S128x2048 : Shape := ⟨2, ![128, 2048]⟩
abbrev S1x8x128 : Shape := ⟨3, ![1, 8, 128]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S1280x2048, .f32⟩
  | .hbm, ⟨1, _⟩ => ⟨S8x128, .f32⟩
  | .hbm, ⟨2, _⟩ => ⟨S1280x2048, .f32⟩
  | .hbm, ⟨3, _⟩ => ⟨S1280x2048, .f32⟩
  | .hbm, ⟨4, _⟩ => ⟨S8x128, .f32⟩
  | .hbm, ⟨5, _⟩ => ⟨S1x1, .f32⟩
  | .hbm, ⟨6, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S8x128, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S8x128, .f32⟩
  | _, _ => ⟨S1280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F] [Named F]

def κ : String → Option EReal := fun
  | "inv_divisor" => some ((1 / 2688 : ℝ) : EReal)
  | _ => none

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceScalesCIdeal.lean ====
abbrev S1280x2048 : Shape := ⟨2, ![1280, 2048]⟩
abbrev S8x128 : Shape := ⟨2, ![8, 128]⟩
abbrev S1x1 : Shape := ⟨2, ![1, 1]⟩
abbrev S1x8x128 : Shape := ⟨3, ![1, 8, 128]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 4
  | .smem => 0
  | _ => 0

abbrev bufTy : (tb : Table) → Fin (tcTables nBuf tb) → BufTy
  | .hbm, ⟨0, _⟩ => ⟨S1280x2048, .f32⟩
  | .hbm, ⟨1, _⟩ => ⟨S8x128, .f32⟩
  | .hbm, ⟨2, _⟩ => ⟨S1280x2048, .f32⟩
  | .hbm, ⟨3, _⟩ => ⟨S1x1, .f32⟩
  | .hbm, ⟨4, _⟩ => ⟨S_, .f32⟩
  | .local _ .vmem, ⟨0, _⟩ => ⟨S1280x2048, .f32⟩
  | .local _ .vmem, ⟨1, _⟩ => ⟨S8x128, .f32⟩
  | .local _ .vmem, ⟨2, _⟩ => ⟨S1280x2048, .f32⟩
  | .local _ .vmem, ⟨3, _⟩ => ⟨S1x1, .f32⟩
  | _, _ => ⟨S1280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1280x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelScalesR.lean ====
abbrev S128x20480 : Shape := ⟨2, ![128, 20480]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S128x20480, .f32⟩
  | .hbm, ⟨1, _⟩ => ⟨S8x128, .f32⟩
  | .hbm, ⟨2, _⟩ => ⟨S128x20480, .f32⟩
  | .hbm, ⟨3, _⟩ => ⟨S128x20480, .f32⟩
  | .hbm, ⟨4, _⟩ => ⟨S8x128, .f32⟩
  | .hbm, ⟨5, _⟩ => ⟨S1x1, .f32⟩
  | .hbm, ⟨6, _⟩ => ⟨S_, .f32⟩
  | .local _ .vmem, ⟨0, _⟩ => ⟨S128x20480, .f32⟩
  | .local _ .vmem, ⟨1, _⟩ => ⟨S8x128, .f32⟩
  | .local _ .vmem, ⟨2, _⟩ => ⟨S128x20480, .f32⟩
  | .local _ .vmem, ⟨3, _⟩ => ⟨S128x20480, .f32⟩
  | .local _ .vmem, ⟨4, _⟩ => ⟨S8x128, .f32⟩
  | _, _ => ⟨S128x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x20480 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x20480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelScalesRIdeal.lean ====
variable {F : FTy → Type} [FloatOps F] [Named F]
def κ : String → Option EReal := fun
  | "inv_divisor" => some ((1 / 2688 : ℝ) : EReal)
  | _ => none
-- ==== ReferenceScalesRIdeal.lean ====
abbrev S128x20480 : Shape := ⟨2, ![128, 20480]⟩
abbrev S8x128 : Shape := ⟨2, ![8, 128]⟩
abbrev S1x1 : Shape := ⟨2, ![1, 1]⟩
abbrev S1x8x128 : Shape := ⟨3, ![1, 8, 128]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 4
  | .smem => 0
  | _ => 0

abbrev bufTy : (tb : Table) → Fin (tcTables nBuf tb) → BufTy
  | .hbm, ⟨0, _⟩ => ⟨S128x20480, .f32⟩
  | .hbm, ⟨1, _⟩ => ⟨S8x128, .f32⟩
  | .hbm, ⟨2, _⟩ => ⟨S128x20480, .f32⟩
  | .hbm, ⟨3, _⟩ => ⟨S1x1, .f32⟩
  | .hbm, ⟨4, _⟩ => ⟨S_, .f32⟩
  | .local _ .vmem, ⟨0, _⟩ => ⟨S128x20480, .f32⟩
  | .local _ .vmem, ⟨1, _⟩ => ⟨S8x128, .f32⟩
  | .local _ .vmem, ⟨2, _⟩ => ⟨S128x20480, .f32⟩
  | .local _ .vmem, ⟨3, _⟩ => ⟨S1x1, .f32⟩
  | _, _ => ⟨S128x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x20480 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelWmax1.lean ====
abbrev S20480x5120 : Shape := ⟨2, ![20480, 5120]⟩
abbrev S320x1280 : Shape := ⟨2, ![320, 1280]⟩
abbrev S2048x256 : Shape := ⟨2, ![2048, 256]⟩
abbrev S16x128 : Shape := ⟨2, ![16, 128]⟩
abbrev S2048x128 : Shape := ⟨2, ![2048, 128]⟩
abbrev S128x16x128 : Shape := ⟨3, ![128, 16, 128]⟩
abbrev S128x128 : Shape := ⟨2, ![128, 128]⟩
abbrev S8x16x128 : Shape := ⟨3, ![8, 16, 128]⟩
abbrev S8x128 : Shape := ⟨2, ![8, 128]⟩

abbrev nBuf : Space → Nat
  | .hbm => 2
  | .vmem => 4
  | .smem => 0
  | _ => 0

abbrev bufTy : (tb : Table) → Fin (tcTables nBuf tb) → BufTy
  | .hbm, ⟨0, _⟩ => ⟨S20480x5120, .f32⟩
  | .hbm, ⟨1, _⟩ => ⟨S320x1280, .f32⟩
  | .local _ .vmem, ⟨0, _⟩ => ⟨S2048x256, .f32⟩
  | .local _ .vmem, ⟨1, _⟩ => ⟨S2048x256, .f32⟩
  | .local _ .vmem, ⟨2, _⟩ => ⟨S16x128, .f32⟩
  | .local _ .vmem, ⟨3, _⟩ => ⟨S16x128, .f32⟩
  | _, _ => ⟨S20480x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![10, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== KernelWmax1Ideal.lean ====
abbrev S20480x5120 : Shape := ⟨2, ![20480, 5120]⟩
abbrev S320x1280 : Shape := ⟨2, ![320, 1280]⟩
abbrev S2048x256 : Shape := ⟨2, ![2048, 256]⟩
abbrev S16x128 : Shape := ⟨2, ![16, 128]⟩
abbrev S2048x128 : Shape := ⟨2, ![2048, 128]⟩
abbrev S128x16x128 : Shape := ⟨3, ![128, 16, 128]⟩
abbrev S128x128 : Shape := ⟨2, ![128, 128]⟩
abbrev S8x16x128 : Shape := ⟨3, ![8, 16, 128]⟩
abbrev S8x128 : Shape := ⟨2, ![8, 128]⟩

abbrev nBuf : Space → Nat
  | .hbm => 2
  | .vmem => 4
  | .smem => 0
  | _ => 0

abbrev bufTy : (tb : Table) → Fin (tcTables nBuf tb) → BufTy
  | .hbm, ⟨0, _⟩ => ⟨S20480x5120, .f32⟩
  | .hbm, ⟨1, _⟩ => ⟨S320x1280, .f32⟩
  | .local _ .vmem, ⟨0, _⟩ => ⟨S2048x256, .f32⟩
  | .local _ .vmem, ⟨1, _⟩ => ⟨S2048x256, .f32⟩
  | .local _ .vmem, ⟨2, _⟩ => ⟨S16x128, .f32⟩
  | .local _ .vmem, ⟨3, _⟩ => ⟨S16x128, .f32⟩
  | _, _ => ⟨S20480x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![10, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceWmax1Ideal.lean ====
abbrev S20480x5120 : Shape := ⟨2, ![20480, 5120]⟩
abbrev S1280x16x5120 : Shape := ⟨3, ![1280, 16, 5120]⟩
abbrev S_ : Shape := ⟨0, ![]⟩
abbrev S1280x5120 : Shape := ⟨2, ![1280, 5120]⟩
abbrev S5120x1280 : Shape := ⟨2, ![5120, 1280]⟩
abbrev S320x16x1280 : Shape := ⟨3, ![320, 16, 1280]⟩
abbrev S320x1280 : Shape := ⟨2, ![320, 1280]⟩

abbrev nBuf : Space → Nat
  | .hbm => 9
  | .vmem => 0
  | .smem => 0
  | _ => 0

abbrev bufTy : (tb : Table) → Fin (tcTables nBuf tb) → BufTy
  | .hbm, ⟨0, _⟩ => ⟨S20480x5120, .f32⟩
  | .hbm, ⟨1, _⟩ => ⟨S1280x16x5120, .f32⟩
  | .hbm, ⟨2, _⟩ => ⟨S1280x16x5120, .f32⟩
  | .hbm, ⟨3, _⟩ => ⟨S_, .f32⟩
  | .hbm, ⟨4, _⟩ => ⟨S1280x5120, .f32⟩
  | .hbm, ⟨5, _⟩ => ⟨S5120x1280, .f32⟩
  | .hbm, ⟨6, _⟩ => ⟨S320x16x1280, .f32⟩
  | .hbm, ⟨7, _⟩ => ⟨S_, .f32⟩
  | .hbm, ⟨8, _⟩ => ⟨S320x1280, .f32⟩
  | _, _ => ⟨S20480x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelWmax2.lean ====
abbrev S5120x20480 : Shape := ⟨2, ![5120, 20480]⟩
abbrev S1280x320 : Shape := ⟨2, ![1280, 320]⟩
abbrev S5120x256 : Shape := ⟨2, ![5120, 256]⟩
abbrev S16x320 : Shape := ⟨2, ![16, 320]⟩
abbrev S5120x128 : Shape := ⟨2, ![5120, 128]⟩
abbrev S320x16x128 : Shape := ⟨3, ![320, 16, 128]⟩
abbrev S320x128 : Shape := ⟨2, ![320, 128]⟩
abbrev S128x320 : Shape := ⟨2, ![128, 320]⟩
abbrev S8x16x320 : Shape := ⟨3, ![8, 16, 320]⟩
abbrev S8x320 : Shape := ⟨2, ![8, 320]⟩

abbrev nBuf : Space → Nat
  | .hbm => 2
  | .vmem => 4
  | .smem => 0
  | _ => 0

abbrev bufTy : (tb : Table) → Fin (tcTables nBuf tb) → BufTy
  | .hbm, ⟨0, _⟩ => ⟨S5120x20480, .f32⟩
  | .hbm, ⟨1, _⟩ => ⟨S1280x320, .f32⟩
  | .local _ .vmem, ⟨0, _⟩ => ⟨S5120x256, .f32⟩
  | .local _ .vmem, ⟨1, _⟩ => ⟨S5120x256, .f32⟩
  | .local _ .vmem, ⟨2, _⟩ => ⟨S16x320, .f32⟩
  | .local _ .vmem, ⟨3, _⟩ => ⟨S16x320, .f32⟩
  | _, _ => ⟨S5120x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 80], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S5120x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceWmax2Ideal.lean ====
abbrev S5120x20480 : Shape := ⟨2, ![5120, 20480]⟩
abbrev S320x16x20480 : Shape := ⟨3, ![320, 16, 20480]⟩
abbrev S_ : Shape := ⟨0, ![]⟩
abbrev S320x20480 : Shape := ⟨2, ![320, 20480]⟩
abbrev S20480x320 : Shape := ⟨2, ![20480, 320]⟩
abbrev S1280x16x320 : Shape := ⟨3, ![1280, 16, 320]⟩
abbrev S1280x320 : Shape := ⟨2, ![1280, 320]⟩

abbrev nBuf : Space → Nat
  | .hbm => 9
  | .vmem => 0
  | .smem => 0
  | _ => 0

abbrev bufTy : (tb : Table) → Fin (tcTables nBuf tb) → BufTy
  | .hbm, ⟨0, _⟩ => ⟨S5120x20480, .f32⟩
  | .hbm, ⟨1, _⟩ => ⟨S320x16x20480, .f32⟩
  | .hbm, ⟨2, _⟩ => ⟨S320x16x20480, .f32⟩
  | .hbm, ⟨3, _⟩ => ⟨S_, .f32⟩
  | .hbm, ⟨4, _⟩ => ⟨S320x20480, .f32⟩
  | .hbm, ⟨5, _⟩ => ⟨S20480x320, .f32⟩
  | .hbm, ⟨6, _⟩ => ⟨S1280x16x320, .f32⟩
  | .hbm, ⟨7, _⟩ => ⟨S_, .f32⟩
  | .hbm, ⟨8, _⟩ => ⟨S1280x320, .f32⟩
  | _, _ => ⟨S5120x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Common.lean ====
/- Facts shared by the calls taken: a matrix product read at one place as a sum over the
   contracted coordinate, a long sum cut into equal stretches, a running sum that starts again every `J` steps, and what a block scale is.
   None of them mentions a program. -/
module

public import Idealize.ShloMosaic.Lib.StackMember
public import Idealize.ShloMosaic.Lib.MatmulPlain
public import Idealize.ShloMosaic.Lib.ValueIdx
public import Idealize.ShloMosaic.PureOps.Ideal.Laws

@[expose] public section

noncomputable section

namespace Cert.Common

open Idealize.ShloMosaic Idealize.ShloMosaic.ValueIdx
open scoped BigOperators

/-- The offsets (0, 0) are zero on every axis. -/
theorem hz2 : (![0, 0] : Fin 2 → Nat) = fun _ => 0 := funext fun a => by fin_cases a <;> rfl
/-- The offset (0) is zero on its one axis. -/
theorem hz1 : (![0] : Fin 1 → Nat) = fun _ => 0 := funext fun a => by fin_cases a; rfl

/-- The word `0x00000000` is the number zero. -/
theorem ofBits_zero : Ideal.ofBits .f32 0x00000000#32 = 0 := by simp [Ideal.ofBits, Ideal.ieee]
/-- The word `0x40000000` is the number two. -/
theorem ofBits_two : Ideal.ofBits .f32 0x40000000#32 = ((2 : ℝ) : EReal) := by
  simp [Ideal.ofBits, Ideal.ieee, -EReal.coe_mul]; norm_num
/-- The word `0x45A00000` is the number 5120. -/
theorem ofBits_5120 : Ideal.ofBits .f32 0x45A00000#32 = ((5120 : ℝ) : EReal) := by
  simp [Ideal.ofBits, Ideal.ieee, -EReal.coe_mul]; norm_num

/-- The word `0x45280000` is the number 2688. -/
theorem ofBits_2688 : Ideal.ofBits .f32 0x45280000#32 = ((2688 : ℝ) : EReal) := by
  simp [Ideal.ofBits, Ideal.ieee, -EReal.coe_mul]; norm_num

/-- A number times the rational 1/2688 is that number over 2688. -/
theorem over_2688 (a : EReal) : a * ((1 / 2688 : ℝ) : EReal) = Ideal.div a (Ideal.ofBits .f32 0x45280000#32) := by
  rw [ofBits_2688, Ideal.div_coe (by norm_num : (2688 : ℝ) ≠ 0)]

/-- The tensor scale, from the largest entry: that entry over 2688, or one where it is zero. -/
@[irreducible] def tensorScale (a : EReal) : EReal :=
  Scalar.select (Ideal.cmp .oeq a (Ideal.ofBits .f32 0x00000000#32)) (Ideal.ofBits .f32 0x3F800000#32)
    (Ideal.div a (Ideal.ofBits .f32 0x45280000#32))

/-- A block scale: the maximum of the block times a constant, over the tensor scale, kept between zero and 448. -/
@[irreducible] def blockScale (a ts : EReal) : EReal :=
  min (Ideal.ofBits .f32 0x43E00000#32) (max (Ideal.ofBits .f32 0x00000000#32) (Ideal.div (a * Ideal.ofBits .f32 0x3E2AB556#32) ts))

/-- An array with one value everywhere, read at one place. -/
theorem broadcast_at {s : Shape} {α : Type} (t : α) (i : s.Idx) : broadcast s t i = t := rfl

/-- The operations that make an array of block scales, read at one place. -/
theorem blockScale_at {s : Shape} (x : FVec Ideal s .f32) (t : Ideal .f32) (h : FTy.bits .fp8e4m3 < FTy.bits .f32) (i : s.Idx) :
    extf .f32 (truncf .fp8e4m3 (minimumf (broadcast s (FloatOps.ofBits .f32 0x43E00000#32)) (maximumf (broadcast s (FloatOps.ofBits .f32 0x00000000#32))
      (divf (mulf x (broadcast s (FloatOps.ofBits .f32 0x3E2AB556#32))) (broadcast s t)))) h) h i = blockScale (x i) t := by
  unfold blockScale
  exact rfl

/-! ## Products read at one place -/

/-- The product of an [M, K] matrix with the transpose of an [N, K] matrix, at (r, c): Σ_k lhs[r, k] · rhs[c, k]. -/
theorem hostDot_transposedRhs {M K N : ℕ} {φ₁ φ₂ : FTy} (prec : Option ContractPrecision)
    (A : FVec Ideal ⟨2, ![M, K]⟩ φ₁) (B : FVec Ideal ⟨2, ![N, K]⟩ φ₂) (r : Fin M) (c : Fin N) :
    Host.dotGeneral (DotDims.transposedRhs M K N) prec A B (ix2 r c) = ∑ k : Fin K, A (ix2 r k) * B (ix2 c k) := by
  show FloatOps.matmul (DotDims.transposedRhs M K N) prec A B (fun _ => (0 : EReal)) (ix2 r c) = _
  rw [Ideal.matmul_transposedRhs_apply, zero_add]

/-- The dimension numbers of the product that contracts the left operand's rows with the right operand's columns:
    [K, M] by [N, K] to [M, N]. -/
def leftRows (M K N : ℕ) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

/-- That product at (r, c): Σ_k lhs[k, r] · rhs[c, k]. -/
theorem hostDot_leftRows {M K N : ℕ} {φ₁ φ₂ : FTy} (prec : Option ContractPrecision)
    (A : FVec Ideal ⟨2, ![K, M]⟩ φ₁) (B : FVec Ideal ⟨2, ![N, K]⟩ φ₂) (r : Fin M) (c : Fin N) :
    Host.dotGeneral (leftRows M K N) prec A B (ix2 r c) = ∑ k : Fin K, A (ix2 k r) * B (ix2 c k) := by
  show FloatOps.dotGeneral _ prec _ A B (ix2 r c) = _
  rw [Ideal.dotGeneral_apply, ← Equiv.sum_comp (contrEquiv1 (leftRows M K N) K rfl rfl).symm]
  refine Finset.sum_congr rfl fun k _ => ?_
  have hk := contrEquiv1_symm_val (leftRows M K N) K rfl rfl k
  have el : (leftRows M K N).lhsIdx (ix2 r c) ((contrEquiv1 _ K rfl rfl).symm k) = ix2 k r := by
    funext a; apply Fin.ext
    match a with
    | ⟨0, _⟩ => exact hk
    | ⟨1, _⟩ => rfl
  have er : (leftRows M K N).rhsIdx (ix2 r c) ((contrEquiv1 _ K rfl rfl).symm k) = ix2 c k := by
    funext a; apply Fin.ext
    match a with
    | ⟨0, _⟩ => rfl
    | ⟨1, _⟩ => exact hk
  rw [el, er]

/-- The product of two scalars, laid out over any shape, is that product at every place. -/
theorem bcast_scalar {s t : Shape} [Subsingleton s.Idx] (dims : Fin s.rank → Fin t.rank) (h : s.BroadcastsInDim t dims)
    (a b : FVec Ideal s .f32) (z : s.Idx) (i : t.Idx) :
    broadcastInDim t dims h (mulf a b) i = (a z * b z : EReal) := by
  unfold broadcastInDim
  rw [mulf_apply]
  congr 2 <;> exact Subsingleton.elim _ _

/-! ## Sums -/

/-- A sum of `n · w` terms is the sum over `n` stretches of the sums over each stretch's `w` terms. -/
theorem sum_stretches {M : Type*} [AddCommMonoid M] (n w T : ℕ) (hT : n * w = T) (f : Fin T → M) (G : ℕ → M)
    (hG : ∀ (s : ℕ) (hs : s < n), G s = ∑ k : Fin w, f ⟨s * w + k.val, by
      have := k.isLt; have : (s + 1) * w ≤ n * w := Nat.mul_le_mul_right w hs
      rw [Nat.succ_mul] at this; omega⟩) :
    ∑ s ∈ Finset.range n, G s = ∑ k : Fin T, f k := by
  subst hT
  rw [Finset.sum_range, ← Equiv.sum_comp finProdFinEquiv f, Fintype.sum_prod_type]
  refine Finset.sum_congr rfl fun s _ => ?_
  rw [hG s.val s.isLt]
  refine Finset.sum_congr rfl fun k _ => ?_
  congr 1
  apply Fin.ext
  simp [finProdFinEquiv, Nat.add_comm, Nat.mul_comm]

/-- A quantity that is `P n` at the multiples of `J` and gains `P n` at every other step `n` is, after step `n`, the sum
    of `P` over the steps since the last multiple of `J`. -/
theorem running_sum {ι M : Type*} [AddCommMonoid M] (N J : ℕ) (S : (n : ℕ) → n < N → ι → M) (P : ℕ → ι → M)
    (hA : ∀ (n : ℕ) (h : n < N) (i : ι), n % J = 0 → S n h i = P n i)
    (hB : ∀ (n : ℕ) (h : n + 1 < N) (i : ι), ¬(n + 1) % J = 0 → S (n + 1) h i = S n (Nat.lt_of_succ_lt h) i + P (n + 1) i) :
    ∀ (n : ℕ) (h : n < N) (i : ι), S n h i = ∑ s ∈ Finset.range (n % J + 1), P (J * (n / J) + s) i := by
  intro n
  induction n with
  | zero =>
    intro h i
    rw [hA 0 h i (Nat.zero_mod J)]
    simp
  | succ n ih =>
    intro h i
    by_cases h0 : (n + 1) % J = 0
    · rw [hA (n + 1) h i h0, h0, Finset.sum_range_one]
      congr 1
      have := Nat.div_add_mod (n + 1) J
      omega
    · rw [hB n h i h0, ih]
      have hm : (n + 1) % J = n % J + 1 := by
        rcases Nat.eq_zero_or_pos J with rfl | hJ
        · simp
        · rw [Nat.add_mod] at h0 ⊢
          rcases Nat.lt_or_ge (n % J + 1 % J) J with hl | hl
          · rcases Nat.lt_or_ge 1 J with h1 | h1
            · rw [Nat.mod_eq_of_lt h1] at hl ⊢; exact Nat.mod_eq_of_lt hl
            · have : J = 1 := by omega
              subst this; simp [Nat.mod_one] at h0
          · exfalso; apply h0
            rcases Nat.lt_or_ge 1 J with h1 | h1
            · rw [Nat.mod_eq_of_lt h1] at hl ⊢
              have : n % J + 1 = J := by have := Nat.mod_lt n hJ; omega
              rw [this, Nat.mod_self]
            · have : J = 1 := by omega
              subst this; simp [Nat.mod_one]
      have hd : J * ((n + 1) / J) = J * (n / J) := by
        have a := Nat.div_add_mod (n + 1) J
        have b := Nat.div_add_mod n J
        omega
      rw [hm, hd, Finset.sum_range_succ _ (n % J + 1)]
      congr 2
      have b := Nat.div_add_mod n J
      omega

end Cert.Common

end
-- ==== Proof.H.lean ====
/- The product h = max((xn · w1ᵀ) · (s · s'), 0), kept as 160 planes of 128 columns each: the kernel walks a grid of
   [1024, 512] blocks of the product, forms each whole, and lays its four groups of 128 columns into four planes. The
   theorem `value` says that the array it leaves is the product w1 · xnᵀ scaled and cut at zero, its rows split into
   planes and the last two axes exchanged, which is what the reference computes in one step. -/
module

public import proofs.«01_k».proof.Proof.Gen.KernelHIdeal.Value
public import proofs.«01_k».proof.Proof.Gen.ReferenceHIdeal.Run
public import proofs.«01_k».proof.Proof.Common
public import Idealize.ShloMosaic.Lib.Tactic.ValueTie

@[expose] public section

set_option maxRecDepth 16384

noncomputable section

namespace Cert.KernelHIdeal.Hand

open Cert.KernelHIdeal Cert.KernelHIdeal.Gen
open Idealize.ShloMosaic hiding ix1 ix2 ix3 eq_ix1 eq_ix2 eq_ix3
open Idealize.ShloMosaic.TcCoe Idealize.ShloMosaic.ValueIdx
open Idealize.ShloMosaic.Tactic Cert.Common
open scoped BigOperators

variable (m : (ℓ : Loc nD τ sig) → Buf (Elt Ideal) ℓ)

/-- The arguments as arrays: xn, w1 and the two scales. -/
abbrev A0 (c : Dev nD) : S2048x5120.Idx → EReal := m ((c : Thread nD τ).loc main_arg0)
abbrev A1 (c : Dev nD) : S20480x5120.Idx → EReal := m ((c : Thread nD τ).loc main_arg1)
abbrev A2 (c : Dev nD) : S_.Idx → EReal := m ((c : Thread nD τ).loc main_arg2)
abbrev A3 (c : Dev nD) : S_.Idx → EReal := m ((c : Thread nD τ).loc main_arg3)

/-! ## What a point writes -/

/-- The element of the block at plane p, row r, column q of the plane: max((Σ_k x0[r, k] · x1[128 p + q, k]) · s, 0). -/
def elt (x0 : Vec Ideal S1024x5120 .bf16) (x1 : Vec Ideal S512x5120 .bf16) (s : EReal) (p : Fin 4) (r : Fin 1024) (q : Fin 128) :
    EReal :=
  max ((∑ k : Fin 5120, x0 (ix2 r k) * x1 (ix2 (⟨128 * p.val + q.val, by omega⟩ : Fin 512) k)) * s) 0

/-- The matmul of a point, at (r, q): Σ_k x0[r, k] · x1[q, k]. -/
theorem prod_apply (x0 : Vec Ideal S1024x5120 .bf16) (x1 : Vec Ideal S512x5120 .bf16) (r : Fin 1024) (q : Fin 512) :
    k0_pay2 (F := Ideal) x0 x1 (ix2 r q) = ∑ k : Fin 5120, x0 (ix2 r k) * x1 (ix2 q k) := by
  unfold k0_pay2
  show FloatOps.matmul (F := Ideal) (DotDims.transposedRhs 1024 5120 512) none x0 x1 _ (ix2 r q) = _
  rw [Ideal.matmul_transposedRhs_apply, constant_apply]
  show Ideal.ofBits .f32 0x00000000#32 + _ = _
  rw [ofBits_zero, zero_add]

/-- One plane as the body computes it: the columns from 128 p on of the product, scaled and cut at zero. -/
theorem plane_apply (x0 : Vec Ideal S1024x5120 .bf16) (x1 : Vec Ideal S512x5120 .bf16) (s : EReal) (p : Fin 4) (o : ℕ)
    (ho : o = 128 * p.val) (hs : S1024x512.Slices ![0, o] S1024x128) (x : S1x1024x128.Idx) :
    shapeCast S1x1024x128 (maximumf (F := Ideal) (φ := .f32) (mulf (extractStridedSlice S1024x128 ![0, o] (k0_pay2 (F := Ideal) x0 x1) hs)
      (broadcast S1024x128 s)) (broadcast S1024x128 (Scalar.ofBits .f32 0x00000000#32))) shapeCasts_S1024x128_S1x1024x128 x
      = elt x0 x1 s p (x 1) (x 2) := by
  refine (shapeCast_addUnit_apply ![1024, 128] _ shapeCasts_S1024x128_S1x1024x128 x).trans ?_
  show max (extractStridedSlice S1024x128 ![0, o] (k0_pay2 (F := Ideal) x0 x1) hs _ * s) (Ideal.ofBits .f32 0x00000000#32) = _
  rw [ofBits_zero]
  have hq : (x 2).val < 128 := (x 2).isLt
  refine congrArg (fun a : EReal => max (a * s) 0) ?_
  refine (extractStridedSlice_apply _ _ hs _ (ix2 (x 1) (⟨128 * p.val + (x 2).val, by omega⟩ : Fin 512)) (fun a => ?_)).trans
    (prod_apply x0 x1 _ _)
  match a with
  | ⟨0, _⟩ => show (x 1).val = 0 + (x 1).val; omega
  | ⟨1, _⟩ => show 128 * p.val + (x 2).val = o + (x 2).val; omega

/-- The place plane p of the block has in it: row r and column q stay. -/
theorem place_apply (x0 : Vec Ideal S1024x5120 .bf16) (x1 : Vec Ideal S512x5120 .bf16) (s : EReal) (p : Fin 4)
    (inb : ∀ a, (![p.val, 0, 0] : Fin 3 → ℕ) a + S1x1024x128.size a ≤ S4x1024x128.size a) (x : S1x1024x128.Idx) :
    elt x0 x1 s p (x 1) (x 2)
      = elt x0 x1 s ((Rect.unit (s := S4x1024x128) ![p.val, 0, 0] S1x1024x128.size inb).emb x 0)
          ((Rect.unit (s := S4x1024x128) ![p.val, 0, 0] S1x1024x128.size inb).emb x 1)
          ((Rect.unit (s := S4x1024x128) ![p.val, 0, 0] S1x1024x128.size inb).emb x 2) := by
  have h0 : (x 0).val < 1 := (x 0).isLt
  have e0 : p = (Rect.unit (s := S4x1024x128) ![p.val, 0, 0] S1x1024x128.size inb).emb x 0 :=
    Fin.ext (show p.val = p.val + 1 * (x 0).val by omega)
  have e1 : x 1 = (Rect.unit (s := S4x1024x128) ![p.val, 0, 0] S1x1024x128.size inb).emb x 1 :=
    Fin.ext (show (x 1).val = 0 + 1 * (x 1).val by omega)
  have e2 : x 2 = (Rect.unit (s := S4x1024x128) ![p.val, 0, 0] S1x1024x128.size inb).emb x 2 :=
    Fin.ext (show (x 2).val = 0 + 1 * (x 2).val by omega)
  rw [← e0, ← e1, ← e2]

/-- What a point writes, at plane y 0, row y 1, column y 2 of its block. -/
theorem out_apply (c : Dev nD) (i : grid0.Coords)
    (a0 : Memref sig .tc .vmem S1024x5120 .bf16) (h0 : a0.IsWhole) (a1 : Memref sig .tc .vmem S512x5120 .bf16) (h1 : a1.IsWhole)
    (a2 : Memref sig .tc .smem S1 .f32) (h2 : a2.IsWhole) (a3 : Memref sig .tc .vmem S4x1024x128 .f32) (h3 : a3.IsWhole)
    (a4 : Memref sig .tc .vmem S8x128 .f32) (h4 : a4.IsWhole)
    (x0 : Vec Ideal S1024x5120 .bf16) (x1 : Vec Ideal S512x5120 .bf16) (x2 : Vec Ideal S1 .f32) (y : S4x1024x128.Idx) :
    out0_A_3 (F := Ideal) c i a0 h0 a1 h1 a2 h2 a3 h3 a4 h4 x0 x1 x2 y = elt x0 x1 (x2 (ix1 0)) (y 0) (y 1) (y 2) := by
  have hs : ∀ h, View.ld x2 (Rect.unit ![0] ![1] inb_S1_S1_0) (Shape.Idx.first h) = x2 (ix1 0) := fun h => by
    rw [View.ld_unit_zero (S := S1) hz1, eq_ix1 (Shape.Idx.first _)]; rfl
  refine View.read_writes_apply_of_pieces _ _ (fun y : S4x1024x128.Idx => elt x0 x1 (x2 (ix1 0)) (y 0) (y 1) (y 2)) _ ?_ y
    (cover0_A_3 c i a0 h0 a1 h1 a2 h2 a3 h3 a4 h4 x0 x1 x2 y)
  unfold kernelRun0_A
  dsimp only
  sl_unfold_words
  simp only [View.readAt_eq_ld, h0.read_unread, h1.read_unread, h2.read_unread, View.ld_unit_zero (S := S1024x5120) hz2,
    View.ld_unit_zero (S := S512x5120) hz2, hs]
  intro p hp x
  simp only [List.mem_cons, List.not_mem_nil, or_false] at hp
  rcases hp with rfl | rfl | rfl | rfl
  · exact (plane_apply x0 x1 _ 3 384 rfl slices_S1024x512_o0_384_S1024x128 x).trans (place_apply x0 x1 _ 3 inb_S4x1024x128_S1x1024x128_3_0_0 x)
  · exact (plane_apply x0 x1 _ 2 256 rfl slices_S1024x512_o0_256_S1024x128 x).trans (place_apply x0 x1 _ 2 inb_S4x1024x128_S1x1024x128_2_0_0 x)
  · exact (plane_apply x0 x1 _ 1 128 rfl slices_S1024x512_o0_128_S1024x128 x).trans (place_apply x0 x1 _ 1 inb_S4x1024x128_S1x1024x128_1_0_0 x)
  · exact (plane_apply x0 x1 _ 0 0 rfl slices_S1024x512_o0_0_S1024x128 x).trans (place_apply x0 x1 _ 0 inb_S4x1024x128_S1x1024x128_0_0_0 x)

/-! ## The input blocks, read off the arguments -/

theorem idx0 : ∀ t : Fin cfg0.N, win0_0.index t = ![t.val / 40, 0] := (by decide +kernel : ∀ t : Fin grid0.N, _)
theorem idx1 : ∀ t : Fin cfg0.N, win0_1.index t = ![t.val % 40, 0] := (by decide +kernel : ∀ t : Fin grid0.N, _)
theorem idx3 : ∀ t : Fin cfg0.N, win0_3.index t = ![t.val % 40, t.val / 40, 0] := (by decide +kernel : ∀ t : Fin grid0.N, _)

/-- The block of xn at point t is the t / 40-th stretch of 1024 rows. -/
theorem blk0 (c : Dev nD) (t : Fin cfg0.N) (r : Fin 1024) (k : Fin 5120) (R : Fin 2048)
    (hR : R.val = t.val / 40 * 1024 + r.val) :
    iblk m c 0 t (ix2 r k) = A0 m c (ix2 R k) := by
  unfold iblk
  rw [View.read_apply]
  show V m c main_arg0 _ = _
  rw [V_main_arg0]
  have e := idx0 t
  congr 1; funext a; apply Fin.ext
  match a with
  | ⟨0, _⟩ =>
    show win0_0.index t 0 * 1024 + 1 * r.val = R.val
    rw [e]; show t.val / 40 * 1024 + 1 * r.val = _; omega
  | ⟨1, _⟩ =>
    show win0_0.index t 1 * 5120 + 1 * k.val = k.val
    rw [e]; show 0 * 5120 + 1 * k.val = _; omega

/-- The block of w1 at point t is the (t mod 40)-th stretch of 512 rows. -/
theorem blk1 (c : Dev nD) (t : Fin cfg0.N) (q : Fin 512) (k : Fin 5120) (Q : Fin 20480)
    (hQ : Q.val = t.val % 40 * 512 + q.val) :
    iblk m c 1 t (ix2 q k) = A1 m c (ix2 Q k) := by
  unfold iblk
  rw [View.read_apply]
  show V m c main_arg1 _ = _
  rw [V_main_arg1]
  have e := idx1 t
  congr 1; funext a; apply Fin.ext
  match a with
  | ⟨0, _⟩ =>
    show win0_1.index t 0 * 512 + 1 * q.val = Q.val
    rw [e]; show t.val % 40 * 512 + 1 * q.val = _; omega
  | ⟨1, _⟩ =>
    show win0_1.index t 1 * 5120 + 1 * k.val = k.val
    rw [e]; show 0 * 5120 + 1 * k.val = _; omega

/-- The scale the body reads is the product of the two scale arguments. -/
theorem V_scale (c : Dev nD) (j : S1.Idx) (z : S_.Idx) : V m c main_v1 j
    = A2 m c z * A3 m c z := by
  show StableHlo.after hostOps0 _ _ _ = _
  unfold hostOps0
  after_results
  show A2 m c _ * A3 m c _ = _
  congr 2 <;> exact Subsingleton.elim _ _

theorem blk2 (c : Dev nD) (t : Fin cfg0.N) (z : S_.Idx) :
    iblk m c 2 t (ix1 0) = A2 m c z * A3 m c z := by
  unfold iblk
  rw [View.read_apply]
  exact V_scale m c _ z

/-! ## The array -/

/-- THE ARRAY: at plane P, row T, column L the product Σ_k xn[T, k] · w1[128 P + L, k], times the two scales, cut at
    zero. -/
theorem arr_apply (c : Dev nD) (P : Fin 160) (T : Fin 2048) (L : Fin 128) (Q : Fin 20480) (hQ : Q.val = 128 * P.val + L.val)
    (z : S_.Idx) :
    (dats m 0 c).arrAt 3 cfg0.N (ix3 P T L)
      = max ((∑ k : Fin 5120, A0 m c (ix2 T k) * A1 m c (ix2 Q k)) * (A2 m c z * A3 m c z)) 0 := by
  have hP := P.isLt
  have hT := T.isLt
  have hL := L.isLt
  obtain ⟨t, ht⟩ : ∃ t : Fin cfg0.N, t.val = 40 * (T.val / 1024) + P.val / 4 :=
    ⟨⟨40 * (T.val / 1024) + P.val / 4, by rw [show cfg0.N = 80 from N_0]; omega⟩, rfl⟩
  obtain ⟨p, hp⟩ : ∃ p : Fin 4, p.val = P.val % 4 := ⟨⟨P.val % 4, Nat.mod_lt _ (by decide)⟩, rfl⟩
  obtain ⟨r, hr⟩ : ∃ r : Fin 1024, r.val = T.val % 1024 := ⟨⟨T.val % 1024, Nat.mod_lt _ (by decide)⟩, rfl⟩
  have e := congrFun (Value.blocks3 m c t (flush0_3 t)) (ix3 p r L)
  rw [View.read_apply, Value.flushed3_A] at e
  have hi : (((cfg0.win 3).blk t).view.emb (ix3 p r L) : S160x2048x128.Idx) = ix3 P T L := by
    have e3 := idx3 t
    funext a; apply Fin.ext
    match a with
    | ⟨0, _⟩ =>
      show win0_3.index t 0 * 4 + 1 * p.val = P.val
      rw [e3]; show t.val % 40 * 4 + 1 * p.val = _; omega
    | ⟨1, _⟩ =>
      show win0_3.index t 1 * 1024 + 1 * r.val = T.val
      rw [e3]; show t.val / 40 * 1024 + 1 * r.val = _; omega
    | ⟨2, _⟩ =>
      show win0_3.index t 2 * 128 + 1 * L.val = L.val
      rw [e3]; show 0 * 128 + 1 * L.val = _; omega
  have e' : (dats m 0 c).arrAt 3 cfg0.N (ix3 P T L) = out0_A_3 c (grid0.coords t) (ms0_0 t) (hs0_0 t) (ms0_1 t) (hs0_1 t)
      (ms0_2 t) (hs0_2 t) (ms0_3 t) (hs0_3 t) scM0_0 (Memref.isWhole_whole _) (iblk m c 0 t) (iblk m c 1 t) (iblk m c 2 t) (ix3 p r L) := by
    rw [← hi]; exact e
  rw [e', out_apply, blk2 m c t z]
  refine congrArg (fun a : EReal => max (a * (A2 m c z * A3 m c z)) 0) (Finset.sum_congr rfl fun k _ => ?_)
  exact congrArg₂ (fun a b : EReal => a * b) (blk0 m c t r k T (by omega))
    (blk1 m c t _ k Q (by show Q.val = t.val % 40 * 512 + (128 * p.val + L.val); omega))

/-- The kernel's array is the reference's term over the same arguments: the product of w1 with the transpose of xn,
    times the product of the scales, cut at zero, its 20480 rows split into 160 planes of 128 and the last two axes
    exchanged. -/
theorem value (c : Dev nD) : ((dats m 0 c).arrAt 3 cfg0.N : S160x2048x128.Idx → EReal)
    = transpose S160x2048x128 [0, 2, 1] (shapeCast _ (maximumf (F := Ideal) (φ := .f32) (mulf (Host.dotGeneral Cert.ReferenceHIdeal.dot_S20480x5120_S2048x5120_S20480x2048_1_1_0_0_n_n none (φ₁ := .bf16) (φ₂ := .bf16) (A1 m c) (A0 m c))
        (broadcastInDim Cert.ReferenceHIdeal.S20480x2048 ![] Cert.ReferenceHIdeal.Gen.bcast_S_S20480x2048 (mulf (A2 m c) (A3 m c))))
        (broadcastInDim Cert.ReferenceHIdeal.S20480x2048 ![] Cert.ReferenceHIdeal.Gen.bcast_S_S20480x2048 (constant S_ .f32 0x00000000#32)))
        Cert.ReferenceHIdeal.Gen.shapeCasts_S20480x2048_S160x128x2048) Cert.ReferenceHIdeal.Gen.transposes_S160x128x2048_S160x2048x128_0_2_1 := by
  funext i
  obtain ⟨P, T, L, rfl⟩ : ∃ P T L, i = ix3 P T L := ⟨i 0, i 1, i 2, eq_ix3 i⟩
  have hP := P.isLt
  have hL := L.isLt
  obtain ⟨Q, hQ⟩ : ∃ Q : Fin 20480, Q.val = 128 * P.val + L.val := ⟨⟨128 * P.val + L.val, by omega⟩, rfl⟩
  refine (arr_apply m c P T L Q hQ (fun a => a.elim0)).trans ?_
  refine Eq.symm ((transpose_apply _ _ _ (ix3 P T L) (ix3 P L T) (fun b => ?_)).trans ?_)
  · match b with
    | ⟨0, _⟩ => rfl
    | ⟨1, _⟩ => rfl
    | ⟨2, _⟩ => rfl
  refine (shapeCast_apply _ _ _ (ix2 Q T) ?_).trans ?_
  · rw [Shape.rowMajor_val_two, Shape.rowMajor_val_three]
    show Q.val * 2048 + T.val = (P.val * 128 + L.val) * 2048 + T.val
    omega
  refine congrArg₂ (fun a b : EReal => max a b) (congrArg₂ (fun a b : EReal => a * b) ?_ ?_) ofBits_zero
  · refine (hostDot_transposedRhs none (A1 m c) (A0 m c) Q T).trans (Finset.sum_congr rfl fun k _ => mul_comm _ _)
  · exact bcast_scalar _ _ (A2 m c) (A3 m c) _ _

end Cert.KernelHIdeal.Hand

end
-- ==== Proof.Da.lean ====
/- The product dh = (dy · w2) · (s · s') · 2 · relu(h), kept as 160 planes of 128 columns each: the kernel walks a grid of
   [1024, 512] blocks of the product, forms each whole, and lays its four groups of 128 columns, each multiplied with the
   plane of relu(h) that belongs there, into four planes. The theorem `value` says that the array it leaves is the product
   w2ᵀ · dyᵀ scaled, its rows split into planes and the last two axes exchanged, times 2 and relu(h), which is what the
   reference computes in one step. -/
module

public import proofs.«01_k».proof.Proof.Gen.KernelDaIdeal.Value
public import proofs.«01_k».proof.Proof.Gen.ReferenceDaIdeal.Run
public import proofs.«01_k».proof.Proof.Common
public import Idealize.ShloMosaic.Lib.Tactic.ValueTie

@[expose] public section

set_option maxRecDepth 16384

noncomputable section

namespace Cert.KernelDaIdeal.Hand

open Cert.KernelDaIdeal Cert.KernelDaIdeal.Gen
open Idealize.ShloMosaic hiding ix1 ix2 ix3 eq_ix1 eq_ix2 eq_ix3
open Idealize.ShloMosaic.TcCoe Idealize.ShloMosaic.ValueIdx
open Idealize.ShloMosaic.Tactic Cert.Common
open scoped BigOperators

variable (m : (ℓ : Loc nD τ sig) → Buf (Elt Ideal) ℓ)

/-- The arguments as arrays: dy, w2, relu(h) and the two scales. -/
abbrev A0 (c : Dev nD) : S2048x5120.Idx → EReal := m ((c : Thread nD τ).loc main_arg0)
abbrev A1 (c : Dev nD) : S5120x20480.Idx → EReal := m ((c : Thread nD τ).loc main_arg1)
abbrev A2 (c : Dev nD) : S160x2048x128.Idx → EReal := m ((c : Thread nD τ).loc main_arg2)
abbrev A3 (c : Dev nD) : S_.Idx → EReal := m ((c : Thread nD τ).loc main_arg3)
abbrev A4 (c : Dev nD) : S_.Idx → EReal := m ((c : Thread nD τ).loc main_arg4)

/-! ## What a point writes -/

/-- The element of the block at plane p, row r, column q of the plane:
    (Σ_k x0[r, k] · x1[k, 128 p + q]) · s · 2 · x3[p, r, q]. -/
def elt (x0 : Vec Ideal S1024x5120 .bf16) (x1 : Vec Ideal S5120x512 .bf16) (s : EReal) (x3 : Vec Ideal S4x1024x128 .f32)
    (p : Fin 4) (r : Fin 1024) (q : Fin 128) : EReal :=
  (∑ k : Fin 5120, x0 (ix2 r k) * x1 (ix2 k (⟨128 * p.val + q.val, by omega⟩ : Fin 512))) * s * 2 * x3 (ix3 p r q)

/-- The matmul of a point, at (r, q): Σ_k x0[r, k] · x1[k, q]. -/
theorem prod_apply (x0 : Vec Ideal S1024x5120 .bf16) (x1 : Vec Ideal S5120x512 .bf16) (r : Fin 1024) (q : Fin 512) :
    k0_pay3 (F := Ideal) x0 x1 (ix2 r q) = ∑ k : Fin 5120, x0 (ix2 r k) * x1 (ix2 k q) := by
  unfold k0_pay3
  show FloatOps.matmul (F := Ideal) (DotDims.plain 1024 5120 512) none x0 x1 _ (ix2 r q) = _
  rw [Ideal.matmul_plain_apply, constant_apply]
  show Ideal.ofBits .f32 0x00000000#32 + _ = _
  rw [ofBits_zero, zero_add]

/-- The place row r, column q of plane p has in a block of four planes. -/
theorem emb_plane (p : Fin 4) (inb : ∀ a, (![p.val, 0, 0] : Fin 3 → ℕ) a + S1x1024x128.size a ≤ S4x1024x128.size a)
    (x : S1x1024x128.Idx) :
    (Rect.unit (s := S4x1024x128) ![p.val, 0, 0] S1x1024x128.size inb).emb x = ix3 p (x 1) (x 2) := by
  have h0 : (x 0).val < 1 := (x 0).isLt
  funext a; apply Fin.ext
  match a with
  | ⟨0, _⟩ => show p.val + 1 * (x 0).val = p.val; omega
  | ⟨1, _⟩ => show 0 + 1 * (x 1).val = (x 1).val; omega
  | ⟨2, _⟩ => show 0 + 1 * (x 2).val = (x 2).val; omega

/-- One plane as the body computes it: the columns from 128 p on of the product, scaled, doubled and multiplied with
    plane p of relu(h), at its place in the block. -/
theorem plane_apply (x0 : Vec Ideal S1024x5120 .bf16) (x1 : Vec Ideal S5120x512 .bf16) (s : EReal)
    (x3 : Vec Ideal S4x1024x128 .f32) (p : Fin 4) (o : ℕ) (ho : o = 128 * p.val) (hs : S1024x512.Slices ![0, o] S1024x128)
    (inb : ∀ a, (![p.val, 0, 0] : Fin 3 → ℕ) a + S1x1024x128.size a ≤ S4x1024x128.size a) (x : S1x1024x128.Idx) :
    shapeCast S1x1024x128 (mulf (F := Ideal) (φ := .f32) (mulf (mulf (extractStridedSlice S1024x128 ![0, o] (k0_pay3 (F := Ideal) x0 x1) hs)
      (broadcast S1024x128 s)) (broadcast S1024x128 (Scalar.ofBits .f32 0x40000000#32)))
      (shapeCast S1024x128 (View.ld x3 (Rect.unit (s := S4x1024x128) ![p.val, 0, 0] S1x1024x128.size inb)) shapeCasts_S1x1024x128_S1024x128))
      shapeCasts_S1024x128_S1x1024x128 x
      = (fun y : S4x1024x128.Idx => elt x0 x1 s x3 (y 0) (y 1) (y 2))
          ((Rect.unit (s := S4x1024x128) ![p.val, 0, 0] S1x1024x128.size inb).emb x) := by
  rw [emb_plane]
  refine (shapeCast_addUnit_apply ![1024, 128] _ shapeCasts_S1024x128_S1x1024x128 x).trans ?_
  have hq : (x 2).val < 128 := (x 2).isLt
  have h0 : (x 0).val < 1 := (x 0).isLt
  refine congrArg₂ (fun a b : EReal => a * b) (congrArg₂ (fun a b : EReal => a * b) (congrArg (fun a : EReal => a * s) ?_) ofBits_two) ?_
  · refine (extractStridedSlice_apply _ _ hs _ (ix2 (x 1) (⟨128 * p.val + (x 2).val, by omega⟩ : Fin 512)) (fun a => ?_)).trans
      (prod_apply x0 x1 _ _)
    match a with
    | ⟨0, _⟩ => show (x 1).val = 0 + (x 1).val; omega
    | ⟨1, _⟩ => show 128 * p.val + (x 2).val = o + (x 2).val; omega
  · refine (shapeCast_dropUnit_apply ![1024, 128] _ shapeCasts_S1x1024x128_S1024x128 _).trans ?_
    show x3 ((Rect.unit (s := S4x1024x128) ![p.val, 0, 0] S1x1024x128.size inb).emb _) = _
    rw [emb_plane]
    rfl

/-- What a point writes, at plane y 0, row y 1, column y 2 of its block. -/
theorem out_apply (c : Dev nD) (i : grid0.Coords)
    (a0 : Memref sig .tc .vmem S1024x5120 .bf16) (h0 : a0.IsWhole) (a1 : Memref sig .tc .vmem S5120x512 .bf16) (h1 : a1.IsWhole)
    (a2 : Memref sig .tc .smem S1 .f32) (h2 : a2.IsWhole) (a3 : Memref sig .tc .vmem S4x1024x128 .f32) (h3 : a3.IsWhole)
    (a4 : Memref sig .tc .vmem S4x1024x128 .f32) (h4 : a4.IsWhole) (a5 : Memref sig .tc .vmem S8x128 .f32) (h5 : a5.IsWhole)
    (x0 : Vec Ideal S1024x5120 .bf16) (x1 : Vec Ideal S5120x512 .bf16) (x2 : Vec Ideal S1 .f32)
    (x3 : Vec Ideal S4x1024x128 .f32) (y : S4x1024x128.Idx) :
    out0_A_4 (F := Ideal) c i a0 h0 a1 h1 a2 h2 a3 h3 a4 h4 a5 h5 x0 x1 x2 x3 y
      = elt x0 x1 (x2 (ix1 0)) x3 (y 0) (y 1) (y 2) := by
  have hs : ∀ h, View.ld x2 (Rect.unit ![0] ![1] inb_S1_S1_0) (Shape.Idx.first h) = x2 (ix1 0) := fun h => by
    rw [View.ld_unit_zero (S := S1) hz1, eq_ix1 (Shape.Idx.first _)]; rfl
  refine View.read_writes_apply_of_pieces _ _ (fun y : S4x1024x128.Idx => elt x0 x1 (x2 (ix1 0)) x3 (y 0) (y 1) (y 2)) _ ?_ y
    (cover0_A_4 c i a0 h0 a1 h1 a2 h2 a3 h3 a4 h4 a5 h5 x0 x1 x2 x3 y)
  unfold kernelRun0_A
  dsimp only
  sl_unfold_words
  simp only [View.readAt_eq_ld, h0.read_unread, h1.read_unread, h2.read_unread, h3.read_unread,
    View.ld_unit_zero (S := S1024x5120) hz2, View.ld_unit_zero (S := S5120x512) hz2, hs]
  intro p hp x
  simp only [List.mem_cons, List.not_mem_nil, or_false] at hp
  rcases hp with rfl | rfl | rfl | rfl
  · exact plane_apply x0 x1 _ x3 3 384 rfl slices_S1024x512_o0_384_S1024x128 inb_S4x1024x128_S1x1024x128_3_0_0 x
  · exact plane_apply x0 x1 _ x3 2 256 rfl slices_S1024x512_o0_256_S1024x128 inb_S4x1024x128_S1x1024x128_2_0_0 x
  · exact plane_apply x0 x1 _ x3 1 128 rfl slices_S1024x512_o0_128_S1024x128 inb_S4x1024x128_S1x1024x128_1_0_0 x
  · exact plane_apply x0 x1 _ x3 0 0 rfl slices_S1024x512_o0_0_S1024x128 inb_S4x1024x128_S1x1024x128_0_0_0 x

/-! ## The input blocks, read off the arguments -/

theorem idx0 : ∀ t : Fin cfg0.N, win0_0.index t = ![t.val / 40, 0] := (by decide +kernel : ∀ t : Fin grid0.N, _)
theorem idx1 : ∀ t : Fin cfg0.N, win0_1.index t = ![0, t.val % 40] := (by decide +kernel : ∀ t : Fin grid0.N, _)
theorem idx3 : ∀ t : Fin cfg0.N, win0_3.index t = ![t.val % 40, t.val / 40, 0] := (by decide +kernel : ∀ t : Fin grid0.N, _)
theorem idx4 : ∀ t : Fin cfg0.N, win0_4.index t = ![t.val % 40, t.val / 40, 0] := (by decide +kernel : ∀ t : Fin grid0.N, _)

/-- The block of dy at point t is the t / 40-th stretch of 1024 rows. -/
theorem blk0 (c : Dev nD) (t : Fin cfg0.N) (r : Fin 1024) (k : Fin 5120) (R : Fin 2048)
    (hR : R.val = t.val / 40 * 1024 + r.val) :
    iblk m c 0 t (ix2 r k) = A0 m c (ix2 R k) := by
  unfold iblk
  rw [View.read_apply]
  show V m c main_arg0 _ = _
  rw [V_main_arg0]
  have e := idx0 t
  congr 1; funext a; apply Fin.ext
  match a with
  | ⟨0, _⟩ =>
    show win0_0.index t 0 * 1024 + 1 * r.val = R.val
    rw [e]; show t.val / 40 * 1024 + 1 * r.val = _; omega
  | ⟨1, _⟩ =>
    show win0_0.index t 1 * 5120 + 1 * k.val = k.val
    rw [e]; show 0 * 5120 + 1 * k.val = _; omega

/-- The block of w2 at point t is the (t mod 40)-th stretch of 512 columns. -/
theorem blk1 (c : Dev nD) (t : Fin cfg0.N) (k : Fin 5120) (q : Fin 512) (Q : Fin 20480)
    (hQ : Q.val = t.val % 40 * 512 + q.val) :
    iblk m c 1 t (ix2 k q) = A1 m c (ix2 k Q) := by
  unfold iblk
  rw [View.read_apply]
  show V m c main_arg1 _ = _
  rw [V_main_arg1]
  have e := idx1 t
  congr 1; funext a; apply Fin.ext
  match a with
  | ⟨0, _⟩ =>
    show win0_1.index t 0 * 5120 + 1 * k.val = k.val
    rw [e]; show 0 * 5120 + 1 * k.val = _; omega
  | ⟨1, _⟩ =>
    show win0_1.index t 1 * 512 + 1 * q.val = Q.val
    rw [e]; show t.val % 40 * 512 + 1 * q.val = _; omega

/-- The block of relu(h) at point t is four planes from 4 (t mod 40) on, and of each the (t / 40)-th 1024 rows. -/
theorem blk3 (c : Dev nD) (t : Fin cfg0.N) (p : Fin 4) (r : Fin 1024) (q : Fin 128) (P : Fin 160) (R : Fin 2048)
    (hP : P.val = t.val % 40 * 4 + p.val) (hR : R.val = t.val / 40 * 1024 + r.val) :
    iblk m c 3 t (ix3 p r q) = A2 m c (ix3 P R q) := by
  unfold iblk
  rw [View.read_apply]
  show V m c main_arg2 _ = _
  rw [V_main_arg2]
  have e := idx3 t
  congr 1; funext a; apply Fin.ext
  match a with
  | ⟨0, _⟩ =>
    show win0_3.index t 0 * 4 + 1 * p.val = P.val
    rw [e]; show t.val % 40 * 4 + 1 * p.val = _; omega
  | ⟨1, _⟩ =>
    show win0_3.index t 1 * 1024 + 1 * r.val = R.val
    rw [e]; show t.val / 40 * 1024 + 1 * r.val = _; omega
  | ⟨2, _⟩ =>
    show win0_3.index t 2 * 128 + 1 * q.val = q.val
    rw [e]; show 0 * 128 + 1 * q.val = _; omega

/-- The scale the body reads is the product of the two scale arguments. -/
theorem V_scale (c : Dev nD) (j : S1.Idx) (z : S_.Idx) : V m c main_v1 j
    = A3 m c z * A4 m c z := by
  show StableHlo.after hostOps0 _ _ _ = _
  unfold hostOps0
  after_results
  show A3 m c _ * A4 m c _ = _
  congr 2 <;> exact Subsingleton.elim _ _

theorem blk2 (c : Dev nD) (t : Fin cfg0.N) (z : S_.Idx) :
    iblk m c 2 t (ix1 0) = A3 m c z * A4 m c z := by
  unfold iblk
  rw [View.read_apply]
  exact V_scale m c _ z

/-! ## The array -/

/-- THE ARRAY: at plane P, row T, column L the product Σ_k dy[T, k] · w2[k, 128 P + L], times the two scales, times 2,
    times relu(h)[P, T, L]. -/
theorem arr_apply (c : Dev nD) (P : Fin 160) (T : Fin 2048) (L : Fin 128) (Q : Fin 20480) (hQ : Q.val = 128 * P.val + L.val)
    (z : S_.Idx) :
    (dats m 0 c).arrAt 4 cfg0.N (ix3 P T L)
      = (∑ k : Fin 5120, A0 m c (ix2 T k) * A1 m c (ix2 k Q)) * (A3 m c z * A4 m c z) * 2 * A2 m c (ix3 P T L) := by
  have hP := P.isLt
  have hT := T.isLt
  have hL := L.isLt
  obtain ⟨t, ht⟩ : ∃ t : Fin cfg0.N, t.val = 40 * (T.val / 1024) + P.val / 4 :=
    ⟨⟨40 * (T.val / 1024) + P.val / 4, by rw [show cfg0.N = 80 from N_0]; omega⟩, rfl⟩
  obtain ⟨p, hp⟩ : ∃ p : Fin 4, p.val = P.val % 4 := ⟨⟨P.val % 4, Nat.mod_lt _ (by decide)⟩, rfl⟩
  obtain ⟨r, hr⟩ : ∃ r : Fin 1024, r.val = T.val % 1024 := ⟨⟨T.val % 1024, Nat.mod_lt _ (by decide)⟩, rfl⟩
  have e := congrFun (Value.blocks4 m c t (flush0_4 t)) (ix3 p r L)
  rw [View.read_apply, Value.flushed4_A] at e
  have hi : (((cfg0.win 4).blk t).view.emb (ix3 p r L) : S160x2048x128.Idx) = ix3 P T L := by
    have e3 := idx4 t
    funext a; apply Fin.ext
    match a with
    | ⟨0, _⟩ =>
      show win0_4.index t 0 * 4 + 1 * p.val = P.val
      rw [e3]; show t.val % 40 * 4 + 1 * p.val = _; omega
    | ⟨1, _⟩ =>
      show win0_4.index t 1 * 1024 + 1 * r.val = T.val
      rw [e3]; show t.val / 40 * 1024 + 1 * r.val = _; omega
    | ⟨2, _⟩ =>
      show win0_4.index t 2 * 128 + 1 * L.val = L.val
      rw [e3]; show 0 * 128 + 1 * L.val = _; omega
  have e' : (dats m 0 c).arrAt 4 cfg0.N (ix3 P T L) = out0_A_4 c (grid0.coords t) (ms0_0 t) (hs0_0 t) (ms0_1 t) (hs0_1 t)
      (ms0_2 t) (hs0_2 t) (ms0_3 t) (hs0_3 t) (ms0_4 t) (hs0_4 t) scM0_0 (Memref.isWhole_whole _) (iblk m c 0 t) (iblk m c 1 t) (iblk m c 2 t)
      (iblk m c 3 t) (ix3 p r L) := by
    rw [← hi]; exact e
  rw [e', out_apply, blk2 m c t z]
  refine congrArg₂ (fun a b : EReal => a * b) (congrArg (fun a : EReal => a * (A3 m c z * A4 m c z) * 2)
    (Finset.sum_congr rfl fun k _ => ?_)) (blk3 m c t p r L P T (by omega) (by omega))
  exact congrArg₂ (fun a b : EReal => a * b) (blk0 m c t r k T (by omega))
    (blk1 m c t k _ Q (by show Q.val = t.val % 40 * 512 + (128 * p.val + L.val); omega))

/-- The kernel's array is the reference's term over the same arguments: the product of w2ᵀ with dyᵀ, times the product of
    the scales, its 20480 rows split into 160 planes of 128 and the last two axes exchanged, times 2, times relu(h). -/
theorem value (c : Dev nD) : ((dats m 0 c).arrAt 4 cfg0.N : S160x2048x128.Idx → EReal)
    = mulf (F := Ideal) (φ := .f32) (mulf (transpose S160x2048x128 [0, 2, 1] (shapeCast _ (mulf (Host.dotGeneral Cert.ReferenceDaIdeal.dot_S5120x20480_S2048x5120_S20480x2048_0_1_1_0_n_n none (φ₁ := .bf16) (φ₂ := .bf16) (A1 m c) (A0 m c))
        (broadcastInDim Cert.ReferenceDaIdeal.S20480x2048 ![] Cert.ReferenceDaIdeal.Gen.bcast_S_S20480x2048 (mulf (A3 m c) (A4 m c))))
        Cert.ReferenceDaIdeal.Gen.shapeCasts_S20480x2048_S160x128x2048) Cert.ReferenceDaIdeal.Gen.transposes_S160x128x2048_S160x2048x128_0_2_1)
        (broadcastInDim S160x2048x128 ![] Cert.ReferenceDaIdeal.Gen.bcast_S_S160x2048x128 (constant S_ .f32 0x40000000#32))) (A2 m c) := by
  funext i
  obtain ⟨P, T, L, rfl⟩ : ∃ P T L, i = ix3 P T L := ⟨i 0, i 1, i 2, eq_ix3 i⟩
  have hP := P.isLt
  have hL := L.isLt
  obtain ⟨Q, hQ⟩ : ∃ Q : Fin 20480, Q.val = 128 * P.val + L.val := ⟨⟨128 * P.val + L.val, by omega⟩, rfl⟩
  refine (arr_apply m c P T L Q hQ (fun a => a.elim0)).trans ?_
  refine congrArg (fun a : EReal => a * A2 m c (ix3 P T L)) (congrArg₂ (fun a b : EReal => a * b) ?_ ofBits_two.symm)
  refine Eq.symm ((transpose_apply _ _ _ (ix3 P T L) (ix3 P L T) (fun b => ?_)).trans ?_)
  · match b with
    | ⟨0, _⟩ => rfl
    | ⟨1, _⟩ => rfl
    | ⟨2, _⟩ => rfl
  refine (shapeCast_apply _ _ _ (ix2 Q T) ?_).trans ?_
  · rw [Shape.rowMajor_val_two, Shape.rowMajor_val_three]
    show Q.val * 2048 + T.val = (P.val * 128 + L.val) * 2048 + T.val
    omega
  refine congrArg₂ (fun a b : EReal => a * b) ?_ ?_
  · refine (hostDot_leftRows (M := 20480) (K := 5120) (N := 2048) none (A1 m c) (A0 m c) Q T).trans (Finset.sum_congr rfl fun k _ => mul_comm _ _)
  · exact bcast_scalar _ _ (A3 m c) (A4 m c) _ _

end Cert.KernelDaIdeal.Hand

end
-- ==== Proof.Y.lean ====
/- The product y = truncate((a · w2ᵀ) · (s_a · s_w2)): the kernel walks a 2 × 5 × 10 grid of [1024, 2048] blocks, adding
   ten partial products into a scratch block, and writes the block scaled on the tenth. The theorem `value` says that the
   array it leaves is the whole product scaled and truncated, which is what the reference computes in one step. -/
module

public import proofs.«01_k».proof.Proof.Gen.KernelYIdeal.Value
public import proofs.«01_k».proof.Proof.Gen.ReferenceYIdeal.Run
public import proofs.«01_k».proof.Proof.Common
public import Idealize.ShloMosaic.Lib.Tactic.ValueTie

@[expose] public section

set_option maxRecDepth 16384

noncomputable section

namespace Cert.KernelYIdeal.Hand

open Cert.KernelYIdeal Cert.KernelYIdeal.Gen
open Idealize.ShloMosaic hiding ix1 ix2 eq_ix1 eq_ix2
open Idealize.ShloMosaic.TcCoe Idealize.ShloMosaic.ValueIdx
open Idealize.ShloMosaic.Tactic Cert.Common
open scoped BigOperators

variable (m : (ℓ : Loc nD τ sig) → Buf (Elt Ideal) ℓ)

/-- The arguments as arrays: a, w2 and the two scales. -/
abbrev A0 (c : Dev nD) : S2048x20480.Idx → EReal := m ((c : Thread nD τ).loc main_arg0)
abbrev A1 (c : Dev nD) : S5120x20480.Idx → EReal := m ((c : Thread nD τ).loc main_arg1)
abbrev A2 (c : Dev nD) : S_.Idx → EReal := m ((c : Thread nD τ).loc main_arg2)
abbrev A3 (c : Dev nD) : S_.Idx → EReal := m ((c : Thread nD τ).loc main_arg3)

/-! ## What each point's case leaves, at one place of its block -/

section Cases

variable (c : Dev nD) (i : grid0.Coords)
  (a0 : Memref sig .tc .vmem S1024x2048 .bf16) (h0 : a0.IsWhole) (a1 : Memref sig .tc .vmem S1024x2048 .bf16) (h1 : a1.IsWhole)
  (a2 : Memref sig .tc .smem S1 .f32) (h2 : a2.IsWhole) (a3 : Memref sig .tc .vmem S1024x1024 .bf16) (h3 : a3.IsWhole)
  (a4 : Memref sig .tc .vmem S1024x1024 .f32) (h4 : a4.IsWhole)
  (x0 : Vec Ideal S1024x2048 .bf16) (x1 : Vec Ideal S1024x2048 .bf16) (x2 : Vec Ideal S1 .f32) (acc : Vec Ideal S1024x1024 .f32)

/-- The block product at one place: Σ_k x0[r, k] · x1[c, k]. -/
def part (x0 x1 : Vec Ideal S1024x2048 .bf16) (j : S1024x1024.Idx) : EReal :=
  ∑ k : Fin 2048, x0 (ix2 (j 0) k) * x1 (ix2 (j 1) k)

/-- The step's payload at one place: what the scratch held plus the block product. -/
theorem pay2_apply (j : S1024x1024.Idx) : k0_pay2 (F := Ideal) x0 x1 acc j = acc j + part x0 x1 j := by
  obtain ⟨r, q, rfl⟩ : ∃ (r : Fin 1024) (q : Fin 1024), j = ix2 r q := ⟨j 0, j 1, eq_ix2 j⟩
  unfold k0_pay2 part
  rw [shapeCast_self, addf_apply]
  congr 1
  show FloatOps.matmul (F := Ideal) (DotDims.transposedRhs 1024 2048 1024) none x0 x1 _ (ix2 r q) = _
  rw [Ideal.matmul_transposedRhs_apply, constant_apply]
  show Ideal.ofBits .f32 _ + _ = _
  rw [ofBits_zero, zero_add]

/-- The first of ten points leaves its block product in the scratch. -/
theorem sout_A (hc0 : cond0_0 i) (hc1 : ¬cond0_1 i) (j : S1024x1024.Idx) :
    sout0_A_0 (F := Ideal) c i a0 h0 a1 h1 a2 h2 a3 h3 a4 h4 hc0 hc1 x0 x1 x2 j = part x0 x1 j := by
  unfold sout0_A_0
  rw [View.read_writes_eq_canon _ _ _ (scover0_A_0 c i a0 h0 a1 h1 a2 h2 a3 h3 a4 h4 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, h0.read_unread, h1.read_unread, View.ld_unit_zero (S := S1024x2048) hz2]
  rw [pay2_apply]
  unfold k0_pay1
  rw [shapeCast_self]
  show Ideal.ofBits .f32 0x00000000#32 + part x0 x1 j = _
  rw [ofBits_zero, zero_add]

/-- A middle point adds its block product to what the scratch held. -/
theorem sout_B (hc0 : ¬cond0_0 i) (hc1 : ¬cond0_1 i) (j : S1024x1024.Idx) :
    sout0_B_0 (F := Ideal) c i a0 h0 a1 h1 a2 h2 a3 h3 a4 h4 hc0 hc1 x0 x1 x2 acc j = acc j + part x0 x1 j := by
  unfold sout0_B_0
  rw [View.read_writes_eq_canon _ _ _ (scover0_B_0 c i a0 h0 a1 h1 a2 h2 a3 h3 a4 h4 hc0 hc1 x0 x1 x2 acc)]
  unfold kernelRun0_B
  dsimp only
  rw [View.canon_unit_zero hz2]
  simp only [View.readAt_eq_ld, h0.read_unread, h1.read_unread, h4.read_unread, View.ld_unit_zero (S := S1024x2048) hz2,
    View.ld_unit_zero (S := S1024x1024) hz2]
  rw [pay2_apply]

/-- The last point adds its block product too. -/
theorem sout_C (hc0 : ¬cond0_0 i) (hc1 : cond0_1 i) (j : S1024x1024.Idx) :
    sout0_C_0 (F := Ideal) c i a0 h0 a1 h1 a2 h2 a3 h3 a4 h4 hc0 hc1 x0 x1 x2 acc j = acc j + part x0 x1 j := by
  unfold sout0_C_0
  rw [View.read_writes_eq_canon _ _ _ (scover0_C_0 c i a0 h0 a1 h1 a2 h2 a3 h3 a4 h4 hc0 hc1 x0 x1 x2 acc)]
  unfold kernelRun0_C
  dsimp only
  sl_unfold_words
  rw [View.canon_unit_zero hz2]
  simp only [View.readAt_eq_ld, h0.read_unread, h1.read_unread, h4.read_unread, View.ld_unit_zero (S := S1024x2048) hz2,
    View.ld_unit_zero (S := S1024x1024) hz2]
  rw [pay2_apply]

/-- The last point writes the finished sum times the scale. -/
theorem out_C (hc0 : ¬cond0_0 i) (hc1 : cond0_1 i) (j : S1024x1024.Idx) :
    out0_C_3 (F := Ideal) c i a0 h0 a1 h1 a2 h2 a3 h3 a4 h4 hc0 hc1 x0 x1 x2 acc j = (acc j + part x0 x1 j) * x2 (ix1 0) := by
  unfold out0_C_3
  rw [View.read_writes_eq_canon _ _ _ (cover0_C_3 c i a0 h0 a1 h1 a2 h2 a3 h3 a4 h4 hc0 hc1 x0 x1 x2 acc)]
  unfold kernelRun0_C
  dsimp only
  sl_unfold_words
  rw [View.canon_unit_zero hz2, View.readCov_unit_zero (S := S1024x1024) _ hz2]
  simp only [View.readAt_eq_ld, h0.read_unread, h1.read_unread, h2.read_unread, h4.read_unread, View.ld_unit_zero (S := S1024x2048) hz2,
    View.ld_unit_zero (S := S1024x1024) hz2]
  unfold k0_pay3
  rw [truncf_apply, mulf_apply, pay2_apply]
  show (acc j + part x0 x1 j) * View.ld x2 (Rect.unit ![0] ![1] inb_S1_S1_0) (Shape.Idx.first _) = _
  rw [View.ld_unit_zero (S := S1) hz1, eq_ix1 (Shape.Idx.first _)]
  rfl

end Cases

/-! ## The input blocks, read off the arguments -/

theorem idx0 : ∀ t : Fin cfg0.N, win0_0.index t = ![t.val / 50, t.val % 10] := (by decide +kernel : ∀ t : Fin grid0.N, _)
theorem idx1 : ∀ t : Fin cfg0.N, win0_1.index t = ![t.val / 10 % 5, t.val % 10] := (by decide +kernel : ∀ t : Fin grid0.N, _)
theorem idx2 : ∀ t : Fin cfg0.N, win0_2.index t = ![0] := (by decide +kernel : ∀ t : Fin grid0.N, _)

/-- The left operand's block at point t is rows t / 50 and columns t mod 10 of the array, in blocks. -/
theorem blk0 (c : Dev nD) (t : Fin cfg0.N) (r : Fin 1024) (k : Fin 2048) (R : Fin 2048) (K : Fin 20480)
    (hR : R.val = t.val / 50 * 1024 + r.val) (hK : K.val = t.val % 10 * 2048 + k.val) :
    iblk m c 0 t (ix2 r k) = A0 m c (ix2 R K) := by
  unfold iblk
  rw [View.read_apply]
  show V m c main_arg0 _ = _
  rw [V_main_arg0]
  have e := idx0 t
  congr 1; funext a; apply Fin.ext
  match a with
  | ⟨0, _⟩ =>
    show win0_0.index t 0 * 1024 + 1 * r.val = R.val
    rw [e]; show t.val / 50 * 1024 + 1 * r.val = _; omega
  | ⟨1, _⟩ =>
    show win0_0.index t 1 * 2048 + 1 * k.val = K.val
    rw [e]; show t.val % 10 * 2048 + 1 * k.val = _; omega

/-- The right operand's block at point t is rows (t / 10) mod 5 and columns t mod 10 of the array, in blocks. -/
theorem blk1 (c : Dev nD) (t : Fin cfg0.N) (r : Fin 1024) (k : Fin 2048) (R : Fin 5120) (K : Fin 20480)
    (hR : R.val = t.val / 10 % 5 * 1024 + r.val) (hK : K.val = t.val % 10 * 2048 + k.val) :
    iblk m c 1 t (ix2 r k) = A1 m c (ix2 R K) := by
  unfold iblk
  rw [View.read_apply]
  show V m c main_arg1 _ = _
  rw [V_main_arg1]
  have e := idx1 t
  congr 1; funext a; apply Fin.ext
  match a with
  | ⟨0, _⟩ =>
    show win0_1.index t 0 * 1024 + 1 * r.val = R.val
    rw [e]; show t.val / 10 % 5 * 1024 + 1 * r.val = _; omega
  | ⟨1, _⟩ =>
    show win0_1.index t 1 * 2048 + 1 * k.val = K.val
    rw [e]; show t.val % 10 * 2048 + 1 * k.val = _; omega

/-- The scale the body reads is the product of the two scale arguments. -/
theorem V_scale (c : Dev nD) (j : S1.Idx) (z : S_.Idx) : V m c main_v1 j
    = A2 m c z * A3 m c z := by
  show StableHlo.after hostOps0 _ _ _ = _
  unfold hostOps0
  after_results
  show A2 m c _ * A3 m c _ = _
  congr 2 <;> exact Subsingleton.elim _ _

theorem blk2 (c : Dev nD) (t : Fin cfg0.N) (z : S_.Idx) :
    iblk m c 2 t (ix1 0) = A2 m c z * A3 m c z := by
  unfold iblk
  rw [View.read_apply]
  exact V_scale m c _ z

/-! ## The scratch over the grid, and the array -/

/-- Point n's block product (zero past the grid). -/
def P (c : Dev nD) (n : ℕ) (j : S1024x1024.Idx) : EReal :=
  if h : n < cfg0.N then part (iblk m c 0 ⟨n, h⟩) (iblk m c 1 ⟨n, h⟩) j else 0

/-- The scratch after point n is the sum of the block products since the last multiple of ten. -/
theorem scratch (c : Dev nD) (n : ℕ) (h : n < cfg0.N) (j : S1024x1024.Idx) :
    (outsAt0 m c n h).2 j = ∑ s ∈ Finset.range (n % 10 + 1), P m c (10 * (n / 10) + s) j := by
  refine running_sum cfg0.N 10 (fun n h => (outsAt0 m c n h).2) (P m c) ?_ ?_ n h j
  · intro n h j h0
    show (outsAt0 m c n h).2 j = _
    rw [outsAt0_A m c ⟨n, h⟩ h0 (fun h1 => by dsimp only at h1; omega)]
    dsimp only
    rw [sout_A, P, dif_pos h]
  · intro n h j h0
    show (outsAt0 m c (n + 1) h).2 j = (outsAt0 m c n (Nat.lt_of_succ_lt h)).2 j + _
    by_cases h1 : (n + 1) % 10 = 9
    · rw [outsAt0_C m c ⟨n + 1, h⟩ h0 h1]
      dsimp only
      rw [sout_C, P, dif_pos h]; rfl
    · rw [outsAt0_B m c ⟨n + 1, h⟩ h0 h1]
      dsimp only
      rw [sout_B, P, dif_pos h]; rfl

/-- What a tenth point writes is its scratch times the scale. -/
theorem out_last (c : Dev nD) (t : Fin cfg0.N) (h1 : t.val % 10 = 9) (j : S1024x1024.Idx) :
    (outsAt0 m c t.val t.isLt).1 j = (outsAt0 m c t.val t.isLt).2 j * iblk m c 2 t (ix1 0) := by
  have h0 : ¬t.val % 10 = 0 := by omega
  rw [outsAt0_C m c t h0 h1]
  dsimp only
  rw [out_C, sout_C]

/-- THE ARRAY: at (r, c) the whole product Σ_k a[r, k] · w2[c, k] times the two scales. -/
theorem G3_apply (c : Dev nD) (r : Fin 2048) (q : Fin 5120) (z : S_.Idx) :
    Value.G3 m c (ix2 r q) = (∑ k : Fin 20480, A0 m c (ix2 r k) * A1 m c (ix2 q k)) * (A2 m c z * A3 m c z) := by
  have hp : 10 * (5 * (r.val / 1024) + q.val / 1024) + 9 < cfg0.N := by
    rw [show cfg0.N = 100 from N_0]; omega
  have ep : Value.pt3Of (ix2 r q) = 10 * (5 * (r.val / 1024) + q.val / 1024) + 9 := by
    show 10 * (5 * (r.val / 1024 - 0) + 1 * (q.val / 1024 - 0)) + 9 = _; omega
  suffices h : ∀ (n : ℕ) (hn' : n < cfg0.N) (_ : n = 10 * (5 * (r.val / 1024) + q.val / 1024) + 9),
      (outsAt0 m c n hn').1 (Value.loc3Of (ix2 r q))
        = (∑ k : Fin 20480, A0 m c (ix2 r k) * A1 m c (ix2 q k)) * (A2 m c z * A3 m c z) by
    unfold Value.G3
    rw [dif_pos (by rw [ep]; exact hp), ← Value.outsAt0_sweep m c _ (by rw [ep]; exact hp)]
    exact h _ _ ep
  intro n hn' ep
  refine (out_last m c ⟨n, hn'⟩ (by show n % 10 = 9; omega) _).trans ?_
  rw [blk2 m c _ z]
  refine congrArg (fun a : EReal => a * (A2 m c z * A3 m c z)) ?_
  show (outsAt0 m c n hn').2 _ = _
  rw [scratch, show n % 10 + 1 = 10 by omega]
  refine sum_stretches 10 2048 20480 (by norm_num) (fun k : Fin 20480 => A0 m c (ix2 r k) * A1 m c (ix2 q k))
    (fun s => P m c (10 * (n / 10) + s) (Value.loc3Of (ix2 r q))) fun s hs => ?_
  have hs' : 10 * (n / 10) + s < cfg0.N := by rw [show cfg0.N = 100 from N_0]; omega
  rw [P, dif_pos hs']
  refine Finset.sum_congr rfl fun k _ => ?_
  have hk := k.isLt
  have hr := r.isLt
  have hq := q.isLt
  exact congrArg₂ (fun a b : EReal => a * b)
    (blk0 m c ⟨_, hs'⟩ _ k r ⟨s * 2048 + k.val, by omega⟩
      (by show r.val = (10 * (n / 10) + s) / 50 * 1024 + r.val % 1024; omega)
      (by show s * 2048 + k.val = (10 * (n / 10) + s) % 10 * 2048 + k.val; omega))
    (blk1 m c ⟨_, hs'⟩ _ k q ⟨s * 2048 + k.val, by omega⟩
      (by show q.val = (10 * (n / 10) + s) / 10 % 5 * 1024 + q.val % 1024; omega)
      (by show s * 2048 + k.val = (10 * (n / 10) + s) % 10 * 2048 + k.val; omega))

/-- The kernel's array is the reference's term over the same arguments: the product of a with the transpose of w2, times
    the product of the scales, truncated. -/
theorem value (c : Dev nD) : (Value.G3 m c : S2048x5120.Idx → EReal)
    = truncf (F := Ideal) .bf16 (mulf (Host.dotGeneral Cert.ReferenceYIdeal.dot_S2048x20480_S5120x20480_S2048x5120_1_1_0_0_n_n none (φ₁ := .bf16) (φ₂ := .bf16) (A0 m c) (A1 m c))
        (broadcastInDim S2048x5120 ![] Cert.ReferenceYIdeal.Gen.bcast_S_S2048x5120 (mulf (A2 m c) (A3 m c)))) Cert.ReferenceYIdeal.Gen.bitsLt_bf16_f32 := by
  funext i
  obtain ⟨r, q, rfl⟩ : ∃ r q, i = ix2 r q := ⟨i 0, i 1, eq_ix2 i⟩
  have e := G3_apply m c r q
  refine (e (fun a => a.elim0)).trans ?_
  refine congrArg₂ (fun a b : EReal => a * b) (hostDot_transposedRhs (φ₁ := .bf16) (φ₂ := .bf16) none (A0 m c) (A1 m c) r q).symm ?_
  exact (bcast_scalar _ _ (A2 m c) (A3 m c) _ _).symm

end Cert.KernelYIdeal.Hand

end
-- ==== Proof.Dxn.lean ====
/- The product dxn = (dh · w1) · (s_dh · s_w1): the kernel walks a 2 × 5 × 10 grid of [1024, 2048] and [2048, 1024] blocks,
   adding ten partial products into a scratch block, and writes the block scaled on the tenth. The theorem `value` says
   that the array it leaves is the whole product scaled, which is what the reference computes in one step. -/
module

public import proofs.«01_k».proof.Proof.Gen.KernelDxnIdeal.Value
public import proofs.«01_k».proof.Proof.Gen.ReferenceDxnIdeal.Run
public import proofs.«01_k».proof.Proof.Common
public import Idealize.ShloMosaic.Lib.Tactic.ValueTie

@[expose] public section

set_option maxRecDepth 16384

noncomputable section

namespace Cert.KernelDxnIdeal.Hand

open Cert.KernelDxnIdeal Cert.KernelDxnIdeal.Gen
open Idealize.ShloMosaic hiding ix1 ix2 eq_ix1 eq_ix2
open Idealize.ShloMosaic.TcCoe Idealize.ShloMosaic.ValueIdx
open Idealize.ShloMosaic.Tactic Cert.Common
open scoped BigOperators

variable (m : (ℓ : Loc nD τ sig) → Buf (Elt Ideal) ℓ)

/-- The arguments as arrays: dh, w1 and the two scales. -/
abbrev A0 (c : Dev nD) : S2048x20480.Idx → EReal := m ((c : Thread nD τ).loc main_arg0)
abbrev A1 (c : Dev nD) : S20480x5120.Idx → EReal := m ((c : Thread nD τ).loc main_arg1)
abbrev A2 (c : Dev nD) : S_.Idx → EReal := m ((c : Thread nD τ).loc main_arg2)
abbrev A3 (c : Dev nD) : S_.Idx → EReal := m ((c : Thread nD τ).loc main_arg3)

/-! ## What each point's case leaves, at one place of its block -/

section Cases

variable (c : Dev nD) (i : grid0.Coords)
  (a0 : Memref sig .tc .vmem S1024x2048 .bf16) (h0 : a0.IsWhole) (a1 : Memref sig .tc .vmem S2048x1024 .bf16) (h1 : a1.IsWhole)
  (a2 : Memref sig .tc .smem S1 .f32) (h2 : a2.IsWhole) (a3 : Memref sig .tc .vmem S1024x1024 .f32) (h3 : a3.IsWhole)
  (a4 : Memref sig .tc .vmem S1024x1024 .f32) (h4 : a4.IsWhole)
  (x0 : Vec Ideal S1024x2048 .bf16) (x1 : Vec Ideal S2048x1024 .bf16) (x2 : Vec Ideal S1 .f32) (acc : Vec Ideal S1024x1024 .f32)

/-- The block product at one place: Σ_k x0[r, k] · x1[k, c]. -/
def part (x0 : Vec Ideal S1024x2048 .bf16) (x1 : Vec Ideal S2048x1024 .bf16) (j : S1024x1024.Idx) : EReal :=
  ∑ k : Fin 2048, x0 (ix2 (j 0) k) * x1 (ix2 k (j 1))

/-- The step's payload at one place: what the scratch held plus the block product. -/
theorem pay2_apply (j : S1024x1024.Idx) : k0_pay2 (F := Ideal) x0 x1 acc j = acc j + part x0 x1 j := by
  obtain ⟨r, q, rfl⟩ : ∃ (r : Fin 1024) (q : Fin 1024), j = ix2 r q := ⟨j 0, j 1, eq_ix2 j⟩
  unfold k0_pay2 part
  rw [shapeCast_self, addf_apply]
  congr 1
  show FloatOps.matmul (F := Ideal) (DotDims.plain 1024 2048 1024) none x0 x1 _ (ix2 r q) = _
  rw [Ideal.matmul_plain_apply, constant_apply]
  show Ideal.ofBits .f32 _ + _ = _
  rw [ofBits_zero, zero_add]

/-- The first of ten points leaves its block product in the scratch. -/
theorem sout_A (hc0 : cond0_0 i) (hc1 : ¬cond0_1 i) (j : S1024x1024.Idx) :
    sout0_A_0 (F := Ideal) c i a0 h0 a1 h1 a2 h2 a3 h3 a4 h4 hc0 hc1 x0 x1 x2 j = part x0 x1 j := by
  unfold sout0_A_0
  rw [View.read_writes_eq_canon _ _ _ (scover0_A_0 c i a0 h0 a1 h1 a2 h2 a3 h3 a4 h4 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, h0.read_unread, h1.read_unread, View.ld_unit_zero (S := S1024x2048) hz2, View.ld_unit_zero (S := S2048x1024) hz2]
  rw [pay2_apply]
  unfold k0_pay1
  rw [shapeCast_self]
  show Ideal.ofBits .f32 0x00000000#32 + part x0 x1 j = _
  rw [ofBits_zero, zero_add]

/-- A middle point adds its block product to what the scratch held. -/
theorem sout_B (hc0 : ¬cond0_0 i) (hc1 : ¬cond0_1 i) (j : S1024x1024.Idx) :
    sout0_B_0 (F := Ideal) c i a0 h0 a1 h1 a2 h2 a3 h3 a4 h4 hc0 hc1 x0 x1 x2 acc j = acc j + part x0 x1 j := by
  unfold sout0_B_0
  rw [View.read_writes_eq_canon _ _ _ (scover0_B_0 c i a0 h0 a1 h1 a2 h2 a3 h3 a4 h4 hc0 hc1 x0 x1 x2 acc)]
  unfold kernelRun0_B
  dsimp only
  rw [View.canon_unit_zero hz2]
  simp only [View.readAt_eq_ld, h0.read_unread, h1.read_unread, h4.read_unread, View.ld_unit_zero (S := S1024x2048) hz2, View.ld_unit_zero (S := S2048x1024) hz2,
    View.ld_unit_zero (S := S1024x1024) hz2]
  rw [pay2_apply]

/-- The last point adds its block product too. -/
theorem sout_C (hc0 : ¬cond0_0 i) (hc1 : cond0_1 i) (j : S1024x1024.Idx) :
    sout0_C_0 (F := Ideal) c i a0 h0 a1 h1 a2 h2 a3 h3 a4 h4 hc0 hc1 x0 x1 x2 acc j = acc j + part x0 x1 j := by
  unfold sout0_C_0
  rw [View.read_writes_eq_canon _ _ _ (scover0_C_0 c i a0 h0 a1 h1 a2 h2 a3 h3 a4 h4 hc0 hc1 x0 x1 x2 acc)]
  unfold kernelRun0_C
  dsimp only
  sl_unfold_words
  rw [View.canon_unit_zero hz2]
  simp only [View.readAt_eq_ld, h0.read_unread, h1.read_unread, h4.read_unread, View.ld_unit_zero (S := S1024x2048) hz2, View.ld_unit_zero (S := S2048x1024) hz2,
    View.ld_unit_zero (S := S1024x1024) hz2]
  rw [pay2_apply]

/-- The last point writes the finished sum times the scale. -/
theorem out_C (hc0 : ¬cond0_0 i) (hc1 : cond0_1 i) (j : S1024x1024.Idx) :
    out0_C_3 (F := Ideal) c i a0 h0 a1 h1 a2 h2 a3 h3 a4 h4 hc0 hc1 x0 x1 x2 acc j = (acc j + part x0 x1 j) * x2 (ix1 0) := by
  unfold out0_C_3
  rw [View.read_writes_eq_canon _ _ _ (cover0_C_3 c i a0 h0 a1 h1 a2 h2 a3 h3 a4 h4 hc0 hc1 x0 x1 x2 acc)]
  unfold kernelRun0_C
  dsimp only
  sl_unfold_words
  rw [View.canon_unit_zero hz2, View.readCov_unit_zero (S := S1024x1024) _ hz2]
  simp only [View.readAt_eq_ld, h0.read_unread, h1.read_unread, h2.read_unread, h4.read_unread, View.ld_unit_zero (S := S1024x2048) hz2, View.ld_unit_zero (S := S2048x1024) hz2,
    View.ld_unit_zero (S := S1024x1024) hz2]
  unfold k0_pay3
  rw [mulf_apply, pay2_apply]
  show (acc j + part x0 x1 j) * View.ld x2 (Rect.unit ![0] ![1] inb_S1_S1_0) (Shape.Idx.first _) = _
  rw [View.ld_unit_zero (S := S1) hz1, eq_ix1 (Shape.Idx.first _)]
  rfl

end Cases

/-! ## The input blocks, read off the arguments -/

theorem idx0 : ∀ t : Fin cfg0.N, win0_0.index t = ![t.val / 50, t.val % 10] := (by decide +kernel : ∀ t : Fin grid0.N, _)
theorem idx1 : ∀ t : Fin cfg0.N, win0_1.index t = ![t.val % 10, t.val / 10 % 5] := (by decide +kernel : ∀ t : Fin grid0.N, _)
theorem idx2 : ∀ t : Fin cfg0.N, win0_2.index t = ![0] := (by decide +kernel : ∀ t : Fin grid0.N, _)

/-- The left operand's block at point t is rows t / 50 and columns t mod 10 of the array, in blocks. -/
theorem blk0 (c : Dev nD) (t : Fin cfg0.N) (r : Fin 1024) (k : Fin 2048) (R : Fin 2048) (K : Fin 20480)
    (hR : R.val = t.val / 50 * 1024 + r.val) (hK : K.val = t.val % 10 * 2048 + k.val) :
    iblk m c 0 t (ix2 r k) = A0 m c (ix2 R K) := by
  unfold iblk
  rw [View.read_apply]
  show V m c main_arg0 _ = _
  rw [V_main_arg0]
  have e := idx0 t
  congr 1; funext a; apply Fin.ext
  match a with
  | ⟨0, _⟩ =>
    show win0_0.index t 0 * 1024 + 1 * r.val = R.val
    rw [e]; show t.val / 50 * 1024 + 1 * r.val = _; omega
  | ⟨1, _⟩ =>
    show win0_0.index t 1 * 2048 + 1 * k.val = K.val
    rw [e]; show t.val % 10 * 2048 + 1 * k.val = _; omega

/-- The right operand's block at point t is rows t mod 10 and columns (t / 10) mod 5 of the array, in blocks. -/
theorem blk1 (c : Dev nD) (t : Fin cfg0.N) (k : Fin 2048) (r : Fin 1024) (K : Fin 20480) (R : Fin 5120)
    (hR : R.val = t.val / 10 % 5 * 1024 + r.val) (hK : K.val = t.val % 10 * 2048 + k.val) :
    iblk m c 1 t (ix2 k r) = A1 m c (ix2 K R) := by
  unfold iblk
  rw [View.read_apply]
  show V m c main_arg1 _ = _
  rw [V_main_arg1]
  have e := idx1 t
  congr 1; funext a; apply Fin.ext
  match a with
  | ⟨0, _⟩ =>
    show win0_1.index t 0 * 2048 + 1 * k.val = K.val
    rw [e]; show t.val % 10 * 2048 + 1 * k.val = _; omega
  | ⟨1, _⟩ =>
    show win0_1.index t 1 * 1024 + 1 * r.val = R.val
    rw [e]; show t.val / 10 % 5 * 1024 + 1 * r.val = _; omega

/-- The scale the body reads is the product of the two scale arguments. -/
theorem V_scale (c : Dev nD) (j : S1.Idx) (z : S_.Idx) : V m c main_v1 j
    = A2 m c z * A3 m c z := by
  show StableHlo.after hostOps0 _ _ _ = _
  unfold hostOps0
  after_results
  show A2 m c _ * A3 m c _ = _
  congr 2 <;> exact Subsingleton.elim _ _

theorem blk2 (c : Dev nD) (t : Fin cfg0.N) (z : S_.Idx) :
    iblk m c 2 t (ix1 0) = A2 m c z * A3 m c z := by
  unfold iblk
  rw [View.read_apply]
  exact V_scale m c _ z

/-! ## The scratch over the grid, and the array -/

/-- Point n's block product (zero past the grid). -/
def P (c : Dev nD) (n : ℕ) (j : S1024x1024.Idx) : EReal :=
  if h : n < cfg0.N then part (iblk m c 0 ⟨n, h⟩) (iblk m c 1 ⟨n, h⟩) j else 0

/-- The scratch after point n is the sum of the block products since the last multiple of ten. -/
theorem scratch (c : Dev nD) (n : ℕ) (h : n < cfg0.N) (j : S1024x1024.Idx) :
    (outsAt0 m c n h).2 j = ∑ s ∈ Finset.range (n % 10 + 1), P m c (10 * (n / 10) + s) j := by
  refine running_sum cfg0.N 10 (fun n h => (outsAt0 m c n h).2) (P m c) ?_ ?_ n h j
  · intro n h j h0
    show (outsAt0 m c n h).2 j = _
    rw [outsAt0_A m c ⟨n, h⟩ h0 (fun h1 => by dsimp only at h1; omega)]
    dsimp only
    rw [sout_A, P, dif_pos h]
  · intro n h j h0
    show (outsAt0 m c (n + 1) h).2 j = (outsAt0 m c n (Nat.lt_of_succ_lt h)).2 j + _
    by_cases h1 : (n + 1) % 10 = 9
    · rw [outsAt0_C m c ⟨n + 1, h⟩ h0 h1]
      dsimp only
      rw [sout_C, P, dif_pos h]; rfl
    · rw [outsAt0_B m c ⟨n + 1, h⟩ h0 h1]
      dsimp only
      rw [sout_B, P, dif_pos h]; rfl

/-- What a tenth point writes is its scratch times the scale. -/
theorem out_last (c : Dev nD) (t : Fin cfg0.N) (h1 : t.val % 10 = 9) (j : S1024x1024.Idx) :
    (outsAt0 m c t.val t.isLt).1 j = (outsAt0 m c t.val t.isLt).2 j * iblk m c 2 t (ix1 0) := by
  have h0 : ¬t.val % 10 = 0 := by omega
  rw [outsAt0_C m c t h0 h1]
  dsimp only
  rw [out_C, sout_C]

/-- THE ARRAY: at (r, c) the whole product Σ_k dh[r, k] · w1[k, c] times the two scales. -/
theorem G3_apply (c : Dev nD) (r : Fin 2048) (q : Fin 5120) (z : S_.Idx) :
    Value.G3 m c (ix2 r q) = (∑ k : Fin 20480, A0 m c (ix2 r k) * A1 m c (ix2 k q)) * (A2 m c z * A3 m c z) := by
  have hp : 10 * (5 * (r.val / 1024) + q.val / 1024) + 9 < cfg0.N := by
    rw [show cfg0.N = 100 from N_0]; omega
  have ep : Value.pt3Of (ix2 r q) = 10 * (5 * (r.val / 1024) + q.val / 1024) + 9 := by
    show 10 * (5 * (r.val / 1024 - 0) + 1 * (q.val / 1024 - 0)) + 9 = _; omega
  suffices h : ∀ (n : ℕ) (hn' : n < cfg0.N) (_ : n = 10 * (5 * (r.val / 1024) + q.val / 1024) + 9),
      (outsAt0 m c n hn').1 (Value.loc3Of (ix2 r q))
        = (∑ k : Fin 20480, A0 m c (ix2 r k) * A1 m c (ix2 k q)) * (A2 m c z * A3 m c z) by
    unfold Value.G3
    rw [dif_pos (by rw [ep]; exact hp), ← Value.outsAt0_sweep m c _ (by rw [ep]; exact hp)]
    exact h _ _ ep
  intro n hn' ep
  refine (out_last m c ⟨n, hn'⟩ (by show n % 10 = 9; omega) _).trans ?_
  rw [blk2 m c _ z]
  refine congrArg (fun a : EReal => a * (A2 m c z * A3 m c z)) ?_
  show (outsAt0 m c n hn').2 _ = _
  rw [scratch, show n % 10 + 1 = 10 by omega]
  refine sum_stretches 10 2048 20480 (by norm_num) (fun k : Fin 20480 => A0 m c (ix2 r k) * A1 m c (ix2 k q))
    (fun s => P m c (10 * (n / 10) + s) (Value.loc3Of (ix2 r q))) fun s hs => ?_
  have hs' : 10 * (n / 10) + s < cfg0.N := by rw [show cfg0.N = 100 from N_0]; omega
  rw [P, dif_pos hs']
  refine Finset.sum_congr rfl fun k _ => ?_
  have hk := k.isLt
  have hr := r.isLt
  have hq := q.isLt
  exact congrArg₂ (fun a b : EReal => a * b)
    (blk0 m c ⟨_, hs'⟩ _ k r ⟨s * 2048 + k.val, by omega⟩
      (by show r.val = (10 * (n / 10) + s) / 50 * 1024 + r.val % 1024; omega)
      (by show s * 2048 + k.val = (10 * (n / 10) + s) % 10 * 2048 + k.val; omega))
    (blk1 m c ⟨_, hs'⟩ k _ ⟨s * 2048 + k.val, by omega⟩ q
      (by show q.val = (10 * (n / 10) + s) / 10 % 5 * 1024 + q.val % 1024; omega)
      (by show s * 2048 + k.val = (10 * (n / 10) + s) % 10 * 2048 + k.val; omega))

/-- The kernel's array is the reference's term over the same arguments: the product of dh with w1, times the product
    of the scales. -/
theorem value (c : Dev nD) : (Value.G3 m c : S2048x5120.Idx → EReal)
    = mulf (F := Ideal) (Host.dotGeneral Cert.ReferenceDxnIdeal.dot_S2048x20480_S20480x5120_S2048x5120_1_0_0_1_n_n none (φ₁ := .bf16) (φ₂ := .bf16) (A0 m c) (A1 m c))
        (broadcastInDim S2048x5120 ![] Cert.ReferenceDxnIdeal.Gen.bcast_S_S2048x5120 (mulf (A2 m c) (A3 m c))) := by
  funext i
  obtain ⟨r, q, rfl⟩ : ∃ r q, i = ix2 r q := ⟨i 0, i 1, eq_ix2 i⟩
  have e := G3_apply m c r q
  refine (e (fun a => a.elim0)).trans ?_
  refine congrArg₂ (fun a b : EReal => a * b) (StackMember.dotGeneral_plain_apply (φ₁ := .bf16) (φ₂ := .bf16) none (A0 m c) (A1 m c) r q).symm ?_
  exact (bcast_scalar _ _ (A2 m c) (A3 m c) _ _).symm

end Cert.KernelDxnIdeal.Hand

end
-- ==== Proof.Dw2.lean ====
/- The product dw2 = truncate((dyᵀ · a) · (s · s')): the kernel walks a grid of [1024, 1024] blocks of the result and
   forms each whole, from a [1024, 2048] and a [2048, 1024] block. The theorem `value` says that the array it leaves is
   the whole product scaled and truncated, which is what the reference computes in one step. -/
module

public import proofs.«01_k».proof.Proof.Gen.KernelDw2Ideal.Value
public import proofs.«01_k».proof.Proof.Gen.ReferenceDw2Ideal.Run
public import proofs.«01_k».proof.Proof.Common
public import Idealize.ShloMosaic.Lib.Tactic.ValueTie

@[expose] public section

set_option maxRecDepth 16384

noncomputable section

namespace Cert.KernelDw2Ideal.Hand

open Cert.KernelDw2Ideal Cert.KernelDw2Ideal.Gen
open Idealize.ShloMosaic hiding ix1 ix2 eq_ix1 eq_ix2
open Idealize.ShloMosaic.TcCoe Idealize.ShloMosaic.ValueIdx
open Idealize.ShloMosaic.Tactic Cert.Common
open scoped BigOperators

variable (m : (ℓ : Loc nD τ sig) → Buf (Elt Ideal) ℓ)

/-- The arguments as arrays: dyᵀ, a and the two scales. -/
abbrev A0 (c : Dev nD) : S5120x2048.Idx → EReal := m ((c : Thread nD τ).loc main_arg0)
abbrev A1 (c : Dev nD) : S2048x20480.Idx → EReal := m ((c : Thread nD τ).loc main_arg1)
abbrev A2 (c : Dev nD) : S_.Idx → EReal := m ((c : Thread nD τ).loc main_arg2)
abbrev A3 (c : Dev nD) : S_.Idx → EReal := m ((c : Thread nD τ).loc main_arg3)

/-- What a point writes, at (r, q) of its block: Σ_k x0[r, k] · x1[k, q], times the scale. -/
theorem out_apply (c : Dev nD) (i : grid0.Coords)
    (a0 : Memref sig .tc .vmem S1024x2048 .bf16) (h0 : a0.IsWhole) (a1 : Memref sig .tc .vmem S2048x1024 .bf16) (h1 : a1.IsWhole)
    (a2 : Memref sig .tc .smem S1 .f32) (h2 : a2.IsWhole) (a3 : Memref sig .tc .vmem S1024x1024 .bf16) (h3 : a3.IsWhole)
    (a4 : Memref sig .tc .vmem S8x128 .f32) (h4 : a4.IsWhole)
    (x0 : Vec Ideal S1024x2048 .bf16) (x1 : Vec Ideal S2048x1024 .bf16) (x2 : Vec Ideal S1 .f32) (r q : Fin 1024) :
    out0_A_3 (F := Ideal) c i a0 h0 a1 h1 a2 h2 a3 h3 a4 h4 x0 x1 x2 (ix2 r q)
      = (∑ k : Fin 2048, x0 (ix2 r k) * x1 (ix2 k q)) * x2 (ix1 0) := by
  unfold out0_A_3
  rw [View.read_writes_eq_canon _ _ _ (cover0_A_3 c i a0 h0 a1 h1 a2 h2 a3 h3 a4 h4 x0 x1 x2)]
  unfold kernelRun0_A
  dsimp only
  sl_unfold_words
  rw [View.canon_unit_zero hz2]
  simp only [View.readAt_eq_ld, h0.read_unread, h1.read_unread, h2.read_unread, View.ld_unit_zero (S := S1024x2048) hz2,
    View.ld_unit_zero (S := S2048x1024) hz2]
  unfold k0_pay1
  rw [truncf_apply, mulf_apply]
  show FloatOps.matmul (F := Ideal) (DotDims.plain 1024 2048 1024) none x0 x1 _ (ix2 r q)
    * View.ld x2 (Rect.unit ![0] ![1] inb_S1_S1_0) (Shape.Idx.first _) = _
  rw [Ideal.matmul_plain_apply, constant_apply, View.ld_unit_zero (S := S1) hz1, eq_ix1 (Shape.Idx.first _)]
  show (Ideal.ofBits .f32 0x00000000#32 + _) * x2 (ix1 0) = _
  rw [ofBits_zero, zero_add]

/-! ## The input blocks, read off the arguments -/

theorem idx0 : ∀ t : Fin cfg0.N, win0_0.index t = ![t.val / 20, 0] := (by decide +kernel : ∀ t : Fin grid0.N, _)
theorem idx1 : ∀ t : Fin cfg0.N, win0_1.index t = ![0, t.val % 20] := (by decide +kernel : ∀ t : Fin grid0.N, _)
theorem idx3 : ∀ t : Fin cfg0.N, win0_3.index t = ![t.val / 20, t.val % 20] := (by decide +kernel : ∀ t : Fin grid0.N, _)

/-- The left operand's block at point t is the t / 20-th stretch of 1024 rows. -/
theorem blk0 (c : Dev nD) (t : Fin cfg0.N) (r : Fin 1024) (k : Fin 2048) (R : Fin 5120)
    (hR : R.val = t.val / 20 * 1024 + r.val) :
    iblk m c 0 t (ix2 r k) = A0 m c (ix2 R k) := by
  unfold iblk
  rw [View.read_apply]
  show V m c main_arg0 _ = _
  rw [V_main_arg0]
  have e := idx0 t
  congr 1; funext a; apply Fin.ext
  match a with
  | ⟨0, _⟩ =>
    show win0_0.index t 0 * 1024 + 1 * r.val = R.val
    rw [e]; show t.val / 20 * 1024 + 1 * r.val = _; omega
  | ⟨1, _⟩ =>
    show win0_0.index t 1 * 2048 + 1 * k.val = k.val
    rw [e]; show 0 * 2048 + 1 * k.val = _; omega

/-- The right operand's block at point t is the (t mod 20)-th stretch of 1024 columns. -/
theorem blk1 (c : Dev nD) (t : Fin cfg0.N) (k : Fin 2048) (q : Fin 1024) (Q : Fin 20480)
    (hQ : Q.val = t.val % 20 * 1024 + q.val) :
    iblk m c 1 t (ix2 k q) = A1 m c (ix2 k Q) := by
  unfold iblk
  rw [View.read_apply]
  show V m c main_arg1 _ = _
  rw [V_main_arg1]
  have e := idx1 t
  congr 1; funext a; apply Fin.ext
  match a with
  | ⟨0, _⟩ =>
    show win0_1.index t 0 * 2048 + 1 * k.val = k.val
    rw [e]; show 0 * 2048 + 1 * k.val = _; omega
  | ⟨1, _⟩ =>
    show win0_1.index t 1 * 1024 + 1 * q.val = Q.val
    rw [e]; show t.val % 20 * 1024 + 1 * q.val = _; omega

/-- The scale the body reads is the product of the two scale arguments. -/
theorem V_scale (c : Dev nD) (j : S1.Idx) (z : S_.Idx) : V m c main_v1 j
    = A2 m c z * A3 m c z := by
  show StableHlo.after hostOps0 _ _ _ = _
  unfold hostOps0
  after_results
  show A2 m c _ * A3 m c _ = _
  congr 2 <;> exact Subsingleton.elim _ _

theorem blk2 (c : Dev nD) (t : Fin cfg0.N) (z : S_.Idx) :
    iblk m c 2 t (ix1 0) = A2 m c z * A3 m c z := by
  unfold iblk
  rw [View.read_apply]
  exact V_scale m c _ z

/-! ## The array -/

/-- THE ARRAY: at (r, q) the whole product Σ_k lhs[r, k] · rhs[k, q] times the two scales. -/
theorem arr_apply (c : Dev nD) (R : Fin 5120) (Q : Fin 20480) (z : S_.Idx) :
    (dats m 0 c).arrAt 3 cfg0.N (ix2 R Q)
      = (∑ k : Fin 2048, A0 m c (ix2 R k) * A1 m c (ix2 k Q)) * (A2 m c z * A3 m c z) := by
  have hR := R.isLt
  have hQ := Q.isLt
  obtain ⟨t, ht⟩ : ∃ t : Fin cfg0.N, t.val = 20 * (R.val / 1024) + Q.val / 1024 :=
    ⟨⟨20 * (R.val / 1024) + Q.val / 1024, by rw [show cfg0.N = 100 from N_0]; omega⟩, rfl⟩
  obtain ⟨r, hr⟩ : ∃ r : Fin 1024, r.val = R.val % 1024 := ⟨⟨R.val % 1024, Nat.mod_lt _ (by decide)⟩, rfl⟩
  obtain ⟨q, hq⟩ : ∃ q : Fin 1024, q.val = Q.val % 1024 := ⟨⟨Q.val % 1024, Nat.mod_lt _ (by decide)⟩, rfl⟩
  have e := congrFun (Value.blocks3 m c t (flush0_3 t)) (ix2 r q)
  rw [View.read_apply, Value.flushed3_A] at e
  have hi : (((cfg0.win 3).blk t).view.emb (ix2 r q) : S5120x20480.Idx) = ix2 R Q := by
    have e3 := idx3 t
    funext a; apply Fin.ext
    match a with
    | ⟨0, _⟩ =>
      show win0_3.index t 0 * 1024 + 1 * r.val = R.val
      rw [e3]; show t.val / 20 * 1024 + 1 * r.val = _; omega
    | ⟨1, _⟩ =>
      show win0_3.index t 1 * 1024 + 1 * q.val = Q.val
      rw [e3]; show t.val % 20 * 1024 + 1 * q.val = _; omega
  have e' : (dats m 0 c).arrAt 3 cfg0.N (ix2 R Q) = out0_A_3 c (grid0.coords t) (ms0_0 t) (hs0_0 t) (ms0_1 t) (hs0_1 t)
      (ms0_2 t) (hs0_2 t) (ms0_3 t) (hs0_3 t) scM0_0 (Memref.isWhole_whole _) (iblk m c 0 t) (iblk m c 1 t) (iblk m c 2 t) (ix2 r q) := by
    rw [← hi]; exact e
  rw [e', out_apply, blk2 m c t z]
  refine congrArg (fun a : EReal => a * (A2 m c z * A3 m c z)) (Finset.sum_congr rfl fun k _ => ?_)
  exact congrArg₂ (fun a b : EReal => a * b) (blk0 m c t r k R (by omega)) (blk1 m c t k q Q (by omega))

/-- The kernel's array is the reference's term over the same arguments: the product of dyᵀ with a, times the product of
    the scales, truncated. -/
theorem value (c : Dev nD) : ((dats m 0 c).arrAt 3 cfg0.N : S5120x20480.Idx → EReal)
    = truncf (F := Ideal) .bf16 (mulf (Host.dotGeneral Cert.ReferenceDw2Ideal.dot_S5120x2048_S2048x20480_S5120x20480_1_0_0_1_n_n none (φ₁ := .bf16) (φ₂ := .bf16) (A0 m c) (A1 m c))
        (broadcastInDim S5120x20480 ![] Cert.ReferenceDw2Ideal.Gen.bcast_S_S5120x20480 (mulf (A2 m c) (A3 m c)))) Cert.ReferenceDw2Ideal.Gen.bitsLt_bf16_f32 := by
  funext i
  obtain ⟨r, q, rfl⟩ : ∃ r q, i = ix2 r q := ⟨i 0, i 1, eq_ix2 i⟩
  refine (arr_apply m c r q (fun a => a.elim0)).trans ?_
  refine congrArg₂ (fun a b : EReal => a * b) (StackMember.dotGeneral_plain_apply (φ₁ := .bf16) (φ₂ := .bf16) none (A0 m c) (A1 m c) r q).symm ?_
  exact (bcast_scalar _ _ (A2 m c) (A3 m c) _ _).symm

end Cert.KernelDw2Ideal.Hand

end
-- ==== Proof.Dw1.lean ====
/- The product dw1 = truncate((dhᵀ · xn) · (s · s')): the kernel walks a grid of [1024, 1024] blocks of the result and
   forms each whole, from a [1024, 2048] and a [2048, 1024] block. The theorem `value` says that the array it leaves is
   the whole product scaled and truncated, which is what the reference computes in one step. -/
module

public import proofs.«01_k».proof.Proof.Gen.KernelDw1Ideal.Value
public import proofs.«01_k».proof.Proof.Gen.ReferenceDw1Ideal.Run
public import proofs.«01_k».proof.Proof.Common
public import Idealize.ShloMosaic.Lib.Tactic.ValueTie

@[expose] public section

set_option maxRecDepth 16384

noncomputable section

namespace Cert.KernelDw1Ideal.Hand

open Cert.KernelDw1Ideal Cert.KernelDw1Ideal.Gen
open Idealize.ShloMosaic hiding ix1 ix2 eq_ix1 eq_ix2
open Idealize.ShloMosaic.TcCoe Idealize.ShloMosaic.ValueIdx
open Idealize.ShloMosaic.Tactic Cert.Common
open scoped BigOperators

variable (m : (ℓ : Loc nD τ sig) → Buf (Elt Ideal) ℓ)

/-- The arguments as arrays: dhᵀ, xn and the two scales. -/
abbrev A0 (c : Dev nD) : S20480x2048.Idx → EReal := m ((c : Thread nD τ).loc main_arg0)
abbrev A1 (c : Dev nD) : S2048x5120.Idx → EReal := m ((c : Thread nD τ).loc main_arg1)
abbrev A2 (c : Dev nD) : S_.Idx → EReal := m ((c : Thread nD τ).loc main_arg2)
abbrev A3 (c : Dev nD) : S_.Idx → EReal := m ((c : Thread nD τ).loc main_arg3)

/-- What a point writes, at (r, q) of its block: Σ_k x0[r, k] · x1[k, q], times the scale. -/
theorem out_apply (c : Dev nD) (i : grid0.Coords)
    (a0 : Memref sig .tc .vmem S1024x2048 .bf16) (h0 : a0.IsWhole) (a1 : Memref sig .tc .vmem S2048x1024 .bf16) (h1 : a1.IsWhole)
    (a2 : Memref sig .tc .smem S1 .f32) (h2 : a2.IsWhole) (a3 : Memref sig .tc .vmem S1024x1024 .bf16) (h3 : a3.IsWhole)
    (a4 : Memref sig .tc .vmem S8x128 .f32) (h4 : a4.IsWhole)
    (x0 : Vec Ideal S1024x2048 .bf16) (x1 : Vec Ideal S2048x1024 .bf16) (x2 : Vec Ideal S1 .f32) (r q : Fin 1024) :
    out0_A_3 (F := Ideal) c i a0 h0 a1 h1 a2 h2 a3 h3 a4 h4 x0 x1 x2 (ix2 r q)
      = (∑ k : Fin 2048, x0 (ix2 r k) * x1 (ix2 k q)) * x2 (ix1 0) := by
  unfold out0_A_3
  rw [View.read_writes_eq_canon _ _ _ (cover0_A_3 c i a0 h0 a1 h1 a2 h2 a3 h3 a4 h4 x0 x1 x2)]
  unfold kernelRun0_A
  dsimp only
  sl_unfold_words
  rw [View.canon_unit_zero hz2]
  simp only [View.readAt_eq_ld, h0.read_unread, h1.read_unread, h2.read_unread, View.ld_unit_zero (S := S1024x2048) hz2,
    View.ld_unit_zero (S := S2048x1024) hz2]
  unfold k0_pay1
  rw [truncf_apply, mulf_apply]
  show FloatOps.matmul (F := Ideal) (DotDims.plain 1024 2048 1024) none x0 x1 _ (ix2 r q)
    * View.ld x2 (Rect.unit ![0] ![1] inb_S1_S1_0) (Shape.Idx.first _) = _
  rw [Ideal.matmul_plain_apply, constant_apply, View.ld_unit_zero (S := S1) hz1, eq_ix1 (Shape.Idx.first _)]
  show (Ideal.ofBits .f32 0x00000000#32 + _) * x2 (ix1 0) = _
  rw [ofBits_zero, zero_add]

/-! ## The input blocks, read off the arguments -/

theorem idx0 : ∀ t : Fin cfg0.N, win0_0.index t = ![t.val / 5, 0] := (by decide +kernel : ∀ t : Fin grid0.N, _)
theorem idx1 : ∀ t : Fin cfg0.N, win0_1.index t = ![0, t.val % 5] := (by decide +kernel : ∀ t : Fin grid0.N, _)
theorem idx3 : ∀ t : Fin cfg0.N, win0_3.index t = ![t.val / 5, t.val % 5] := (by decide +kernel : ∀ t : Fin grid0.N, _)

/-- The left operand's block at point t is the t / 5-th stretch of 1024 rows. -/
theorem blk0 (c : Dev nD) (t : Fin cfg0.N) (r : Fin 1024) (k : Fin 2048) (R : Fin 20480)
    (hR : R.val = t.val / 5 * 1024 + r.val) :
    iblk m c 0 t (ix2 r k) = A0 m c (ix2 R k) := by
  unfold iblk
  rw [View.read_apply]
  show V m c main_arg0 _ = _
  rw [V_main_arg0]
  have e := idx0 t
  congr 1; funext a; apply Fin.ext
  match a with
  | ⟨0, _⟩ =>
    show win0_0.index t 0 * 1024 + 1 * r.val = R.val
    rw [e]; show t.val / 5 * 1024 + 1 * r.val = _; omega
  | ⟨1, _⟩ =>
    show win0_0.index t 1 * 2048 + 1 * k.val = k.val
    rw [e]; show 0 * 2048 + 1 * k.val = _; omega

/-- The right operand's block at point t is the (t mod 5)-th stretch of 1024 columns. -/
theorem blk1 (c : Dev nD) (t : Fin cfg0.N) (k : Fin 2048) (q : Fin 1024) (Q : Fin 5120)
    (hQ : Q.val = t.val % 5 * 1024 + q.val) :
    iblk m c 1 t (ix2 k q) = A1 m c (ix2 k Q) := by
  unfold iblk
  rw [View.read_apply]
  show V m c main_arg1 _ = _
  rw [V_main_arg1]
  have e := idx1 t
  congr 1; funext a; apply Fin.ext
  match a with
  | ⟨0, _⟩ =>
    show win0_1.index t 0 * 2048 + 1 * k.val = k.val
    rw [e]; show 0 * 2048 + 1 * k.val = _; omega
  | ⟨1, _⟩ =>
    show win0_1.index t 1 * 1024 + 1 * q.val = Q.val
    rw [e]; show t.val % 5 * 1024 + 1 * q.val = _; omega

/-- The scale the body reads is the product of the two scale arguments. -/
theorem V_scale (c : Dev nD) (j : S1.Idx) (z : S_.Idx) : V m c main_v1 j
    = A2 m c z * A3 m c z := by
  show StableHlo.after hostOps0 _ _ _ = _
  unfold hostOps0
  after_results
  show A2 m c _ * A3 m c _ = _
  congr 2 <;> exact Subsingleton.elim _ _

theorem blk2 (c : Dev nD) (t : Fin cfg0.N) (z : S_.Idx) :
    iblk m c 2 t (ix1 0) = A2 m c z * A3 m c z := by
  unfold iblk
  rw [View.read_apply]
  exact V_scale m c _ z

/-! ## The array -/

/-- THE ARRAY: at (r, q) the whole product Σ_k lhs[r, k] · rhs[k, q] times the two scales. -/
theorem arr_apply (c : Dev nD) (R : Fin 20480) (Q : Fin 5120) (z : S_.Idx) :
    (dats m 0 c).arrAt 3 cfg0.N (ix2 R Q)
      = (∑ k : Fin 2048, A0 m c (ix2 R k) * A1 m c (ix2 k Q)) * (A2 m c z * A3 m c z) := by
  have hR := R.isLt
  have hQ := Q.isLt
  obtain ⟨t, ht⟩ : ∃ t : Fin cfg0.N, t.val = 5 * (R.val / 1024) + Q.val / 1024 :=
    ⟨⟨5 * (R.val / 1024) + Q.val / 1024, by rw [show cfg0.N = 100 from N_0]; omega⟩, rfl⟩
  obtain ⟨r, hr⟩ : ∃ r : Fin 1024, r.val = R.val % 1024 := ⟨⟨R.val % 1024, Nat.mod_lt _ (by decide)⟩, rfl⟩
  obtain ⟨q, hq⟩ : ∃ q : Fin 1024, q.val = Q.val % 1024 := ⟨⟨Q.val % 1024, Nat.mod_lt _ (by decide)⟩, rfl⟩
  have e := congrFun (Value.blocks3 m c t (flush0_3 t)) (ix2 r q)
  rw [View.read_apply, Value.flushed3_A] at e
  have hi : (((cfg0.win 3).blk t).view.emb (ix2 r q) : S20480x5120.Idx) = ix2 R Q := by
    have e3 := idx3 t
    funext a; apply Fin.ext
    match a with
    | ⟨0, _⟩ =>
      show win0_3.index t 0 * 1024 + 1 * r.val = R.val
      rw [e3]; show t.val / 5 * 1024 + 1 * r.val = _; omega
    | ⟨1, _⟩ =>
      show win0_3.index t 1 * 1024 + 1 * q.val = Q.val
      rw [e3]; show t.val % 5 * 1024 + 1 * q.val = _; omega
  have e' : (dats m 0 c).arrAt 3 cfg0.N (ix2 R Q) = out0_A_3 c (grid0.coords t) (ms0_0 t) (hs0_0 t) (ms0_1 t) (hs0_1 t)
      (ms0_2 t) (hs0_2 t) (ms0_3 t) (hs0_3 t) scM0_0 (Memref.isWhole_whole _) (iblk m c 0 t) (iblk m c 1 t) (iblk m c 2 t) (ix2 r q) := by
    rw [← hi]; exact e
  rw [e', out_apply, blk2 m c t z]
  refine congrArg (fun a : EReal => a * (A2 m c z * A3 m c z)) (Finset.sum_congr rfl fun k _ => ?_)
  exact congrArg₂ (fun a b : EReal => a * b) (blk0 m c t r k R (by omega)) (blk1 m c t k q Q (by omega))

/-- The kernel's array is the reference's term over the same arguments: the product of dhᵀ with xn, times the product of
    the scales, truncated. -/
theorem value (c : Dev nD) : ((dats m 0 c).arrAt 3 cfg0.N : S20480x5120.Idx → EReal)
    = truncf (F := Ideal) .bf16 (mulf (Host.dotGeneral Cert.ReferenceDw1Ideal.dot_S20480x2048_S2048x5120_S20480x5120_1_0_0_1_n_n none (φ₁ := .bf16) (φ₂ := .bf16) (A0 m c) (A1 m c))
        (broadcastInDim S20480x5120 ![] Cert.ReferenceDw1Ideal.Gen.bcast_S_S20480x5120 (mulf (A2 m c) (A3 m c)))) Cert.ReferenceDw1Ideal.Gen.bitsLt_bf16_f32 := by
  funext i
  obtain ⟨r, q, rfl⟩ : ∃ r q, i = ix2 r q := ⟨i 0, i 1, eq_ix2 i⟩
  refine (arr_apply m c r q (fun a => a.elim0)).trans ?_
  refine congrArg₂ (fun a b : EReal => a * b) (StackMember.dotGeneral_plain_apply (φ₁ := .bf16) (φ₂ := .bf16) none (A0 m c) (A1 m c) r q).symm ?_
  exact (bcast_scalar _ _ (A2 m c) (A3 m c) _ _).symm

end Cert.KernelDw1Ideal.Hand

end
-- ==== Proof.Norm.lean ====
/- The backward of the norm: from x, the rms of each row, gamma and dxn, the array dx and the row means c. The kernel takes
   64 rows at a time; what it computes of a row depends on that row alone. Beside them it keeps eight partial sums of dgamma,
   row r of the array going to the sum number r mod 8, which the lines after the call add up. The theorems `value_c`,
   `value_dx` and `value_dgamma` say that the three results are the reference's, which are computed of all rows at once. -/
module

public import proofs.«01_k».proof.Proof.Gen.KernelNormIdeal.Frame
public import proofs.«01_k».proof.Proof.Gen.ReferenceNormIdeal.Run
public import proofs.«01_k».proof.Proof.Common
public import Idealize.ShloMosaic.Lib.Pointwise.Reduce
public import Idealize.ShloMosaic.Lib.IdealHost
public import Idealize.ShloMosaic.Lib.KernelVsHost
public import Idealize.ShloMosaic.Lib.Tactic.ValueTie

@[expose] public section

set_option maxRecDepth 16384

noncomputable section

namespace Cert.KernelNormIdeal.Hand

open Cert.KernelNormIdeal Cert.KernelNormIdeal.Gen
open Idealize.ShloMosaic hiding ix1 ix2 ix3 eq_ix1 eq_ix2 eq_ix3
open Idealize.ShloMosaic.TcCoe Idealize.ShloMosaic.ValueIdx
open Idealize.ShloMosaic.Tactic Cert.Common
open Idealize.SL.Sem
open scoped BigOperators

variable (m : (ℓ : Loc nD τ sig) → Buf (Elt Ideal) ℓ)

/-- The arguments as arrays: x, the rms of each row (in every lane), gamma and dxn. -/
abbrev A0 (c : Dev nD) : S2048x5120.Idx → EReal := m ((c : Thread nD τ).loc main_arg0)
abbrev A1 (c : Dev nD) : S2048x128.Idx → EReal := m ((c : Thread nD τ).loc main_arg1)
abbrev A2 (c : Dev nD) : S5120.Idx → EReal := m ((c : Thread nD τ).loc main_arg2)
abbrev A3 (c : Dev nD) : S2048x5120.Idx → EReal := m ((c : Thread nD τ).loc main_arg3)

/-! ## One row -/

/-- The quotient of the ideal programs. -/
def dv (a b : EReal) : EReal := FloatOps.divf (F := Ideal) (φ := .f32) a b

/-- c of a row: the mean over the row of (dxn · gamma) · (x / rms). -/
def cRow (x d g : Fin 5120 → EReal) (s : EReal) : EReal :=
  dv (∑ k : Fin 5120, d k * g k * dv (x k) s) (Ideal.ofBits .f32 0x45A00000#32)

/-- dx of a row at column k: ((dxn · gamma) − (x / rms) · c) / rms. -/
def dxRow (x d g : Fin 5120 → EReal) (s : EReal) (k : Fin 5120) : EReal :=
  dv (d k * g k - dv (x k) s * cRow x d g s) s

/-! ## What a point computes of its rows -/

/-- A column laid over the columns of a matrix is, at (r, k), its entry in row r. -/
theorem bcol {n : ℕ} (v : (⟨2, ![64, 1]⟩ : Shape).Idx → EReal) (h : (⟨2, ![64, 1]⟩ : Shape).Broadcasts ⟨2, ![64, n]⟩)
    (r : Fin 64) (k : Fin n) : broadcastTo ⟨2, ![64, n]⟩ v h (ix2 r k) = v (ix2 r 0) := by
  refine broadcastTo_apply _ h _ _ (fun a => ?_)
  match a with
  | ⟨0, _⟩ => rfl
  | ⟨1, _⟩ => rfl

theorem pay2_apply (v3 : Vec Ideal S64x1 .f32) (v4 : Vec Ideal S64x5120 .bf16) (r : Fin 64) (k : Fin 5120) :
    k0_pay2 (F := Ideal) v3 v4 (ix2 r k) = dv (v4 (ix2 r k)) (v3 (ix2 r 0)) := by
  unfold k0_pay2
  exact congrArg (dv (v4 (ix2 r k))) (bcol v3 broadcasts_S64x1_S64x5120 r k)

theorem pay4_apply (v8 : Vec Ideal S64x5120 .f32) (v16 : Vec Ideal S1x5120 .f32) (r : Fin 64) (k : Fin 5120) :
    k0_pay4 (F := Ideal) v8 v16 (ix2 r k) = v8 (ix2 r k) * v16 (ix2 0 k) := by
  unfold k0_pay4
  refine congrArg (fun a : EReal => v8 (ix2 r k) * a) ?_
  refine (broadcastTo_apply _ broadcasts_S1x5120_S64x5120 _ (ix2 0 k) (fun a => ?_)).trans ?_
  · match a with
    | ⟨0, _⟩ => rfl
    | ⟨1, _⟩ => rfl
  · exact shapeCast_apply _ _ _ _ rfl

theorem pay5_apply (v3 : Vec Ideal S64x1 .f32) (v4 : Vec Ideal S64x5120 .bf16) (v8 : Vec Ideal S64x5120 .f32)
    (v16 : Vec Ideal S1x5120 .f32) (r : Fin 64) :
    k0_pay5 (F := Ideal) v3 v4 v8 v16 (ix2 r 0)
      = cRow (fun k => v4 (ix2 r k)) (fun k => v8 (ix2 r k)) (fun k => v16 (ix2 0 k)) (v3 (ix2 r 0)) := by
  unfold k0_pay5
  refine congrArg (fun a : EReal => dv a (Ideal.ofBits .f32 0x45A00000#32)) ?_
  refine (shapeCast_apply _ shapeCasts_S64_S64x1 _ (ix1 r) ?_).trans ?_
  · rw [Shape.rowMajor_val_one, Shape.rowMajor_val_two]
    show r.val = r.val * 1 + 0
    omega
  · refine (Ideal.reduceAdd_r2_a1 (n0 := 64) (n1 := 5120) reduces_S64x5120_S64 _ (ix1 r)).trans (Finset.sum_congr rfl fun k _ => ?_)
    exact congrArg₂ (fun a b : EReal => a * b) (pay4_apply v8 v16 r k) (pay2_apply v3 v4 r k)

theorem pay6_apply (v3 : Vec Ideal S64x1 .f32) (v4 : Vec Ideal S64x5120 .bf16) (v8 : Vec Ideal S64x5120 .f32)
    (v16 : Vec Ideal S1x5120 .f32) (r : Fin 64) (q : Fin 128) :
    k0_pay6 (F := Ideal) v3 v4 v8 v16 (ix2 r q)
      = cRow (fun k => v4 (ix2 r k)) (fun k => v8 (ix2 r k)) (fun k => v16 (ix2 0 k)) (v3 (ix2 r 0)) := by
  unfold k0_pay6
  refine (bcol _ broadcasts_S64x1_S64x128 r q).trans ?_
  exact (shapeCast_apply _ _ _ (ix2 r 0) rfl).trans (pay5_apply v3 v4 v8 v16 r)

theorem pay7_apply (v3 : Vec Ideal S64x1 .f32) (v4 : Vec Ideal S64x5120 .bf16) (v8 : Vec Ideal S64x5120 .f32)
    (v16 : Vec Ideal S1x5120 .f32) (r : Fin 64) (k : Fin 5120) :
    k0_pay7 (F := Ideal) v3 v4 v8 v16 (ix2 r k)
      = dxRow (fun k => v4 (ix2 r k)) (fun k => v8 (ix2 r k)) (fun k => v16 (ix2 0 k)) (v3 (ix2 r 0)) k := by
  unfold k0_pay7
  refine congrArg₂ dv (congrArg₂ (fun a b : EReal => a - b) (pay4_apply v8 v16 r k) ?_) (bcol v3 broadcasts_S64x1_S64x5120 r k)
  exact congrArg₂ (fun a b : EReal => a * b) (pay2_apply v3 v4 r k)
    ((bcol _ broadcasts_S64x1_S64x5120 r k).trans (pay5_apply v3 v4 v8 v16 r))

/-- The part of the partial sum number r of dgamma, in column k, that a point's 64 rows give: rows r, 8 + r, …, 56 + r. -/
def part8 (x : Fin 64 → EReal) (d : Fin 64 → EReal) (s : Fin 64 → EReal) (r : Fin 8) : EReal :=
  ∑ a : Fin 8, d ⟨a.val * 8 + r.val, by omega⟩ * dv (x ⟨a.val * 8 + r.val, by omega⟩) (s ⟨a.val * 8 + r.val, by omega⟩)

theorem pay3_apply (v3 : Vec Ideal S64x1 .f32) (v4 : Vec Ideal S64x5120 .bf16) (v8 : Vec Ideal S64x5120 .f32)
    (v9 : Vec Ideal S8x5120 .f32) (r : Fin 8) (k : Fin 5120) :
    k0_pay3 (F := Ideal) v3 v4 v8 v9 (ix2 r k)
      = v9 (ix2 r k) + part8 (fun p => v4 (ix2 p k)) (fun p => v8 (ix2 p k)) (fun p => v3 (ix2 p 0)) r := by
  unfold k0_pay3
  refine congrArg₂ (fun a b : EReal => a + b) (shapeCast_apply _ _ _ (ix2 r k) rfl) ?_
  refine (Ideal.reduceAdd_r3_a0 (n0 := 8) (n1 := 8) (n2 := 5120) reduces_S8x8x5120_S8x5120 _ (ix2 r k)).trans (Finset.sum_congr rfl fun a _ => ?_)
  refine (shapeCast_apply _ shapeCasts_S64x5120_S8x8x5120 _ (ix2 (⟨a.val * 8 + r.val, by omega⟩ : Fin 64) k) ?_).trans ?_
  · rw [Shape.rowMajor_val_two, Shape.rowMajor_val_three]
    show (a.val * 8 + r.val) * 5120 + k.val = (a.val * 8 + r.val) * 5120 + k.val
    rfl
  · exact congrArg (fun b : EReal => v8 (ix2 _ k) * b) (pay2_apply v3 v4 _ k)

/-- The rms that the body loads, the first lane of its block, at row r. -/
theorem ld_rms (x1 : Vec Ideal S64x128 .f32) (r : Fin 64) :
    View.ld x1 (Rect.unit (s := S64x128) ![0, 0] S64x1.size inb_S64x128_S64x1_0_0) (ix2 r 0) = x1 (ix2 r 0) := by
  show x1 ((Rect.unit (s := S64x128) ![0, 0] S64x1.size inb_S64x128_S64x1_0_0).emb _) = _
  congr 1; funext a; apply Fin.ext
  match a with
  | ⟨0, _⟩ => show 0 + 1 * r.val = r.val; omega
  | ⟨1, _⟩ => rfl

section Out

variable (c : Dev nD) (i : grid0.Coords)
    (a0 : Memref sig .tc .vmem S64x5120 .bf16) (h0 : a0.IsWhole) (a1 : Memref sig .tc .vmem S64x128 .f32) (h1 : a1.IsWhole)
    (a2 : Memref sig .tc .vmem S1x5120 .f32) (h2 : a2.IsWhole) (a3 : Memref sig .tc .vmem S64x5120 .f32) (h3 : a3.IsWhole)
    (a4 : Memref sig .tc .vmem S64x5120 .bf16) (h4 : a4.IsWhole) (a5 : Memref sig .tc .vmem S64x128 .f32) (h5 : a5.IsWhole)
    (a6 : Memref sig .tc .vmem S8x5120 .f32) (h6 : a6.IsWhole)
    (x0 : Vec Ideal S64x5120 .bf16) (x1 : Vec Ideal S64x128 .f32) (x2 : Vec Ideal S1x5120 .f32) (x3 : Vec Ideal S64x5120 .f32)
    (xo : Vec Ideal S8x5120 .f32) (r : Fin 64)

/-- What the first point writes to dx. -/
theorem outA4_apply (hc : cond0_0 i) (k : Fin 5120) :
    out0_A_4 (F := Ideal) c i a0 h0 a1 h1 a2 h2 a3 h3 a4 h4 a5 h5 a6 h6 hc x0 x1 x2 x3 (ix2 r k)
      = dxRow (fun k => x0 (ix2 r k)) (fun k => x3 (ix2 r k)) (fun k => x2 (ix2 0 k)) (x1 (ix2 r 0)) k := by
  unfold out0_A_4
  rw [View.read_writes_eq_canon _ _ _ (cover0_A_4 c i a0 h0 a1 h1 a2 h2 a3 h3 a4 h4 a5 h5 a6 h6 hc x0 x1 x2 x3)]
  unfold kernelRun0_A
  dsimp only
  sl_unfold_words
  rw [View.canon_unit_zero hz2]
  simp only [View.readAt_eq_ld, h0.read_unread, h1.read_unread, h2.read_unread, h3.read_unread,
    View.ld_unit_zero (S := S64x5120) hz2, View.ld_unit_zero (S := S1x5120) hz2]
  rw [pay7_apply, ld_rms]

/-- What the first point writes to c. -/
theorem outA5_apply (hc : cond0_0 i) (q : Fin 128) :
    out0_A_5 (F := Ideal) c i a0 h0 a1 h1 a2 h2 a3 h3 a4 h4 a5 h5 a6 h6 hc x0 x1 x2 x3 (ix2 r q)
      = cRow (fun k => x0 (ix2 r k)) (fun k => x3 (ix2 r k)) (fun k => x2 (ix2 0 k)) (x1 (ix2 r 0)) := by
  unfold out0_A_5
  rw [View.read_writes_eq_canon _ _ _ (cover0_A_5 c i a0 h0 a1 h1 a2 h2 a3 h3 a4 h4 a5 h5 a6 h6 hc x0 x1 x2 x3)]
  unfold kernelRun0_A
  dsimp only
  sl_unfold_words
  rw [View.canon_unit_zero hz2]
  simp only [View.readAt_eq_ld, h0.read_unread, h1.read_unread, h2.read_unread, h3.read_unread,
    View.ld_unit_zero (S := S64x5120) hz2, View.ld_unit_zero (S := S1x5120) hz2]
  rw [pay6_apply, ld_rms]

/-- What a later point writes to dx: the same. -/
theorem outB4_apply (hc : ¬cond0_0 i) (k : Fin 5120) :
    out0_B_4 (F := Ideal) c i a0 h0 a1 h1 a2 h2 a3 h3 a4 h4 a5 h5 a6 h6 hc x0 x1 x2 x3 xo (ix2 r k)
      = dxRow (fun k => x0 (ix2 r k)) (fun k => x3 (ix2 r k)) (fun k => x2 (ix2 0 k)) (x1 (ix2 r 0)) k := by
  unfold out0_B_4
  rw [View.read_writes_eq_canon _ _ _ (cover0_B_4 c i a0 h0 a1 h1 a2 h2 a3 h3 a4 h4 a5 h5 a6 h6 hc x0 x1 x2 x3 xo)]
  unfold kernelRun0_B
  dsimp only
  sl_unfold_words
  rw [View.canon_unit_zero hz2]
  simp only [View.readAt_eq_ld, h0.read_unread, h1.read_unread, h2.read_unread, h3.read_unread,
    View.ld_unit_zero (S := S64x5120) hz2, View.ld_unit_zero (S := S1x5120) hz2]
  rw [pay7_apply, ld_rms]

/-- What a later point writes to c: the same. -/
theorem outB5_apply (hc : ¬cond0_0 i) (q : Fin 128) :
    out0_B_5 (F := Ideal) c i a0 h0 a1 h1 a2 h2 a3 h3 a4 h4 a5 h5 a6 h6 hc x0 x1 x2 x3 xo (ix2 r q)
      = cRow (fun k => x0 (ix2 r k)) (fun k => x3 (ix2 r k)) (fun k => x2 (ix2 0 k)) (x1 (ix2 r 0)) := by
  unfold out0_B_5
  rw [View.read_writes_eq_canon _ _ _ (cover0_B_5 c i a0 h0 a1 h1 a2 h2 a3 h3 a4 h4 a5 h5 a6 h6 hc x0 x1 x2 x3 xo)]
  unfold kernelRun0_B
  dsimp only
  sl_unfold_words
  rw [View.canon_unit_zero hz2]
  simp only [View.readAt_eq_ld, h0.read_unread, h1.read_unread, h2.read_unread, h3.read_unread,
    View.ld_unit_zero (S := S64x5120) hz2, View.ld_unit_zero (S := S1x5120) hz2]
  rw [pay6_apply, ld_rms]

/-- What the first point leaves in the partial sums of dgamma: the part that its rows give. -/
theorem outA6_apply (hc : cond0_0 i) (r : Fin 8) (k : Fin 5120) :
    out0_A_6 (F := Ideal) c i a0 h0 a1 h1 a2 h2 a3 h3 a4 h4 a5 h5 a6 h6 hc x0 x1 x2 x3 (ix2 r k)
      = part8 (fun p => x0 (ix2 p k)) (fun p => x3 (ix2 p k)) (fun p => x1 (ix2 p 0)) r := by
  unfold out0_A_6
  rw [View.read_writes_eq_canon _ _ _ (cover0_A_6 c i a0 h0 a1 h1 a2 h2 a3 h3 a4 h4 a5 h5 a6 h6 hc x0 x1 x2 x3)]
  unfold kernelRun0_A
  dsimp only
  sl_unfold_words
  rw [View.canon_cons_unit_zero (S := S8x5120) hz2, View.readCov_unit_zero (S := S8x5120) _ hz2]
  simp only [View.readAt_eq_ld, h0.read_unread, h1.read_unread, h2.read_unread, h3.read_unread,
    View.ld_unit_zero (S := S64x5120) hz2, View.ld_unit_zero (S := S1x5120) hz2]
  rw [pay3_apply]
  unfold k0_pay1
  show Ideal.ofBits .f32 0x00000000#32 + _ = _
  rw [ofBits_zero, zero_add]
  exact congrArg (fun g : Fin 64 → EReal => part8 _ _ g r) (funext fun p => ld_rms x1 p)

/-- What a later point leaves there: what the point before left, and the part that its rows give. -/
theorem outB6_apply (hc : ¬cond0_0 i) (r : Fin 8) (k : Fin 5120) :
    out0_B_6 (F := Ideal) c i a0 h0 a1 h1 a2 h2 a3 h3 a4 h4 a5 h5 a6 h6 hc x0 x1 x2 x3 xo (ix2 r k)
      = xo (ix2 r k) + part8 (fun p => x0 (ix2 p k)) (fun p => x3 (ix2 p k)) (fun p => x1 (ix2 p 0)) r := by
  unfold out0_B_6
  rw [View.read_writes_eq_canon _ _ _ (cover0_B_6 c i a0 h0 a1 h1 a2 h2 a3 h3 a4 h4 a5 h5 a6 h6 hc x0 x1 x2 x3 xo)]
  unfold kernelRun0_B
  dsimp only
  sl_unfold_words
  rw [View.canon_unit_zero hz2]
  simp only [View.readAt_eq_ld, h0.read_unread, h1.read_unread, h2.read_unread, h3.read_unread, h6.read_unread,
    View.ld_unit_zero (S := S64x5120) hz2, View.ld_unit_zero (S := S1x5120) hz2, View.ld_unit_zero (S := S8x5120) hz2]
  rw [pay3_apply]
  exact congrArg (fun g : Fin 64 → EReal => xo (ix2 r k) + part8 _ _ g r) (funext fun p => ld_rms x1 p)

end Out

/-! ## The input blocks, read off the arguments -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx6 : ∀ t : Fin cfg0.N, win0_6.index t = ![0, 0] := (by decide +kernel : ∀ t : Fin grid0.N, _)
theorem idx5 : ∀ t : Fin cfg0.N, win0_5.index t = ![t.val, 0] := (by decide +kernel : ∀ t : Fin grid0.N, _)

/-- The block of x at point t is the t-th stretch of 64 rows. -/
theorem blk0 (c : Dev nD) (t : Fin cfg0.N) (r : Fin 64) (k : Fin 5120) (R : Fin 2048) (hR : R.val = t.val * 64 + r.val) :
    iblk m c 0 t (ix2 r k) = A0 m c (ix2 R k) := by
  unfold iblk
  rw [View.read_apply]
  show V m c main_arg0 _ = _
  rw [V_main_arg0]
  have e := idx0 t
  congr 1; funext a; apply Fin.ext
  match a with
  | ⟨0, _⟩ => show win0_0.index t 0 * 64 + 1 * r.val = R.val; rw [e]; show t.val * 64 + 1 * r.val = _; omega
  | ⟨1, _⟩ => show win0_0.index t 1 * 5120 + 1 * k.val = k.val; rw [e]; show 0 * 5120 + 1 * k.val = _; omega

/-- The block of the rms at point t is the t-th stretch of 64 rows. -/
theorem blk1 (c : Dev nD) (t : Fin cfg0.N) (r : Fin 64) (k : Fin 128) (R : Fin 2048) (hR : R.val = t.val * 64 + r.val) :
    iblk m c 1 t (ix2 r k) = A1 m c (ix2 R k) := by
  unfold iblk
  rw [View.read_apply]
  show V m c main_arg1 _ = _
  rw [V_main_arg1]
  have e := idx1 t
  congr 1; funext a; apply Fin.ext
  match a with
  | ⟨0, _⟩ => show win0_1.index t 0 * 64 + 1 * r.val = R.val; rw [e]; show t.val * 64 + 1 * r.val = _; omega
  | ⟨1, _⟩ => show win0_1.index t 1 * 128 + 1 * k.val = k.val; rw [e]; show 0 * 128 + 1 * k.val = _; omega

/-- The block of dxn at point t is the t-th stretch of 64 rows. -/
theorem blk3 (c : Dev nD) (t : Fin cfg0.N) (r : Fin 64) (k : Fin 5120) (R : Fin 2048) (hR : R.val = t.val * 64 + r.val) :
    iblk m c 3 t (ix2 r k) = A3 m c (ix2 R k) := by
  unfold iblk
  rw [View.read_apply]
  show V m c main_arg3 _ = _
  rw [V_main_arg3]
  have e := idx3 t
  congr 1; funext a; apply Fin.ext
  match a with
  | ⟨0, _⟩ => show win0_3.index t 0 * 64 + 1 * r.val = R.val; rw [e]; show t.val * 64 + 1 * r.val = _; omega
  | ⟨1, _⟩ => show win0_3.index t 1 * 5120 + 1 * k.val = k.val; rw [e]; show 0 * 5120 + 1 * k.val = _; omega

/-- The row of gamma that the body reads is gamma as a matrix of one row. -/
theorem V_gamma (c : Dev nD) (k : Fin 5120) : V m c main_v0 (ix2 0 k) = A2 m c (ix1 k) := by
  show StableHlo.after hostOps0 _ _ _ = _
  unfold hostOps0
  after_results
  refine shapeCast_apply _ _ _ (ix1 k) ?_
  show (Shape.rowMajor (⟨1, ![5120]⟩ : Shape) (ix1 k)).val = (Shape.rowMajor (⟨2, ![1, 5120]⟩ : Shape) (ix2 0 k)).val
  rw [Shape.rowMajor_val_one, Shape.rowMajor_val_two]
  show k.val = 0 * 5120 + k.val
  omega

theorem blk2 (c : Dev nD) (t : Fin cfg0.N) (k : Fin 5120) : iblk m c 2 t (ix2 0 k) = A2 m c (ix1 k) := by
  rw [← V_gamma]
  unfold iblk
  rw [View.read_apply]
  show V m c main_v0 _ = _
  have e := idx2 t
  congr 1; funext a; apply Fin.ext
  match a with
  | ⟨0, _⟩ => show win0_2.index t 0 * 1 + 1 * 0 = 0; rw [e]; rfl
  | ⟨1, _⟩ => show win0_2.index t 1 * 5120 + 1 * k.val = k.val; rw [e]; show 0 * 5120 + 1 * k.val = _; omega

/-! ## The arrays -/

/-- c of row R, from the arguments. -/
def cAt (c : Dev nD) (R : Fin 2048) : EReal :=
  cRow (fun k => A0 m c (ix2 R k)) (fun k => A3 m c (ix2 R k)) (fun k => A2 m c (ix1 k)) (A1 m c (ix2 R 0))

/-- dx at row R, column k, from the arguments. -/
def dxAt (c : Dev nD) (R : Fin 2048) (k : Fin 5120) : EReal :=
  dxRow (fun k => A0 m c (ix2 R k)) (fun k => A3 m c (ix2 R k)) (fun k => A2 m c (ix1 k)) (A1 m c (ix2 R 0)) k

/-- Every row is row r of the block of some point. -/
theorem row_point (R : Fin 2048) : ∃ (t : Fin cfg0.N) (r : Fin 64), R.val = t.val * 64 + r.val := by
  have hR := R.isLt
  refine ⟨⟨R.val / 64, by rw [show cfg0.N = 32 from N_0]; omega⟩, ⟨R.val % 64, Nat.mod_lt _ (by decide)⟩, ?_⟩
  show R.val = R.val / 64 * 64 + R.val % 64
  omega

/-- Distinct points write distinct blocks of dx, and of c. -/
theorem idx_inj4 : ∀ t t' : Fin cfg0.N, win0_4.index t = win0_4.index t' → t = t' :=
  (by decide +kernel : ∀ t t' : Fin grid0.N, win0_4.index t = win0_4.index t' → t = t')
theorem idx_inj5 : ∀ t t' : Fin cfg0.N, win0_5.index t = win0_5.index t' → t = t' :=
  (by decide +kernel : ∀ t t' : Fin grid0.N, win0_5.index t = win0_5.index t' → t = t')

/-- What point t writes to dx: in the two cases, what that case leaves in the block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]
theorem flushed4_A (c : Dev nD) (t : Fin cfg0.N) (h0 : t.val % 32 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)) := by
  simp only [flushed4, outsAt0_A m c t h0]
theorem flushed4_B (c : Dev nD) (t : Fin cfg0.N) (h0 : ¬t.val % 32 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2) := by
  simp only [flushed4, outsAt0_B m c t h0]

/-- What point t writes to c: in the two cases, what that case leaves in the block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]
theorem flushed5_A (c : Dev nD) (t : Fin cfg0.N) (h0 : t.val % 32 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)) := by
  simp only [flushed5, outsAt0_A m c t h0]
theorem flushed5_B (c : Dev nD) (t : Fin cfg0.N) (h0 : ¬t.val % 32 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2) := by
  simp only [flushed5, outsAt0_B m c t h0]

/-- Block t of dx, and of c, is what point t wrote. -/
theorem blocks4 (c : Dev nD) (t : Fin cfg0.N) :
    ((cfg0.win 4).blk t).view.read (Elt Ideal) ((dats m 0 c).arrAt 4 cfg0.N) = (dats m 0 c).flushed 4 t :=
  (dats m 0 c).read_blk_arrAt_eq_flushed 4
    (fun t t' _ _ hne => (cfg0.win 4).disjoint_blk fun h => hne (idx_inj4 t t' h)) cfg0.N t t.isLt (flush0_4 t)
theorem blocks5 (c : Dev nD) (t : Fin cfg0.N) :
    ((cfg0.win 5).blk t).view.read (Elt Ideal) ((dats m 0 c).arrAt 5 cfg0.N) = (dats m 0 c).flushed 5 t :=
  (dats m 0 c).read_blk_arrAt_eq_flushed 5
    (fun t t' _ _ hne => (cfg0.win 5).disjoint_blk fun h => hne (idx_inj5 t t' h)) cfg0.N t t.isLt (flush0_5 t)

/-- The array dx that the kernel leaves. -/
theorem dx_apply (c : Dev nD) (R : Fin 2048) (k : Fin 5120) : (dats m 0 c).arrAt 4 cfg0.N (ix2 R k) = dxAt m c R k := by
  obtain ⟨t, r, hR⟩ := row_point R
  have e := congrFun (blocks4 m c t) (ix2 r k)
  rw [View.read_apply] at e
  have hi : (((cfg0.win 4).blk t).view.emb (ix2 r k) : S2048x5120.Idx) = ix2 R k := by
    have e3 := idx4 t
    funext a; apply Fin.ext
    match a with
    | ⟨0, _⟩ => show win0_4.index t 0 * 64 + 1 * r.val = R.val; rw [e3]; show t.val * 64 + 1 * r.val = _; omega
    | ⟨1, _⟩ => show win0_4.index t 1 * 5120 + 1 * k.val = k.val; rw [e3]; show 0 * 5120 + 1 * k.val = _; omega
  have hrow : dxRow (fun k => iblk m c 0 t (ix2 r k)) (fun k => iblk m c 3 t (ix2 r k)) (fun k => iblk m c 2 t (ix2 0 k))
      (iblk m c 1 t (ix2 r 0)) k = dxAt m c R k := by
    unfold dxAt
    congr 1
    · exact funext fun k => blk0 m c t r k R hR
    · exact funext fun k => blk3 m c t r k R hR
    · exact funext fun k => blk2 m c t k
    · exact blk1 m c t r 0 R hR
  rw [← hi]
  refine e.trans ?_
  by_cases h0 : t.val % 32 = 0
  · rw [flushed4_A m c t h0]
    exact (outA4_apply c (grid0.coords t) _ (hs0_0 t) _ (hs0_1 t) _ (hs0_2 t) _ (hs0_3 t) _ (hs0_4 t) _ (hs0_5 t) _ (hs0_6 t) _ _ _ _ r _ k).trans hrow
  · rw [flushed4_B m c t h0]
    exact (outB4_apply c (grid0.coords t) _ (hs0_0 t) _ (hs0_1 t) _ (hs0_2 t) _ (hs0_3 t) _ (hs0_4 t) _ (hs0_5 t) _ (hs0_6 t) _ _ _ _ _ r _ k).trans hrow

/-- The array c that the kernel leaves: in every lane of a row, c of that row. -/
theorem c_apply (c : Dev nD) (R : Fin 2048) (q : Fin 128) : (dats m 0 c).arrAt 5 cfg0.N (ix2 R q) = cAt m c R := by
  obtain ⟨t, r, hR⟩ := row_point R
  have e := congrFun (blocks5 m c t) (ix2 r q)
  rw [View.read_apply] at e
  have hi : (((cfg0.win 5).blk t).view.emb (ix2 r q) : S2048x128.Idx) = ix2 R q := by
    have e3 := idx5 t
    funext a; apply Fin.ext
    match a with
    | ⟨0, _⟩ => show win0_5.index t 0 * 64 + 1 * r.val = R.val; rw [e3]; show t.val * 64 + 1 * r.val = _; omega
    | ⟨1, _⟩ => show win0_5.index t 1 * 128 + 1 * q.val = q.val; rw [e3]; show 0 * 128 + 1 * q.val = _; omega
  have hrow : cRow (fun k => iblk m c 0 t (ix2 r k)) (fun k => iblk m c 3 t (ix2 r k)) (fun k => iblk m c 2 t (ix2 0 k))
      (iblk m c 1 t (ix2 r 0)) = cAt m c R := by
    unfold cAt
    congr 1
    · exact funext fun k => blk0 m c t r k R hR
    · exact funext fun k => blk3 m c t r k R hR
    · exact funext fun k => blk2 m c t k
    · exact blk1 m c t r 0 R hR
  rw [← hi]
  refine e.trans ?_
  by_cases h0 : t.val % 32 = 0
  · rw [flushed5_A m c t h0]
    exact (outA5_apply c (grid0.coords t) _ (hs0_0 t) _ (hs0_1 t) _ (hs0_2 t) _ (hs0_3 t) _ (hs0_4 t) _ (hs0_5 t) _ (hs0_6 t) _ _ _ _ r _ q).trans hrow
  · rw [flushed5_B m c t h0]
    exact (outB5_apply c (grid0.coords t) _ (hs0_0 t) _ (hs0_1 t) _ (hs0_2 t) _ (hs0_3 t) _ (hs0_4 t) _ (hs0_5 t) _ (hs0_6 t) _ _ _ _ _ r _ q).trans hrow

/-- Row R's part of dgamma in column k, from the arguments; zero past the last row. -/
def dgAt (c : Dev nD) (k : Fin 5120) (R : ℕ) : EReal :=
  if h : R < 2048 then A3 m c (ix2 ⟨R, h⟩ k) * dv (A0 m c (ix2 ⟨R, h⟩ k)) (A1 m c (ix2 ⟨R, h⟩ 0)) else 0

/-- What the rows of point n give to the partial sum number r, from the arguments. -/
theorem part_apply (c : Dev nD) (t : Fin cfg0.N) (r : Fin 8) (k : Fin 5120) :
    part8 (fun p => iblk m c 0 t (ix2 p k)) (fun p => iblk m c 3 t (ix2 p k)) (fun p => iblk m c 1 t (ix2 p 0)) r
      = ∑ a : Fin 8, dgAt m c k (t.val * 64 + (a.val * 8 + r.val)) := by
  unfold part8
  refine Finset.sum_congr rfl fun a _ => ?_
  have ht : t.val < 32 := lt_of_lt_of_eq t.isLt (show cfg0.N = 32 from N_0)
  have hR : t.val * 64 + (a.val * 8 + r.val) < 2048 := by omega
  rw [dgAt, dif_pos hR]
  exact congrArg₂ (fun a b : EReal => a * b) (blk3 m c t _ k ⟨_, hR⟩ rfl)
    (congrArg₂ dv (blk0 m c t _ k ⟨_, hR⟩ rfl) (blk1 m c t _ 0 ⟨_, hR⟩ rfl))

/-- The partial sums after point n: over the points so far, the parts of their rows. -/
theorem partials (c : Dev nD) (n : ℕ) (h : n < cfg0.N) (i : Fin 8 × Fin 5120) :
    (outsAt0 m c n h).2.2 (ix2 i.1 i.2)
      = ∑ s ∈ Finset.range (n % 32 + 1), ∑ a : Fin 8, dgAt m c i.2 ((32 * (n / 32) + s) * 64 + (a.val * 8 + i.1.val)) := by
  refine running_sum cfg0.N 32 (fun n h (i : Fin 8 × Fin 5120) => (outsAt0 m c n h).2.2 (ix2 i.1 i.2))
    (fun n i => ∑ a : Fin 8, dgAt m c i.2 (n * 64 + (a.val * 8 + i.1.val))) ?_ ?_ n h i
  · intro n h i h0
    show (outsAt0 m c n h).2.2 (ix2 i.1 i.2) = _
    rw [outsAt0_A m c ⟨n, h⟩ h0]
    dsimp only
    exact (outA6_apply c (grid0.coords ⟨n, h⟩) _ (hs0_0 _) _ (hs0_1 _) _ (hs0_2 _) _ (hs0_3 _) _ (hs0_4 _) _ (hs0_5 _) _ (hs0_6 _) _ _ _ _ _ i.1 i.2).trans
      (part_apply m c ⟨n, h⟩ i.1 i.2)
  · intro n h i h0
    show (outsAt0 m c (n + 1) h).2.2 (ix2 i.1 i.2) = (outsAt0 m c n (Nat.lt_of_succ_lt h)).2.2 (ix2 i.1 i.2) + _
    rw [outsAt0_B m c ⟨n + 1, h⟩ h0]
    dsimp only
    exact (outB6_apply c (grid0.coords ⟨n + 1, h⟩) _ (hs0_0 _) _ (hs0_1 _) _ (hs0_2 _) _ (hs0_3 _) _ (hs0_4 _) _ (hs0_5 _) _ (hs0_6 _) _ _ _ _ _ _ i.1 i.2).trans
      (congrArg (fun b : EReal => _ + b) (part_apply m c ⟨n + 1, h⟩ i.1 i.2))

/-- The last point. -/
def tl : Fin cfg0.N := ⟨31, by rw [show cfg0.N = 32 from N_0]; decide⟩

/-- The array of the partial sums that the kernel leaves. -/
def dgArr (c : Dev nD) : S8x5120.Idx → EReal := (dats m 0 c).arrAt 6 cfg0.N

theorem dg_apply (c : Dev nD) (r : Fin 8) (k : Fin 5120) : dgArr m c (ix2 r k)
    = ∑ s ∈ Finset.range 32, ∑ a : Fin 8, dgAt m c k (s * 64 + (a.val * 8 + r.val)) := by
  have hfl : ∀ t : Fin cfg0.N, (cfg0.win 6).flush t = true → t = tl := fun t h => by
    have h1 := (flush0_6 t).mp h
    have ht : t.val < 32 := lt_of_lt_of_eq t.isLt (show cfg0.N = 32 from N_0)
    apply Fin.ext
    show t.val = 31
    omega
  have e := congrFun ((dats m 0 c).read_blk_arrAt_eq_flushed 6
    (fun t t' h h' hne => absurd ((hfl t h).trans (hfl t' h').symm) hne) cfg0.N tl tl.isLt ((flush0_6 tl).mpr rfl)) (ix2 r k)
  rw [View.read_apply] at e
  have hi : (((cfg0.win 6).blk tl).view.emb (ix2 r k) : S8x5120.Idx) = ix2 r k := by
    have e3 := idx6 tl
    funext a; apply Fin.ext
    match a with
    | ⟨0, _⟩ => show win0_6.index tl 0 * 8 + 1 * r.val = r.val; rw [e3]; show 0 * 8 + 1 * r.val = _; omega
    | ⟨1, _⟩ => show win0_6.index tl 1 * 5120 + 1 * k.val = k.val; rw [e3]; show 0 * 5120 + 1 * k.val = _; omega
  unfold dgArr
  rw [← hi]
  refine e.trans ?_
  show (cfg0.win 6).cut (grid0.coords tl) ((dats m 0 c).after 6 tl) (ix2 r k) = _
  rw [after0_6]
  refine (partials m c 31 tl.isLt (r, k)).trans ?_
  simp only [show 31 % 32 + 1 = 32 from rfl, show 32 * (31 / 32) = 0 from rfl, Nat.zero_add]

/-- The sum of eight partial sums over 32 times 8 rows each is the sum over all rows. -/
theorem eight_sums (f : ℕ → EReal) :
    ∑ r : Fin 8, ∑ s ∈ Finset.range 32, ∑ a : Fin 8, f (s * 64 + (a.val * 8 + r.val)) = ∑ R : Fin 2048, f R.val := by
  rw [Finset.sum_comm]
  refine sum_stretches 32 64 2048 rfl (fun R : Fin 2048 => f R.val) _ fun s hs => ?_
  rw [Finset.sum_comm]
  rw [← Finset.sum_range (fun a => ∑ r : Fin 8, f (s * 64 + (a * 8 + r.val)))]
  exact sum_stretches 8 8 64 rfl (fun p : Fin 64 => f (s * 64 + p.val)) _ fun a ha => rfl

/-! ## The lines after the call -/

/-- The arrays of the call are distinct. -/
theorem arr_inj : Function.Injective (Pipeline.arrRef spec0) := by decide

/-- The second result: the first lane of the array c. -/
theorem res_c (c : Dev nD) : Pipeline.afterTail₀ cfgs (dats m) 0 (V0 m) [hostOps1] c main_v3
    = shapeCast S2048 (extractStridedSlice S2048x1 ![0, 0] ((dats m 0 c).arrAt 5 cfg0.N) slices_S2048x128_S2048x1_0_0) shapeCasts_S2048x1_S2048 := by
  unfold Pipeline.afterTail₀
  show StableHlo.after hostOps1 _ _ = _
  unfold hostOps1
  after_results
  exact congrArg (fun X : S2048x128.Idx → EReal => shapeCast S2048 (extractStridedSlice S2048x1 ![0, 0] X slices_S2048x128_S2048x1_0_0) shapeCasts_S2048x1_S2048)
    (Pipeline.withArrays_arr spec0 arr_inj c (V0 m c) (fun w => (dats m 0 c).arrAt w cfg0.N) 5)

/-- The third result: the sum of the eight partial sums. -/
theorem res_dgamma (c : Dev nD) : Pipeline.afterTail₀ cfgs (dats m) 0 (V0 m) [hostOps1] c main_v4
    = Host.reduceAdd (F := Ideal) (φ := .f32) (dgArr m c) (constant S_ .f32 0x00000000#32) reducesTo_S8x5120_S5120_d0 h_S_ := by
  unfold Pipeline.afterTail₀
  show StableHlo.after hostOps1 _ _ = _
  unfold hostOps1
  after_results
  exact congrArg (fun X : S8x5120.Idx → EReal => Host.reduceAdd (F := Ideal) (φ := .f32) X (constant S_ .f32 0x00000000#32) reducesTo_S8x5120_S5120_d0 h_S_)
    (Pipeline.withArrays_arr spec0 arr_inj c (V0 m c) (fun w => (dats m 0 c).arrAt w cfg0.N) 6)

/-- The run, with the three results named and the arguments as they were. -/
theorem run_results (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 4 cfg0.N
      ∧ r.2.mem ((c : Thread nD τ).loc main_v3) = Pipeline.afterTail₀ cfgs (dats m) 0 (V0 m) [hostOps1] c main_v3
      ∧ r.2.mem ((c : Thread nD τ).loc main_v4) = Pipeline.afterTail₀ cfgs (dats m) 0 (V0 m) [hostOps1] c main_v4
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 : Pipeline.FramePost cfgs (dats m) 0 _ r) c).1 4,
      (h.1 c).2 main_v3 (Pipeline.mem_restRefs_of main_v3 (by decide) (by decide)),
      (h.1 c).2 main_v4 (Pipeline.mem_restRefs_of main_v4 (by decide) (by decide)), h.2 c⟩)
    (θ_run_and (run_main m ρ) (unchanged m ρ))

/-! ## The reference -/

/-- The reference's x / rms, dxn · gamma and row means, as it computes them of whole arrays. -/
abbrev refXhat (c : Dev nD) : FVec Ideal Cert.ReferenceNormIdeal.S2048x5120 .f32 :=
  Host.divf (φ := .f32) (extf (F := Ideal) (φ := .bf16) .f32 (A0 m c) Cert.ReferenceNormIdeal.Gen.bitsLt_bf16_f32)
    (broadcastInDim Cert.ReferenceNormIdeal.S2048x5120 ![0, 1] Cert.ReferenceNormIdeal.Gen.bcast_S2048x1_S2048x5120_0_1
      (extractStridedSlice Cert.ReferenceNormIdeal.S2048x1 ![0, 0] (A1 m c) Cert.ReferenceNormIdeal.Gen.slices_S2048x128_S2048x1_0_0))
abbrev refG (c : Dev nD) : FVec Ideal Cert.ReferenceNormIdeal.S2048x5120 .f32 :=
  mulf (F := Ideal) (φ := .f32) (A3 m c) (broadcastInDim Cert.ReferenceNormIdeal.S2048x5120 ![0, 1] Cert.ReferenceNormIdeal.Gen.bcast_S1x5120_S2048x5120_0_1
    (broadcastInDim Cert.ReferenceNormIdeal.S1x5120 ![1] Cert.ReferenceNormIdeal.Gen.bcast_S5120_S1x5120_1 (A2 m c)))
abbrev refC (c : Dev nD) : FVec Ideal Cert.ReferenceNormIdeal.S2048 .f32 :=
  Host.divf (Host.reduceAdd (mulf (refG m c) (refXhat m c)) (constant Cert.ReferenceNormIdeal.S_ .f32 0x00000000#32)
      Cert.ReferenceNormIdeal.Gen.reducesTo_S2048x5120_S2048_d1 Cert.ReferenceNormIdeal.Gen.h_S_)
    (broadcastInDim Cert.ReferenceNormIdeal.S2048 ![] Cert.ReferenceNormIdeal.Gen.bcast_S_S2048 (constant Cert.ReferenceNormIdeal.S_ .f32 0x45A00000#32))

/-- A column laid over the columns of a matrix is, at (r, k), its entry in row r. -/
theorem hcol {n : ℕ} (v : (⟨2, ![2048, 1]⟩ : Shape).Idx → EReal)
    (h : (⟨2, ![2048, 1]⟩ : Shape).BroadcastsInDim ⟨2, ![2048, n]⟩ ![0, 1])
    (r : Fin 2048) (k : Fin n) : broadcastInDim ⟨2, ![2048, n]⟩ ![0, 1] h v (ix2 r k) = v (ix2 r 0) := by
  refine broadcastInDim_apply _ h _ _ _ (fun a => ?_)
  match a with
  | ⟨0, _⟩ => rfl
  | ⟨1, _⟩ => rfl

/-- The first lane of the rms, laid over the columns, at (r, k). -/
theorem refRms_apply (c : Dev nD) (r : Fin 2048) (k : Fin 5120) :
    broadcastInDim Cert.ReferenceNormIdeal.S2048x5120 ![0, 1] Cert.ReferenceNormIdeal.Gen.bcast_S2048x1_S2048x5120_0_1
      (extractStridedSlice Cert.ReferenceNormIdeal.S2048x1 ![0, 0] (A1 m c) Cert.ReferenceNormIdeal.Gen.slices_S2048x128_S2048x1_0_0) (ix2 r k)
      = A1 m c (ix2 r 0) := by
  refine (hcol _ Cert.ReferenceNormIdeal.Gen.bcast_S2048x1_S2048x5120_0_1 r k).trans ?_
  refine extractStridedSlice_apply _ _ Cert.ReferenceNormIdeal.Gen.slices_S2048x128_S2048x1_0_0 _ (ix2 r 0) (fun a => ?_)
  match a with
  | ⟨0, _⟩ => show r.val = 0 + r.val; omega
  | ⟨1, _⟩ => rfl

theorem refXhat_apply (c : Dev nD) (r : Fin 2048) (k : Fin 5120) :
    refXhat m c (ix2 r k) = dv (A0 m c (ix2 r k)) (A1 m c (ix2 r 0)) :=
  congrArg (dv (A0 m c (ix2 r k))) (refRms_apply m c r k)

theorem refG_apply (c : Dev nD) (r : Fin 2048) (k : Fin 5120) :
    refG m c (ix2 r k) = A3 m c (ix2 r k) * A2 m c (ix1 k) := by
  refine congrArg (fun a : EReal => A3 m c (ix2 r k) * a) ?_
  refine (broadcastInDim_oneRow_apply Cert.ReferenceNormIdeal.Gen.bcast_S1x5120_S2048x5120_0_1 _ r k).trans ?_
  refine broadcastInDim_apply _ Cert.ReferenceNormIdeal.Gen.bcast_S5120_S1x5120_1 _ _ _ (fun a => ?_)
  match a with
  | ⟨0, _⟩ => rfl

theorem refC_apply (c : Dev nD) (r : Fin 2048) : refC m c (ix1 r) = cAt m c r := by
  refine congrArg₂ dv ?_ (broadcastInDim_apply _ Cert.ReferenceNormIdeal.Gen.bcast_S_S2048 _ (ix1 r)
    (fun a => a.elim0) (fun a => a.elim0))
  refine (Ideal.hostReduceAdd_r2_a1 (n0 := 2048) (n1 := 5120) Cert.ReferenceNormIdeal.Gen.reducesTo_S2048x5120_S2048_d1 _ _ (ix1 r)).trans ?_
  show Ideal.ofBits .f32 0x00000000#32 + _ = _
  rw [ofBits_zero, zero_add]
  exact Finset.sum_congr rfl fun k _ => congrArg₂ (fun a b : EReal => a * b) (refG_apply m c r k) (refXhat_apply m c r k)

/-- The reference's row means as a column, at row r. -/
theorem refCol_apply (c : Dev nD) (r : Fin 2048) :
    broadcastInDim Cert.ReferenceNormIdeal.S2048x1 ![0] Cert.ReferenceNormIdeal.Gen.bcast_S2048_S2048x1_0 (refC m c) (ix2 r 0) = cAt m c r := by
  refine (broadcastInDim_apply _ Cert.ReferenceNormIdeal.Gen.bcast_S2048_S2048x1_0 _ _ (ix1 r) (fun a => ?_)).trans (refC_apply m c r)
  match a with
  | ⟨0, _⟩ => rfl

/-- The kernel's second result is the reference's: the row means. -/
theorem value_c (c : Dev nD) : (Pipeline.afterTail₀ cfgs (dats m) 0 (V0 m) [hostOps1] c main_v3 : S2048.Idx → EReal) = refC m c := by
  rw [res_c]
  funext i
  obtain ⟨r, rfl⟩ : ∃ r, i = ix1 r := ⟨i 0, eq_ix1 i⟩
  refine (shapeCast_apply _ shapeCasts_S2048x1_S2048 _ (ix2 r 0) ?_).trans ?_
  · rw [Shape.rowMajor_val_one, Shape.rowMajor_val_two]
    show r.val * 1 + 0 = r.val
    omega
  · refine (extractStridedSlice_apply _ _ slices_S2048x128_S2048x1_0_0 _ (ix2 r 0) (fun a => ?_)).trans ((c_apply m c r 0).trans (refC_apply m c r).symm)
    match a with
    | ⟨0, _⟩ => show r.val = 0 + r.val; omega
    | ⟨1, _⟩ => rfl

/-- The kernel's third result is the reference's: dgamma, the sum over all rows of dxn · (x / rms). -/
theorem value_dgamma (c : Dev nD) : (Pipeline.afterTail₀ cfgs (dats m) 0 (V0 m) [hostOps1] c main_v4 : S5120.Idx → EReal)
    = Host.reduceAdd (mulf (F := Ideal) (φ := .f32) (A3 m c) (refXhat m c)) (constant Cert.ReferenceNormIdeal.S_ .f32 0x00000000#32)
        Cert.ReferenceNormIdeal.Gen.reducesTo_S2048x5120_S5120_d0 Cert.ReferenceNormIdeal.Gen.h_S_ := by
  rw [res_dgamma]
  funext i
  obtain ⟨k, rfl⟩ : ∃ k, i = ix1 k := ⟨i 0, eq_ix1 i⟩
  refine (Ideal.hostReduceAdd_r2_a0 (n0 := 8) (n1 := 5120) reducesTo_S8x5120_S5120_d0 (dgArr m c) _ (ix1 k)).trans
    (Eq.trans ?_ (Ideal.hostReduceAdd_r2_a0 (n0 := 2048) (n1 := 5120) Cert.ReferenceNormIdeal.Gen.reducesTo_S2048x5120_S5120_d0 _ _ (ix1 k)).symm)
  refine congrArg (fun b : EReal => _ + b) ?_
  have e : ∑ r : Fin 8, dgArr m c (ix2 r k)
      = ∑ r : Fin 8, ∑ s ∈ Finset.range 32, ∑ a : Fin 8, dgAt m c k (s * 64 + (a.val * 8 + r.val)) :=
    Finset.sum_congr rfl fun r _ => dg_apply m c r k
  refine e.trans ((eight_sums (dgAt m c k)).trans (Finset.sum_congr rfl fun R _ => ?_))
  rw [dgAt, dif_pos R.isLt]
  exact (congrArg (fun b : EReal => A3 m c (ix2 R k) * b) (refXhat_apply m c R k)).symm

/-- The kernel's array dx is the reference's: ((dxn · gamma) − (x / rms) · c) / rms, truncated. -/
theorem value_dx (c : Dev nD) : ((dats m 0 c).arrAt 4 cfg0.N : S2048x5120.Idx → EReal)
    = truncf (F := Ideal) .bf16 (Host.divf (subf (refG m c) (mulf (refXhat m c)
        (broadcastInDim Cert.ReferenceNormIdeal.S2048x5120 ![0, 1] Cert.ReferenceNormIdeal.Gen.bcast_S2048x1_S2048x5120_0_1
          (broadcastInDim Cert.ReferenceNormIdeal.S2048x1 ![0] Cert.ReferenceNormIdeal.Gen.bcast_S2048_S2048x1_0 (refC m c)))))
        (broadcastInDim Cert.ReferenceNormIdeal.S2048x5120 ![0, 1] Cert.ReferenceNormIdeal.Gen.bcast_S2048x1_S2048x5120_0_1
          (extractStridedSlice Cert.ReferenceNormIdeal.S2048x1 ![0, 0] (A1 m c) Cert.ReferenceNormIdeal.Gen.slices_S2048x128_S2048x1_0_0)))
        Cert.ReferenceNormIdeal.Gen.bitsLt_bf16_f32 := by
  funext i
  obtain ⟨r, k, rfl⟩ : ∃ r k, i = ix2 r k := ⟨i 0, i 1, eq_ix2 i⟩
  refine (dx_apply m c r k).trans (Eq.symm ?_)
  refine congrArg₂ dv (congrArg₂ (fun a b : EReal => a - b) (refG_apply m c r k) ?_) (refRms_apply m c r k)
  exact congrArg₂ (fun a b : EReal => a * b) (refXhat_apply m c r k)
    ((hcol _ Cert.ReferenceNormIdeal.Gen.bcast_S2048x1_S2048x5120_0_1 r k).trans (refCol_apply m c r))

end Cert.KernelNormIdeal.Hand

end
-- ==== Proof.ScalesW1Reference.lean ====
/- The scales of an array of block maxima, 1280 rows of 320: what the reference leaves, place by place, from the block maxima. -/
module

public import proofs.«01_k».proof.Proof.Gen.ReferenceScalesW1Ideal.Frame
public import proofs.«01_k».proof.Proof.Common
public import Idealize.ShloMosaic.Lib.Pointwise.Reduce
public import Idealize.ShloMosaic.Lib.IdealHost
public import Idealize.ShloMosaic.Lib.KernelVsHost
public import Idealize.ShloMosaic.Lib.Tactic.ValueTie

@[expose] public section

set_option maxRecDepth 16384

noncomputable section

namespace Cert.ReferenceScalesW1Ideal.Hand

open Cert.ReferenceScalesW1Ideal Cert.ReferenceScalesW1Ideal.Gen
open Idealize.ShloMosaic hiding ix1 ix2 ix3 eq_ix1 eq_ix2 eq_ix3
open Idealize.ShloMosaic.TcCoe Idealize.ShloMosaic.ValueIdx
open Idealize.ShloMosaic.Tactic Cert.Common
open Idealize.SL.Sem

variable (m : (ℓ : Loc nD τ sig) → Buf (Elt Ideal) ℓ)

/-- The argument as an array: the block maxima. -/
abbrev A0 (c : Dev nD) : S1280x320.Idx → EReal := m ((c : Thread nD τ).loc main_arg0)

/-- The largest entry. -/
@[irreducible] def top (x : S1280x320.Idx → EReal) : EReal :=
  extractAt ![0, 0, 0] (shapeCast S1x1x1 (multiReduction (F := Ideal) (φ := .f32) .maximumf [1, 2] S1 (shapeCast S1x1280x320 x shapeCasts_S1280x320_S1x1280x320)
    0xFF800000#32 reduces_S1x1280x320_S1 (.inl rfl) rfl) shapeCasts_S1_S1x1x1) inpos_S1x1x1_p0_0_0

/-- The tensor scale, from the largest entry. -/
theorem pay1_top (x : S1280x320.Idx → EReal) : k0_pay1 (F := Ideal) x = tensorScale (top x) := by
  unfold k0_pay1 top tensorScale
  dsimp only
  generalize extractAt _ _ _ = t
  rw [Ideal.scalar_divf_def, Ideal.scalar_cmpf_def]
  exact rfl

theorem bs_pay (x : S1280x320.Idx → EReal) (i : S1280x320.Idx) :
    k0_pay2 (F := Ideal) x i = blockScale (x i) (tensorScale (top x)) := by
  rw [← pay1_top]
  unfold k0_pay2
  generalize k0_pay1 (F := Ideal) x = t
  exact blockScale_at x t _ i

theorem out_bs (x : S1280x320.Idx → EReal) : out0_1 (F := Ideal) x = k0_pay2 (F := Ideal) x := by
  unfold out0_1
  rw [View.canon_unit_zero hz2]
  simp only [View.ld_unit_zero (S := S1280x320) hz2]

theorem ts_pay (y : S1280x320.Idx → EReal) (i : S1x1.Idx) : k0_pay3 (F := Ideal) y i = tensorScale (top y) := by
  refine Eq.trans ?_ (pay1_top y)
  unfold k0_pay3
  generalize k0_pay1 (F := Ideal) y = t
  exact broadcast_at t i

theorem out_ts (y : S1280x320.Idx → EReal) : out0_2 (F := Ideal) y = k0_pay3 (F := Ideal) y := by
  unfold out0_2
  rw [View.canon_unit_zero hz2]
  simp only [View.ld_unit_zero (S := S1280x320) hz2]

/-! ## The blocks: each window is its whole array -/

theorem idx0 : ∀ t : Fin cfg0.N, win0_0.index t = ![0, 0] := (by decide +kernel : ∀ t : Fin grid0.N, _)
theorem blk0 (c : Dev nD) (t : Fin cfg0.N) : iblk m c 0 t = A0 m c := by
  funext i
  obtain ⟨r, k, rfl⟩ : ∃ (r : Fin 1280) (k : Fin 320), i = ix2 r k := ⟨i 0, i 1, eq_ix2 i⟩
  unfold iblk
  rw [View.read_apply]
  show V m c main_arg0 _ = _
  rw [V_main_arg0]
  have e := idx0 t
  congr 1; funext a; apply Fin.ext
  match a with
  | ⟨0, _⟩ => show win0_0.index t 0 * 1280 + 1 * r.val = r.val; rw [e]; show 0 * 1280 + 1 * r.val = _; omega
  | ⟨1, _⟩ => show win0_0.index t 1 * 320 + 1 * k.val = k.val; rw [e]; show 0 * 320 + 1 * k.val = _; omega

theorem idxB : ∀ t : Fin cfg0.N, win0_1.index t = ![0, 0] := (by decide +kernel : ∀ t : Fin grid0.N, _)
theorem idxT : ∀ t : Fin cfg0.N, win0_2.index t = ![0, 0] := (by decide +kernel : ∀ t : Fin grid0.N, _)

/-- The one point. -/
def tl : Fin cfg0.N := ⟨0, by rw [show cfg0.N = 1 from N_0]; decide⟩
theorem eq_tl (t : Fin cfg0.N) : t = tl := by
  have ht : t.val < 1 := lt_of_lt_of_eq t.isLt (show cfg0.N = 1 from N_0)
  apply Fin.ext
  show t.val = 0
  omega

/-- The array of block scales that the reference leaves. -/
def bsArr (c : Dev nD) : S1280x320.Idx → EReal := (dats m 0 c).arrAt 1 cfg0.N

theorem bs_apply (c : Dev nD) (r : Fin 1280) (k : Fin 320) :
    bsArr m c (ix2 r k) = blockScale (A0 m c (ix2 r k)) (tensorScale (top (A0 m c))) := by
  have e := congrFun ((dats m 0 c).read_blk_arrAt_eq_flushed 1
    (fun t t' _ _ hne => absurd ((eq_tl t).trans (eq_tl t').symm) hne) cfg0.N tl tl.isLt (flush0_1 tl)) (ix2 r k)
  rw [View.read_apply] at e
  have hi : (((cfg0.win 1).blk tl).view.emb (ix2 r k) : S1280x320.Idx) = ix2 r k := by
    have e3 := idxB tl
    funext a; apply Fin.ext
    match a with
    | ⟨0, _⟩ => show win0_1.index tl 0 * 1280 + 1 * r.val = r.val; rw [e3]; show 0 * 1280 + 1 * r.val = _; omega
    | ⟨1, _⟩ => show win0_1.index tl 1 * 320 + 1 * k.val = k.val; rw [e3]; show 0 * 320 + 1 * k.val = _; omega
  refine (congrArg (bsArr m c) hi.symm).trans (e.trans ?_)
  show (cfg0.win 1).cut (grid0.coords tl) ((dats m 0 c).after 1 tl) (ix2 r k) = _
  rw [after0_1, blk0, out_bs]
  have hp := bs_pay (A0 m c)
  generalize k0_pay2 (F := Ideal) (A0 m c) = f at hp ⊢
  exact hp (ix2 r k)

/-- The array of one entry that holds the reference's tensor scale. -/
def tsArr (c : Dev nD) : S1x1.Idx → EReal := (dats m 0 c).arrAt 2 cfg0.N

theorem ts_apply (c : Dev nD) (r : Fin 1) (k : Fin 1) : tsArr m c (ix2 r k) = tensorScale (top (A0 m c)) := by
  have e := congrFun ((dats m 0 c).read_blk_arrAt_eq_flushed 2
    (fun t t' _ _ hne => absurd ((eq_tl t).trans (eq_tl t').symm) hne) cfg0.N tl tl.isLt (flush0_2 tl)) (ix2 r k)
  rw [View.read_apply] at e
  have hi : (((cfg0.win 2).blk tl).view.emb (ix2 r k) : S1x1.Idx) = ix2 r k := by
    have e3 := idxT tl
    funext a; apply Fin.ext
    match a with
    | ⟨0, _⟩ => show win0_2.index tl 0 * 1 + 1 * r.val = r.val; rw [e3]; show 0 * 1 + 1 * r.val = _; omega
    | ⟨1, _⟩ => show win0_2.index tl 1 * 1 + 1 * k.val = k.val; rw [e3]; show 0 * 1 + 1 * k.val = _; omega
  refine (congrArg (tsArr m c) hi.symm).trans (e.trans ?_)
  show (cfg0.win 2).cut (grid0.coords tl) ((dats m 0 c).after 2 tl) (ix2 r k) = _
  rw [after0_2, blk0, out_ts]
  have hp := ts_pay (A0 m c) (ix2 r k)
  generalize k0_pay3 (F := Ideal) (A0 m c) = f at hp ⊢
  exact hp

/-- The arrays of the call are distinct. -/
theorem arr_inj : Function.Injective (Pipeline.arrRef spec0) := by decide

/-- The second result, as the line after the call leaves it: the one entry. -/
theorem res_ts (c : Dev nD) : (Pipeline.afterTail₀ cfgs (dats m) 0 (V0 m) [hostOps1] c main_v1 : S_.Idx → EReal)
    = shapeCast S_ (tsArr m c) shapeCasts_S1x1_S_ := by
  unfold Pipeline.afterTail₀
  show StableHlo.after hostOps1 _ _ = _
  unfold hostOps1
  after_results
  exact congrArg (fun X : S1x1.Idx → EReal => shapeCast S_ X shapeCasts_S1x1_S_)
    (Pipeline.withArrays_arr spec0 arr_inj c (V0 m c) (fun w => (dats m 0 c).arrAt w cfg0.N) 2)

theorem ts_value (c : Dev nD) : (Pipeline.afterTail₀ cfgs (dats m) 0 (V0 m) [hostOps1] c main_v1 : S_.Idx → EReal)
    = fun _ => tensorScale (top (A0 m c)) := by
  rw [res_ts]
  funext i
  refine (shapeCast_apply _ shapeCasts_S1x1_S_ _ (ix2 0 0) ?_).trans (ts_apply m c 0 0)
  rw [Shape.rowMajor_val_two]
  exact (Nat.lt_one_iff.mp (lt_of_lt_of_eq (Shape.rowMajor S_ i).isLt (by decide))).symm

/-- The run, with the two results named and the argument as it was. -/
theorem run_results (ρ : Dev nD → PrngReg) : θ_run defs (onTc (τ := τ) (main (F := Ideal))) ⟨m, fun _ => 0, ρ⟩ fun r => ∀ c : Dev nD,
      r.2.mem ((c : Thread nD τ).loc main_v0_0) = bsArr m c
      ∧ r.2.mem ((c : Thread nD τ).loc main_v1) = Pipeline.afterTail₀ cfgs (dats m) 0 (V0 m) [hostOps1] c main_v1
      ∧ r.2.mem ((c : Thread nD τ).loc main_arg0) = m ((c : Thread nD τ).loc main_arg0) :=
  (θ_run defs _ _).mono (fun r h c => ⟨((h.1 : Pipeline.FramePost cfgs (dats m) 0 _ r) c).1 1,
      (h.1 c).2 main_v1 (Pipeline.mem_restRefs_of main_v1 (by decide) (by decide)), h.2 c⟩)
    (θ_run_and (run_main m ρ) (unchanged m ρ))

end Cert.ReferenceScalesW1Ideal.Hand

end
-- ==== Proof.ScalesW1.lean ====
/- The scales of an array of block maxima, 1280 rows of 320: the tensor scale, which is the largest of the maxima over 2688,
   or one where that is zero; and the block scales, which are each maximum times a constant over the tensor scale, kept between
   zero and 448. The kernel takes 128 rows at a time and finds the tensor scale anew at each; the reference takes all rows at
   once. The kernel multiplies by the reciprocal of 2688, which is read as the exact rational number. The theorems `value_bs` and
   `value_ts` say that the results are the reference's. -/
module

public import proofs.«01_k».proof.Proof.Gen.KernelScalesW1Ideal.Frame
public import proofs.«01_k».proof.Proof.ScalesW1Reference
public import proofs.«01_k».proof.Proof.Common
public import Idealize.ShloMosaic.Lib.Pointwise.Reduce
public import Idealize.ShloMosaic.Lib.IdealHost
public import Idealize.ShloMosaic.Lib.KernelVsHost
public import Idealize.ShloMosaic.Lib.Tactic.ValueTie

@[expose] public section

set_option maxRecDepth 16384

noncomputable section

namespace Cert.KernelScalesW1Ideal.Hand

open Cert.KernelScalesW1Ideal Cert.KernelScalesW1Ideal.Gen
open Idealize.ShloMosaic hiding ix1 ix2 ix3 eq_ix1 eq_ix2 eq_ix3
open Idealize.ShloMosaic.TcCoe Idealize.ShloMosaic.ValueIdx
open Idealize.ShloMosaic.Tactic Cert.Common
open Idealize.SL.Sem

variable (m : (ℓ : Loc nD τ sig) → Buf (Elt Ideal) ℓ)

/-- The argument as an array: the block maxima. -/
abbrev A0 (c : Dev nD) : S1280x320.Idx → EReal := m ((c : Thread nD τ).loc main_arg0)

/-- The kernel's constant is the rational number 1/2688. -/
theorem inv_divisor : Named.named (F := Ideal) κ "inv_divisor" (φ := .f32) 0x39C30C31#32 = ((1 / 2688 : ℝ) : EReal) :=
  IdealRules.named_const.ideal_named_scalar _ _ _ _ rfl

/-- The kernel's tensor scale is the reference's: the largest entry times 1/2688 is the largest entry over 2688. -/
theorem pay1_top (x : S1280x320.Idx → EReal) : k0_pay1 (F := Ideal) x = tensorScale (Cert.ReferenceScalesW1Ideal.Hand.top x) := by
  unfold k0_pay1 Cert.ReferenceScalesW1Ideal.Hand.top tensorScale
  dsimp only
  generalize extractAt _ _ _ = t
  rw [Ideal.scalar_mulf_def, Ideal.scalar_cmpf_def, inv_divisor]
  refine Eq.trans ?_ (congrArg (fun b : EReal => Scalar.select _ _ b) (over_2688 t))
  exact rfl

theorem bs_pay (x : S1280x320.Idx → EReal) (y : S128x320.Idx → EReal) (i : S128x320.Idx) :
    k0_pay2 (F := Ideal) x y i = blockScale (y i) (tensorScale (Cert.ReferenceScalesW1Ideal.Hand.top x)) := by
  rw [← pay1_top]
  unfold k0_pay2
  generalize k0_pay1 (F := Ideal) x = t
  exact blockScale_at y t _ i

theorem out_bs (y : S128x320.Idx → EReal) (x : S1280x320.Idx → EReal) : out0_2 (F := Ideal) y x = k0_pay2 (F := Ideal) x y := by
  unfold out0_2
  rw [View.canon_unit_zero hz2]
  simp only [View.ld_unit_zero (S := S128x320) hz2, View.ld_unit_zero (S := S1280x320) hz2]

theorem ts_pay (x : S1280x320.Idx → EReal) (i : S8x128.Idx) : k0_pay4 (F := Ideal) x i = tensorScale (Cert.ReferenceScalesW1Ideal.Hand.top x) := by
  refine Eq.trans ?_ (pay1_top x)
  unfold k0_pay4
  generalize k0_pay1 (F := Ideal) x = t
  exact broadcast_at t i

theorem out_ts (y : S128x320.Idx → EReal) (x : S1280x320.Idx → EReal) : out0_4 (F := Ideal) y x = k0_pay4 (F := Ideal) x := by
  unfold out0_4
  rw [View.canon_unit_zero hz2]
  simp only [View.ld_unit_zero (S := S1280x320) hz2]

/-! ## The blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx4 : ∀ t : Fin cfg0.N, win0_4.index t = ![0, 0] := (by decide +kernel : ∀ t : Fin grid0.N, _)
theorem idx_inj2 : ∀ t t' : Fin cfg0.N, win0_2.index t = win0_2.index t' → t = t' :=
  (by decide +kernel : ∀ t t' : Fin grid0.N, win0_2.index t = win0_2.index t' → t = t')

/-- The block of the maxima at point t is the t-th stretch of 128 rows. -/
theorem blk0 (c : Dev nD) (t : Fin cfg0.N) (r : Fin 128) (k : Fin 320) (R : Fin 1280) (hR : R.val = t.val * 128 + r.val) :
    iblk m c 0 t (ix2 r k) = A0 m c (ix2 R k) := by
  unfold iblk
  rw [View.read_apply]
  show V m c main_arg0 _ = _
  rw [V_main_arg0]
  have e := idx0 t
  congr 1; funext a; apply Fin.ext
  match a with
  | ⟨0, _⟩ => show win0_0.index t 0 * 128 + 1 * r.val = R.val; rw [e]; show t.val * 128 + 1 * r.val = _; omega
  | ⟨1, _⟩ => show win0_0.index t 1 * 320 + 1 * k.val = k.val; rw [e]; show 0 * 320 + 1 * k.val = _; omega

/-- What the largest entry is taken of is, at every point, the whole array. -/
theorem blk1 (c : Dev nD) (t : Fin cfg0.N) : iblk m c 1 t = A0 m c := by
  funext i
  obtain ⟨r, k, rfl⟩ : ∃ (r : Fin 1280) (k : Fin 320), i = ix2 r k := ⟨i 0, i 1, eq_ix2 i⟩
  unfold iblk
  rw [View.read_apply]
  show V m c main_arg0 _ = _
  rw [V_main_arg0]
  have e := idx1 t
  congr 1; funext a; apply Fin.ext
  match a with
  | ⟨0, _⟩ => show win0_1.index t 0 * 1280 + 1 * r.val = r.val; rw [e]; show 0 * 1280 + 1 * r.val = _; omega
  | ⟨1, _⟩ => show win0_1.index t 1 * 320 + 1 * k.val = k.val; rw [e]; show 0 * 320 + 1 * k.val = _; omega

/-- Every row is row r of the block of some point. -/
theorem row_point (R : Fin 1280) : ∃ (t : Fin cfg0.N) (r : Fin 128), R.val = t.val * 128 + r.val := by
  have hR := R.isLt
  refine ⟨⟨R.val / 128, by rw [show cfg0.N = 10 from N_0]; omega⟩, ⟨R.val % 128, Nat.mod_lt _ (by decide)⟩, ?_⟩
  show R.val = R.val / 128 * 128 + R.val % 128
  omega

/-! ## The arrays -/

/-- The array of block scales that the kernel leaves. -/
def bsArr (c : Dev nD) : S1280x320.Idx → EReal := (dats m 0 c).arrAt 2 cfg0.N

theorem bs_apply (c : Dev nD) (R : Fin 1280) (k : Fin 320) :
    bsArr m c (ix2 R k) = blockScale (A0 m c (ix2 R k)) (tensorScale (Cert.ReferenceScalesW1Ideal.Hand.top (A0 m c))) := by
  obtain ⟨t, r, hR⟩ := row_point R
  have e := congrFun ((dats m 0 c).read_blk_arrAt_eq_flushed 2
    (fun t t' _ _ hne => (cfg0.win 2).disjoint_blk fun h => hne (idx_inj2 t t' h)) cfg0.N t t.isLt (flush0_2 t)) (ix2 r k)
  rw [View.read_apply] at e
  have hi : (((cfg0.win 2).blk t).view.emb (ix2 r k) : S1280x320.Idx) = ix2 R k := by
    have e3 := idx2 t
    funext a; apply Fin.ext
    match a with
    | ⟨0, _⟩ => show win0_2.index t 0 * 128 + 1 * r.val = R.val; rw [e3]; show t.val * 128 + 1 * r.val = _; omega
    | ⟨1, _⟩ => show win0_2.index t 1 * 320 + 1 * k.val = k.val; rw [e3]; show 0 * 320 + 1 * k.val = _; omega
  refine (congrArg (bsArr m c) hi.symm).trans (e.trans ?_)
  show (cfg0.win 2).cut (grid0.coords t) ((dats m 0 c).after 2 t) (ix2 r k) = _
  rw [after0_2, blk1, out_bs]
  have hp := bs_pay (A0 m c) (iblk m c 0 t) (ix2 r k)
  rw [blk0 m c t r k R hR] at hp
  generalize k0_pay2 (F := Ideal) (A0 m c) (iblk m c 0 t) = f at hp ⊢
  exact hp

/-- The last point. -/
def tl : Fin cfg0.N := ⟨9, by rw [show cfg0.N = 10 from N_0]; decide⟩

/-- The array that holds the tensor scale in every place. -/
def tsArr (c : Dev nD) : S8x128.Idx → EReal := (dats m 0 c).arrAt 4 cfg0.N

theorem ts_apply (c : Dev nD) (r : Fin 8) (k : Fin 128) : tsArr m c (ix2 r k) = tensorScale (Cert.ReferenceScalesW1Ideal.Hand.top (A0 m c)) := by
  have hfl : ∀ t : Fin cfg0.N, (cfg0.win 4).flush t = true → t = tl := fun t h => by
    have h1 := (flush0_4 t).mp h
    have ht : t.val < 10 := lt_of_lt_of_eq t.isLt (show cfg0.N = 10 from N_0)
    apply Fin.ext
    show t.val = 9
    omega
  have e := congrFun ((dats m 0 c).read_blk_arrAt_eq_flushed 4
    (fun t t' h h' hne => absurd ((hfl t h).trans (hfl t' h').symm) hne) cfg0.N tl tl.isLt ((flush0_4 tl).mpr rfl)) (ix2 r k)
  rw [View.read_apply] at e
  have hi : (((cfg0.win 4).blk tl).view.emb (ix2 r k) : S8x128.Idx) = ix2 r k := by
    have e3 := idx4 tl
    funext a; apply Fin.ext
    match a with
    | ⟨0, _⟩ => show win0_4.index tl 0 * 8 + 1 * r.val = r.val; rw [e3]; show 0 * 8 + 1 * r.val = _; omega
    | ⟨1, _⟩ => show win0_4.index tl 1 * 128 + 1 * k.val = k.val; rw [e3]; show 0 * 128 + 1 * k.val = _; omega
  refine (congrArg (tsArr m c) hi.symm).trans (e.trans ?_)
  show (cfg0.win 4).cut (grid0.coords tl) ((dats m 0 c).after 4 tl) (ix2 r k) = _
  rw [after0_4, blk1, out_ts]
  have hp := ts_pay (A0 m c) (ix2 r k)
  generalize k0_pay4 (F := Ideal) (A0 m c) = f at hp ⊢
  exact hp

/-! ## The lines after the call -/

/-- Two windows of the call on one array are the two input windows, which leave it as it was. -/
theorem arr_shared (c : Dev nD) : ∀ w w', w ≠ w' → Pipeline.arrRef spec0 w = Pipeline.arrRef spec0 w' →
    (dats m 0 c).arrAt w cfg0.N = V0 m c (Proc.devRef .tc (Pipeline.arrRef spec0 w)) := by
  have h : ∀ w w' : Fin 5, w ≠ w' → Pipeline.arrRef spec0 w = Pipeline.arrRef spec0 w' → w = 0 ∨ w = 1 := by decide
  intro w w' hne he
  rcases h w w' hne he with rfl | rfl
  · exact ((dats m 0 c).arrAt_in 0 rfl _).trans (A_eq m c 0)
  · exact ((dats m 0 c).arrAt_in 1 rfl _).trans (A_eq m c 1)

/-- The second result: the first entry of the array that holds the tensor scale. -/
theorem res_ts (c : Dev nD) : (Pipeline.afterTail₀ cfgs (dats m) 0 (V0 m) [hostOps1] c main_v2 : S_.Idx → EReal)
    = shapeCast S_ (extractStridedSlice S1x1 ![0, 0] (tsArr m c) slices_S8x128_S1x1_0_0) shapeCasts_S1x1_S_ := by
  unfold Pipeline.afterTail₀
  show StableHlo.after hostOps1 _ _ = _
  unfold hostOps1
  after_results
  exact congrArg (fun X : S8x128.Idx → EReal => shapeCast S_ (extractStridedSlice S1x1 ![0, 0] X slices_S8x128_S1x1_0_0) shapeCasts_S1x1_S_)
    (Pipeline.withArrays_arr_shared spec0 c (V0 m c) (fun w => (dats m 0 c).arrAt w cfg0.N) (arr_shared m c) 4)

/-- The run, with the two results named and the argument as it was. -/
theorem run_results (ρ : Dev nD → PrngReg) : θ_run defs (onTc (τ := τ) (main (F := Ideal))) ⟨m, fun _ => 0, ρ⟩ fun r => ∀ c : Dev nD,
      r.2.mem ((c : Thread nD τ).loc main_v0_0) = bsArr m c
      ∧ r.2.mem ((c : Thread nD τ).loc main_v2) = Pipeline.afterTail₀ cfgs (dats m) 0 (V0 m) [hostOps1] c main_v2
      ∧ r.2.mem ((c : Thread nD τ).loc main_arg0) = m ((c : Thread nD τ).loc main_arg0) :=
  (θ_run defs _ _).mono (fun r h c => ⟨((h.1 : Pipeline.FramePost cfgs (dats m) 0 _ r) c).1 2,
      (h.1 c).2 main_v2 (Pipeline.mem_restRefs_of main_v2 (by decide) (by decide)), h.2 c⟩)
    (θ_run_and (run_main m ρ) (unchanged m ρ))

/-! ## The results are the reference's -/

variable (m' : (ℓ : Loc Cert.ReferenceScalesW1Ideal.nD Cert.ReferenceScalesW1Ideal.τ Cert.ReferenceScalesW1Ideal.sig) → Buf (Elt Ideal) ℓ)

theorem value_bs (c : Dev nD) (h0 : Cert.ReferenceScalesW1Ideal.Hand.A0 m' c = A0 m c) :
    Cert.ReferenceScalesW1Ideal.Hand.bsArr m' c = bsArr m c := by
  funext i
  obtain ⟨r, k, rfl⟩ : ∃ (r : Fin 1280) (k : Fin 320), i = ix2 r k := ⟨i 0, i 1, eq_ix2 i⟩
  rw [bs_apply, Cert.ReferenceScalesW1Ideal.Hand.bs_apply, h0]

theorem value_ts (c : Dev nD) (h0 : Cert.ReferenceScalesW1Ideal.Hand.A0 m' c = A0 m c) :
    (Pipeline.afterTail₀ Cert.ReferenceScalesW1Ideal.cfgs (Cert.ReferenceScalesW1Ideal.Gen.dats m') 0 (Cert.ReferenceScalesW1Ideal.Gen.V0 m') [Cert.ReferenceScalesW1Ideal.Gen.hostOps1] c Cert.ReferenceScalesW1Ideal.main_v1 : S_.Idx → EReal)
      = Pipeline.afterTail₀ cfgs (dats m) 0 (V0 m) [hostOps1] c main_v2 := by
  refine (Cert.ReferenceScalesW1Ideal.Hand.ts_value m' c).trans (Eq.symm ?_)
  rw [res_ts, h0]
  funext i
  refine (shapeCast_apply _ shapeCasts_S1x1_S_ _ (ix2 0 0) ?_).trans ?_
  · rw [Shape.rowMajor_val_two]
    exact (Nat.lt_one_iff.mp (lt_of_lt_of_eq (Shape.rowMajor S_ i).isLt (by decide))).symm
  · refine (extractStridedSlice_apply _ _ slices_S8x128_S1x1_0_0 _ (ix2 0 0) (fun a => ?_)).trans (ts_apply m c 0 0)
    match a with
    | ⟨0, _⟩ => rfl
    | ⟨1, _⟩ => rfl

end Cert.KernelScalesW1Ideal.Hand

end
-- ==== Proof.ScalesW2Reference.lean ====
/- The scales of an array of block maxima, 320 rows of 1280: what the reference leaves, place by place, from the block maxima. -/
module

public import proofs.«01_k».proof.Proof.Gen.ReferenceScalesW2Ideal.Frame
public import proofs.«01_k».proof.Proof.Common
public import Idealize.ShloMosaic.Lib.Pointwise.Reduce
public import Idealize.ShloMosaic.Lib.IdealHost
public import Idealize.ShloMosaic.Lib.KernelVsHost
public import Idealize.ShloMosaic.Lib.Tactic.ValueTie

@[expose] public section

set_option maxRecDepth 16384

noncomputable section

namespace Cert.ReferenceScalesW2Ideal.Hand

open Cert.ReferenceScalesW2Ideal Cert.ReferenceScalesW2Ideal.Gen
open Idealize.ShloMosaic hiding ix1 ix2 ix3 eq_ix1 eq_ix2 eq_ix3
open Idealize.ShloMosaic.TcCoe Idealize.ShloMosaic.ValueIdx
open Idealize.ShloMosaic.Tactic Cert.Common
open Idealize.SL.Sem

variable (m : (ℓ : Loc nD τ sig) → Buf (Elt Ideal) ℓ)

/-- The argument as an array: the block maxima. -/
abbrev A0 (c : Dev nD) : S320x1280.Idx → EReal := m ((c : Thread nD τ).loc main_arg0)

/-- The largest entry. -/
@[irreducible] def top (x : S320x1280.Idx → EReal) : EReal :=
  extractAt ![0, 0, 0] (shapeCast S1x1x1 (multiReduction (F := Ideal) (φ := .f32) .maximumf [1, 2] S1 (shapeCast S1x320x1280 x shapeCasts_S320x1280_S1x320x1280)
    0xFF800000#32 reduces_S1x320x1280_S1 (.inl rfl) rfl) shapeCasts_S1_S1x1x1) inpos_S1x1x1_p0_0_0

/-- The tensor scale, from the largest entry. -/
theorem pay1_top (x : S320x1280.Idx → EReal) : k0_pay1 (F := Ideal) x = tensorScale (top x) := by
  unfold k0_pay1 top tensorScale
  dsimp only
  generalize extractAt _ _ _ = t
  rw [Ideal.scalar_divf_def, Ideal.scalar_cmpf_def]
  exact rfl

theorem bs_pay (x : S320x1280.Idx → EReal) (i : S320x1280.Idx) :
    k0_pay2 (F := Ideal) x i = blockScale (x i) (tensorScale (top x)) := by
  rw [← pay1_top]
  unfold k0_pay2
  generalize k0_pay1 (F := Ideal) x = t
  exact blockScale_at x t _ i

theorem out_bs (x : S320x1280.Idx → EReal) : out0_1 (F := Ideal) x = k0_pay2 (F := Ideal) x := by
  unfold out0_1
  rw [View.canon_unit_zero hz2]
  simp only [View.ld_unit_zero (S := S320x1280) hz2]

theorem ts_pay (y : S320x1280.Idx → EReal) (i : S1x1.Idx) : k0_pay3 (F := Ideal) y i = tensorScale (top y) := by
  refine Eq.trans ?_ (pay1_top y)
  unfold k0_pay3
  generalize k0_pay1 (F := Ideal) y = t
  exact broadcast_at t i

theorem out_ts (y : S320x1280.Idx → EReal) : out0_2 (F := Ideal) y = k0_pay3 (F := Ideal) y := by
  unfold out0_2
  rw [View.canon_unit_zero hz2]
  simp only [View.ld_unit_zero (S := S320x1280) hz2]

/-! ## The blocks: each window is its whole array -/

theorem idx0 : ∀ t : Fin cfg0.N, win0_0.index t = ![0, 0] := (by decide +kernel : ∀ t : Fin grid0.N, _)
theorem blk0 (c : Dev nD) (t : Fin cfg0.N) : iblk m c 0 t = A0 m c := by
  funext i
  obtain ⟨r, k, rfl⟩ : ∃ (r : Fin 320) (k : Fin 1280), i = ix2 r k := ⟨i 0, i 1, eq_ix2 i⟩
  unfold iblk
  rw [View.read_apply]
  show V m c main_arg0 _ = _
  rw [V_main_arg0]
  have e := idx0 t
  congr 1; funext a; apply Fin.ext
  match a with
  | ⟨0, _⟩ => show win0_0.index t 0 * 320 + 1 * r.val = r.val; rw [e]; show 0 * 320 + 1 * r.val = _; omega
  | ⟨1, _⟩ => show win0_0.index t 1 * 1280 + 1 * k.val = k.val; rw [e]; show 0 * 1280 + 1 * k.val = _; omega

theorem idxB : ∀ t : Fin cfg0.N, win0_1.index t = ![0, 0] := (by decide +kernel : ∀ t : Fin grid0.N, _)
theorem idxT : ∀ t : Fin cfg0.N, win0_2.index t = ![0, 0] := (by decide +kernel : ∀ t : Fin grid0.N, _)

/-- The one point. -/
def tl : Fin cfg0.N := ⟨0, by rw [show cfg0.N = 1 from N_0]; decide⟩
theorem eq_tl (t : Fin cfg0.N) : t = tl := by
  have ht : t.val < 1 := lt_of_lt_of_eq t.isLt (show cfg0.N = 1 from N_0)
  apply Fin.ext
  show t.val = 0
  omega

/-- The array of block scales that the reference leaves. -/
def bsArr (c : Dev nD) : S320x1280.Idx → EReal := (dats m 0 c).arrAt 1 cfg0.N

theorem bs_apply (c : Dev nD) (r : Fin 320) (k : Fin 1280) :
    bsArr m c (ix2 r k) = blockScale (A0 m c (ix2 r k)) (tensorScale (top (A0 m c))) := by
  have e := congrFun ((dats m 0 c).read_blk_arrAt_eq_flushed 1
    (fun t t' _ _ hne => absurd ((eq_tl t).trans (eq_tl t').symm) hne) cfg0.N tl tl.isLt (flush0_1 tl)) (ix2 r k)
  rw [View.read_apply] at e
  have hi : (((cfg0.win 1).blk tl).view.emb (ix2 r k) : S320x1280.Idx) = ix2 r k := by
    have e3 := idxB tl
    funext a; apply Fin.ext
    match a with
    | ⟨0, _⟩ => show win0_1.index tl 0 * 320 + 1 * r.val = r.val; rw [e3]; show 0 * 320 + 1 * r.val = _; omega
    | ⟨1, _⟩ => show win0_1.index tl 1 * 1280 + 1 * k.val = k.val; rw [e3]; show 0 * 1280 + 1 * k.val = _; omega
  refine (congrArg (bsArr m c) hi.symm).trans (e.trans ?_)
  show (cfg0.win 1).cut (grid0.coords tl) ((dats m 0 c).after 1 tl) (ix2 r k) = _
  rw [after0_1, blk0, out_bs]
  have hp := bs_pay (A0 m c)
  generalize k0_pay2 (F := Ideal) (A0 m c) = f at hp ⊢
  exact hp (ix2 r k)

/-- The array of one entry that holds the reference's tensor scale. -/
def tsArr (c : Dev nD) : S1x1.Idx → EReal := (dats m 0 c).arrAt 2 cfg0.N

theorem ts_apply (c : Dev nD) (r : Fin 1) (k : Fin 1) : tsArr m c (ix2 r k) = tensorScale (top (A0 m c)) := by
  have e := congrFun ((dats m 0 c).read_blk_arrAt_eq_flushed 2
    (fun t t' _ _ hne => absurd ((eq_tl t).trans (eq_tl t').symm) hne) cfg0.N tl tl.isLt (flush0_2 tl)) (ix2 r k)
  rw [View.read_apply] at e
  have hi : (((cfg0.win 2).blk tl).view.emb (ix2 r k) : S1x1.Idx) = ix2 r k := by
    have e3 := idxT tl
    funext a; apply Fin.ext
    match a with
    | ⟨0, _⟩ => show win0_2.index tl 0 * 1 + 1 * r.val = r.val; rw [e3]; show 0 * 1 + 1 * r.val = _; omega
    | ⟨1, _⟩ => show win0_2.index tl 1 * 1 + 1 * k.val = k.val; rw [e3]; show 0 * 1 + 1 * k.val = _; omega
  refine (congrArg (tsArr m c) hi.symm).trans (e.trans ?_)
  show (cfg0.win 2).cut (grid0.coords tl) ((dats m 0 c).after 2 tl) (ix2 r k) = _
  rw [after0_2, blk0, out_ts]
  have hp := ts_pay (A0 m c) (ix2 r k)
  generalize k0_pay3 (F := Ideal) (A0 m c) = f at hp ⊢
  exact hp

/-- The arrays of the call are distinct. -/
theorem arr_inj : Function.Injective (Pipeline.arrRef spec0) := by decide

/-- The second result, as the line after the call leaves it: the one entry. -/
theorem res_ts (c : Dev nD) : (Pipeline.afterTail₀ cfgs (dats m) 0 (V0 m) [hostOps1] c main_v1 : S_.Idx → EReal)
    = shapeCast S_ (tsArr m c) shapeCasts_S1x1_S_ := by
  unfold Pipeline.afterTail₀
  show StableHlo.after hostOps1 _ _ = _
  unfold hostOps1
  after_results
  exact congrArg (fun X : S1x1.Idx → EReal => shapeCast S_ X shapeCasts_S1x1_S_)
    (Pipeline.withArrays_arr spec0 arr_inj c (V0 m c) (fun w => (dats m 0 c).arrAt w cfg0.N) 2)

theorem ts_value (c : Dev nD) : (Pipeline.afterTail₀ cfgs (dats m) 0 (V0 m) [hostOps1] c main_v1 : S_.Idx → EReal)
    = fun _ => tensorScale (top (A0 m c)) := by
  rw [res_ts]
  funext i
  refine (shapeCast_apply _ shapeCasts_S1x1_S_ _ (ix2 0 0) ?_).trans (ts_apply m c 0 0)
  rw [Shape.rowMajor_val_two]
  exact (Nat.lt_one_iff.mp (lt_of_lt_of_eq (Shape.rowMajor S_ i).isLt (by decide))).symm

/-- The run, with the two results named and the argument as it was. -/
theorem run_results (ρ : Dev nD → PrngReg) : θ_run defs (onTc (τ := τ) (main (F := Ideal))) ⟨m, fun _ => 0, ρ⟩ fun r => ∀ c : Dev nD,
      r.2.mem ((c : Thread nD τ).loc main_v0_0) = bsArr m c
      ∧ r.2.mem ((c : Thread nD τ).loc main_v1) = Pipeline.afterTail₀ cfgs (dats m) 0 (V0 m) [hostOps1] c main_v1
      ∧ r.2.mem ((c : Thread nD τ).loc main_arg0) = m ((c : Thread nD τ).loc main_arg0) :=
  (θ_run defs _ _).mono (fun r h c => ⟨((h.1 : Pipeline.FramePost cfgs (dats m) 0 _ r) c).1 1,
      (h.1 c).2 main_v1 (Pipeline.mem_restRefs_of main_v1 (by decide) (by decide)), h.2 c⟩)
    (θ_run_and (run_main m ρ) (unchanged m ρ))

end Cert.ReferenceScalesW2Ideal.Hand

end
-- ==== Proof.ScalesW2.lean ====
/- The scales of an array of block maxima, 320 rows of 1280: the tensor scale, which is the largest of the maxima over 2688,
   or one where that is zero; and the block scales, which are each maximum times a constant over the tensor scale, kept between
   zero and 448. The kernel takes 320 rows at a time and finds the tensor scale anew at each; the reference takes all rows at
   once. The kernel multiplies by the reciprocal of 2688, which is read as the exact rational number. The theorems `value_bs` and
   `value_ts` say that the results are the reference's. -/
module

public import proofs.«01_k».proof.Proof.Gen.KernelScalesW2Ideal.Frame
public import proofs.«01_k».proof.Proof.ScalesW2Reference
public import proofs.«01_k».proof.Proof.Common
public import Idealize.ShloMosaic.Lib.Pointwise.Reduce
public import Idealize.ShloMosaic.Lib.IdealHost
public import Idealize.ShloMosaic.Lib.KernelVsHost
public import Idealize.ShloMosaic.Lib.Tactic.ValueTie

@[expose] public section

set_option maxRecDepth 16384

noncomputable section

namespace Cert.KernelScalesW2Ideal.Hand

open Cert.KernelScalesW2Ideal Cert.KernelScalesW2Ideal.Gen
open Idealize.ShloMosaic hiding ix1 ix2 ix3 eq_ix1 eq_ix2 eq_ix3
open Idealize.ShloMosaic.TcCoe Idealize.ShloMosaic.ValueIdx
open Idealize.ShloMosaic.Tactic Cert.Common
open Idealize.SL.Sem

variable (m : (ℓ : Loc nD τ sig) → Buf (Elt Ideal) ℓ)

/-- The argument as an array: the block maxima. -/
abbrev A0 (c : Dev nD) : S320x1280.Idx → EReal := m ((c : Thread nD τ).loc main_arg0)

/-- The kernel's constant is the rational number 1/2688. -/
theorem inv_divisor : Named.named (F := Ideal) κ "inv_divisor" (φ := .f32) 0x39C30C31#32 = ((1 / 2688 : ℝ) : EReal) :=
  IdealRules.named_const.ideal_named_scalar _ _ _ _ rfl

/-- The kernel's tensor scale is the reference's: the largest entry times 1/2688 is the largest entry over 2688. -/
theorem pay1_top (x : S320x1280.Idx → EReal) : k0_pay1 (F := Ideal) x = tensorScale (Cert.ReferenceScalesW2Ideal.Hand.top x) := by
  unfold k0_pay1 Cert.ReferenceScalesW2Ideal.Hand.top tensorScale
  dsimp only
  generalize extractAt _ _ _ = t
  rw [Ideal.scalar_mulf_def, Ideal.scalar_cmpf_def, inv_divisor]
  refine Eq.trans ?_ (congrArg (fun b : EReal => Scalar.select _ _ b) (over_2688 t))
  exact rfl

theorem bs_pay (x : S320x1280.Idx → EReal) (y : S320x1280.Idx → EReal) (i : S320x1280.Idx) :
    k0_pay2 (F := Ideal) x y i = blockScale (y i) (tensorScale (Cert.ReferenceScalesW2Ideal.Hand.top x)) := by
  rw [← pay1_top]
  unfold k0_pay2
  generalize k0_pay1 (F := Ideal) x = t
  exact blockScale_at y t _ i

theorem out_bs (y : S320x1280.Idx → EReal) (x : S320x1280.Idx → EReal) : out0_2 (F := Ideal) y x = k0_pay2 (F := Ideal) x y := by
  unfold out0_2
  rw [View.canon_unit_zero hz2]
  simp only [View.ld_unit_zero (S := S320x1280) hz2, View.ld_unit_zero (S := S320x1280) hz2]

theorem ts_pay (x : S320x1280.Idx → EReal) (i : S8x128.Idx) : k0_pay4 (F := Ideal) x i = tensorScale (Cert.ReferenceScalesW2Ideal.Hand.top x) := by
  refine Eq.trans ?_ (pay1_top x)
  unfold k0_pay4
  generalize k0_pay1 (F := Ideal) x = t
  exact broadcast_at t i

theorem out_ts (y : S320x1280.Idx → EReal) (x : S320x1280.Idx → EReal) : out0_4 (F := Ideal) y x = k0_pay4 (F := Ideal) x := by
  unfold out0_4
  rw [View.canon_unit_zero hz2]
  simp only [View.ld_unit_zero (S := S320x1280) hz2]

/-! ## The blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx4 : ∀ t : Fin cfg0.N, win0_4.index t = ![0, 0] := (by decide +kernel : ∀ t : Fin grid0.N, _)
theorem idx_inj2 : ∀ t t' : Fin cfg0.N, win0_2.index t = win0_2.index t' → t = t' :=
  (by decide +kernel : ∀ t t' : Fin grid0.N, win0_2.index t = win0_2.index t' → t = t')

/-- The block of the maxima at point t is the t-th stretch of 320 rows. -/
theorem blk0 (c : Dev nD) (t : Fin cfg0.N) (r : Fin 320) (k : Fin 1280) (R : Fin 320) (hR : R.val = t.val * 320 + r.val) :
    iblk m c 0 t (ix2 r k) = A0 m c (ix2 R k) := by
  unfold iblk
  rw [View.read_apply]
  show V m c main_arg0 _ = _
  rw [V_main_arg0]
  have e := idx0 t
  congr 1; funext a; apply Fin.ext
  match a with
  | ⟨0, _⟩ => show win0_0.index t 0 * 320 + 1 * r.val = R.val; rw [e]; show t.val * 320 + 1 * r.val = _; omega
  | ⟨1, _⟩ => show win0_0.index t 1 * 1280 + 1 * k.val = k.val; rw [e]; show 0 * 1280 + 1 * k.val = _; omega

/-- What the largest entry is taken of is, at every point, the whole array. -/
theorem blk1 (c : Dev nD) (t : Fin cfg0.N) : iblk m c 1 t = A0 m c := by
  funext i
  obtain ⟨r, k, rfl⟩ : ∃ (r : Fin 320) (k : Fin 1280), i = ix2 r k := ⟨i 0, i 1, eq_ix2 i⟩
  unfold iblk
  rw [View.read_apply]
  show V m c main_arg0 _ = _
  rw [V_main_arg0]
  have e := idx1 t
  congr 1; funext a; apply Fin.ext
  match a with
  | ⟨0, _⟩ => show win0_1.index t 0 * 320 + 1 * r.val = r.val; rw [e]; show 0 * 320 + 1 * r.val = _; omega
  | ⟨1, _⟩ => show win0_1.index t 1 * 1280 + 1 * k.val = k.val; rw [e]; show 0 * 1280 + 1 * k.val = _; omega

/-- Every row is row r of the block of some point. -/
theorem row_point (R : Fin 320) : ∃ (t : Fin cfg0.N) (r : Fin 320), R.val = t.val * 320 + r.val := by
  have hR := R.isLt
  refine ⟨⟨R.val / 320, by rw [show cfg0.N = 1 from N_0]; omega⟩, ⟨R.val % 320, Nat.mod_lt _ (by decide)⟩, ?_⟩
  show R.val = R.val / 320 * 320 + R.val % 320
  omega

/-! ## The arrays -/

/-- The array of block scales that the kernel leaves. -/
def bsArr (c : Dev nD) : S320x1280.Idx → EReal := (dats m 0 c).arrAt 2 cfg0.N

theorem bs_apply (c : Dev nD) (R : Fin 320) (k : Fin 1280) :
    bsArr m c (ix2 R k) = blockScale (A0 m c (ix2 R k)) (tensorScale (Cert.ReferenceScalesW2Ideal.Hand.top (A0 m c))) := by
  obtain ⟨t, r, hR⟩ := row_point R
  have e := congrFun ((dats m 0 c).read_blk_arrAt_eq_flushed 2
    (fun t t' _ _ hne => (cfg0.win 2).disjoint_blk fun h => hne (idx_inj2 t t' h)) cfg0.N t t.isLt (flush0_2 t)) (ix2 r k)
  rw [View.read_apply] at e
  have hi : (((cfg0.win 2).blk t).view.emb (ix2 r k) : S320x1280.Idx) = ix2 R k := by
    have e3 := idx2 t
    funext a; apply Fin.ext
    match a with
    | ⟨0, _⟩ => show win0_2.index t 0 * 320 + 1 * r.val = R.val; rw [e3]; show t.val * 320 + 1 * r.val = _; omega
    | ⟨1, _⟩ => show win0_2.index t 1 * 1280 + 1 * k.val = k.val; rw [e3]; show 0 * 1280 + 1 * k.val = _; omega
  refine (congrArg (bsArr m c) hi.symm).trans (e.trans ?_)
  show (cfg0.win 2).cut (grid0.coords t) ((dats m 0 c).after 2 t) (ix2 r k) = _
  rw [after0_2, blk1, out_bs]
  have hp := bs_pay (A0 m c) (iblk m c 0 t) (ix2 r k)
  rw [blk0 m c t r k R hR] at hp
  generalize k0_pay2 (F := Ideal) (A0 m c) (iblk m c 0 t) = f at hp ⊢
  exact hp

/-- The last point. -/
def tl : Fin cfg0.N := ⟨0, by rw [show cfg0.N = 1 from N_0]; decide⟩

/-- The array that holds the tensor scale in every place. -/
def tsArr (c : Dev nD) : S8x128.Idx → EReal := (dats m 0 c).arrAt 4 cfg0.N

theorem ts_apply (c : Dev nD) (r : Fin 8) (k : Fin 128) : tsArr m c (ix2 r k) = tensorScale (Cert.ReferenceScalesW2Ideal.Hand.top (A0 m c)) := by
  have hfl : ∀ t : Fin cfg0.N, (cfg0.win 4).flush t = true → t = tl := fun t h => by
    skip
    have ht : t.val < 1 := lt_of_lt_of_eq t.isLt (show cfg0.N = 1 from N_0)
    apply Fin.ext
    show t.val = 0
    omega
  have e := congrFun ((dats m 0 c).read_blk_arrAt_eq_flushed 4
    (fun t t' h h' hne => absurd ((hfl t h).trans (hfl t' h').symm) hne) cfg0.N tl tl.isLt (flush0_4 tl)) (ix2 r k)
  rw [View.read_apply] at e
  have hi : (((cfg0.win 4).blk tl).view.emb (ix2 r k) : S8x128.Idx) = ix2 r k := by
    have e3 := idx4 tl
    funext a; apply Fin.ext
    match a with
    | ⟨0, _⟩ => show win0_4.index tl 0 * 8 + 1 * r.val = r.val; rw [e3]; show 0 * 8 + 1 * r.val = _; omega
    | ⟨1, _⟩ => show win0_4.index tl 1 * 128 + 1 * k.val = k.val; rw [e3]; show 0 * 128 + 1 * k.val = _; omega
  refine (congrArg (tsArr m c) hi.symm).trans (e.trans ?_)
  show (cfg0.win 4).cut (grid0.coords tl) ((dats m 0 c).after 4 tl) (ix2 r k) = _
  rw [after0_4, blk1, out_ts]
  have hp := ts_pay (A0 m c) (ix2 r k)
  generalize k0_pay4 (F := Ideal) (A0 m c) = f at hp ⊢
  exact hp

/-! ## The lines after the call -/

/-- Two windows of the call on one array are the two input windows, which leave it as it was. -/
theorem arr_shared (c : Dev nD) : ∀ w w', w ≠ w' → Pipeline.arrRef spec0 w = Pipeline.arrRef spec0 w' →
    (dats m 0 c).arrAt w cfg0.N = V0 m c (Proc.devRef .tc (Pipeline.arrRef spec0 w)) := by
  have h : ∀ w w' : Fin 5, w ≠ w' → Pipeline.arrRef spec0 w = Pipeline.arrRef spec0 w' → w = 0 ∨ w = 1 := by decide
  intro w w' hne he
  rcases h w w' hne he with rfl | rfl
  · exact ((dats m 0 c).arrAt_in 0 rfl _).trans (A_eq m c 0)
  · exact ((dats m 0 c).arrAt_in 1 rfl _).trans (A_eq m c 1)

/-- The second result: the first entry of the array that holds the tensor scale. -/
theorem res_ts (c : Dev nD) : (Pipeline.afterTail₀ cfgs (dats m) 0 (V0 m) [hostOps1] c main_v2 : S_.Idx → EReal)
    = shapeCast S_ (extractStridedSlice S1x1 ![0, 0] (tsArr m c) slices_S8x128_S1x1_0_0) shapeCasts_S1x1_S_ := by
  unfold Pipeline.afterTail₀
  show StableHlo.after hostOps1 _ _ = _
  unfold hostOps1
  after_results
  exact congrArg (fun X : S8x128.Idx → EReal => shapeCast S_ (extractStridedSlice S1x1 ![0, 0] X slices_S8x128_S1x1_0_0) shapeCasts_S1x1_S_)
    (Pipeline.withArrays_arr_shared spec0 c (V0 m c) (fun w => (dats m 0 c).arrAt w cfg0.N) (arr_shared m c) 4)

/-- The run, with the two results named and the argument as it was. -/
theorem run_results (ρ : Dev nD → PrngReg) : θ_run defs (onTc (τ := τ) (main (F := Ideal))) ⟨m, fun _ => 0, ρ⟩ fun r => ∀ c : Dev nD,
      r.2.mem ((c : Thread nD τ).loc main_v0_0) = bsArr m c
      ∧ r.2.mem ((c : Thread nD τ).loc main_v2) = Pipeline.afterTail₀ cfgs (dats m) 0 (V0 m) [hostOps1] c main_v2
      ∧ r.2.mem ((c : Thread nD τ).loc main_arg0) = m ((c : Thread nD τ).loc main_arg0) :=
  (θ_run defs _ _).mono (fun r h c => ⟨((h.1 : Pipeline.FramePost cfgs (dats m) 0 _ r) c).1 2,
      (h.1 c).2 main_v2 (Pipeline.mem_restRefs_of main_v2 (by decide) (by decide)), h.2 c⟩)
    (θ_run_and (run_main m ρ) (unchanged m ρ))

/-! ## The results are the reference's -/

variable (m' : (ℓ : Loc Cert.ReferenceScalesW2Ideal.nD Cert.ReferenceScalesW2Ideal.τ Cert.ReferenceScalesW2Ideal.sig) → Buf (Elt Ideal) ℓ)

theorem value_bs (c : Dev nD) (h0 : Cert.ReferenceScalesW2Ideal.Hand.A0 m' c = A0 m c) :
    Cert.ReferenceScalesW2Ideal.Hand.bsArr m' c = bsArr m c := by
  funext i
  obtain ⟨r, k, rfl⟩ : ∃ (r : Fin 320) (k : Fin 1280), i = ix2 r k := ⟨i 0, i 1, eq_ix2 i⟩
  rw [bs_apply, Cert.ReferenceScalesW2Ideal.Hand.bs_apply, h0]

theorem value_ts (c : Dev nD) (h0 : Cert.ReferenceScalesW2Ideal.Hand.A0 m' c = A0 m c) :
    (Pipeline.afterTail₀ Cert.ReferenceScalesW2Ideal.cfgs (Cert.ReferenceScalesW2Ideal.Gen.dats m') 0 (Cert.ReferenceScalesW2Ideal.Gen.V0 m') [Cert.ReferenceScalesW2Ideal.Gen.hostOps1] c Cert.ReferenceScalesW2Ideal.main_v1 : S_.Idx → EReal)
      = Pipeline.afterTail₀ cfgs (dats m) 0 (V0 m) [hostOps1] c main_v2 := by
  refine (Cert.ReferenceScalesW2Ideal.Hand.ts_value m' c).trans (Eq.symm ?_)
  rw [res_ts, h0]
  funext i
  refine (shapeCast_apply _ shapeCasts_S1x1_S_ _ (ix2 0 0) ?_).trans ?_
  · rw [Shape.rowMajor_val_two]
    exact (Nat.lt_one_iff.mp (lt_of_lt_of_eq (Shape.rowMajor S_ i).isLt (by decide))).symm
  · refine (extractStridedSlice_apply _ _ slices_S8x128_S1x1_0_0 _ (ix2 0 0) (fun a => ?_)).trans (ts_apply m c 0 0)
    match a with
    | ⟨0, _⟩ => rfl
    | ⟨1, _⟩ => rfl

end Cert.KernelScalesW2Ideal.Hand

end
-- ==== Proof.ScalesCReference.lean ====
/- The scales of an array of block maxima, 1280 rows of 2048: what the reference leaves, place by place, from the block maxima. -/
module

public import proofs.«01_k».proof.Proof.Gen.ReferenceScalesCIdeal.Frame
public import proofs.«01_k».proof.Proof.Common
public import Idealize.ShloMosaic.Lib.Pointwise.Reduce
public import Idealize.ShloMosaic.Lib.IdealHost
public import Idealize.ShloMosaic.Lib.KernelVsHost
public import Idealize.ShloMosaic.Lib.Tactic.ValueTie

@[expose] public section

set_option maxRecDepth 16384

noncomputable section

namespace Cert.ReferenceScalesCIdeal.Hand

open Cert.ReferenceScalesCIdeal Cert.ReferenceScalesCIdeal.Gen
open Idealize.ShloMosaic hiding ix1 ix2 ix3 eq_ix1 eq_ix2 eq_ix3
open Idealize.ShloMosaic.TcCoe Idealize.ShloMosaic.ValueIdx
open Idealize.ShloMosaic.Tactic Cert.Common
open Idealize.SL.Sem

variable (m : (ℓ : Loc nD τ sig) → Buf (Elt Ideal) ℓ)

/-- The arguments as arrays: the block maxima, and the partial maxima. -/
abbrev A0 (c : Dev nD) : S1280x2048.Idx → EReal := m ((c : Thread nD τ).loc main_arg0)
abbrev A1 (c : Dev nD) : S8x128.Idx → EReal := m ((c : Thread nD τ).loc main_arg1)

/-- The largest entry. -/
@[irreducible] def top (x : S8x128.Idx → EReal) : EReal :=
  extractAt ![0, 0, 0] (shapeCast S1x1x1 (multiReduction (F := Ideal) (φ := .f32) .maximumf [1, 2] S1 (shapeCast S1x8x128 x shapeCasts_S8x128_S1x8x128)
    0xFF800000#32 reduces_S1x8x128_S1 (.inl rfl) rfl) shapeCasts_S1_S1x1x1) inpos_S1x1x1_p0_0_0

/-- The tensor scale, from the largest entry. -/
theorem pay1_top (x : S8x128.Idx → EReal) : k0_pay1 (F := Ideal) x = tensorScale (top x) := by
  unfold k0_pay1 top tensorScale
  dsimp only
  generalize extractAt _ _ _ = t
  rw [Ideal.scalar_divf_def, Ideal.scalar_cmpf_def]
  exact rfl

theorem bs_pay (x : S1280x2048.Idx → EReal) (y : S8x128.Idx → EReal) (i : S1280x2048.Idx) :
    k0_pay2 (F := Ideal) y x i = blockScale (x i) (tensorScale (top y)) := by
  rw [← pay1_top]
  unfold k0_pay2
  generalize k0_pay1 (F := Ideal) y = t
  exact blockScale_at x t _ i

theorem out_bs (x : S1280x2048.Idx → EReal) (y : S8x128.Idx → EReal) : out0_2 (F := Ideal) x y = k0_pay2 (F := Ideal) y x := by
  unfold out0_2
  rw [View.canon_unit_zero hz2]
  simp only [View.ld_unit_zero (S := S1280x2048) hz2, View.ld_unit_zero (S := S8x128) hz2]

theorem ts_pay (y : S8x128.Idx → EReal) (i : S1x1.Idx) : k0_pay3 (F := Ideal) y i = tensorScale (top y) := by
  refine Eq.trans ?_ (pay1_top y)
  unfold k0_pay3
  generalize k0_pay1 (F := Ideal) y = t
  exact broadcast_at t i

theorem out_ts (x : S1280x2048.Idx → EReal) (y : S8x128.Idx → EReal) : out0_3 (F := Ideal) x y = k0_pay3 (F := Ideal) y := by
  unfold out0_3
  rw [View.canon_unit_zero hz2]
  simp only [View.ld_unit_zero (S := S8x128) hz2]

/-! ## The blocks: each window is its whole array -/

theorem idx0 : ∀ t : Fin cfg0.N, win0_0.index t = ![0, 0] := (by decide +kernel : ∀ t : Fin grid0.N, _)
theorem blk0 (c : Dev nD) (t : Fin cfg0.N) : iblk m c 0 t = A0 m c := by
  funext i
  obtain ⟨r, k, rfl⟩ : ∃ (r : Fin 1280) (k : Fin 2048), i = ix2 r k := ⟨i 0, i 1, eq_ix2 i⟩
  unfold iblk
  rw [View.read_apply]
  show V m c main_arg0 _ = _
  rw [V_main_arg0]
  have e := idx0 t
  congr 1; funext a; apply Fin.ext
  match a with
  | ⟨0, _⟩ => show win0_0.index t 0 * 1280 + 1 * r.val = r.val; rw [e]; show 0 * 1280 + 1 * r.val = _; omega
  | ⟨1, _⟩ => show win0_0.index t 1 * 2048 + 1 * k.val = k.val; rw [e]; show 0 * 2048 + 1 * k.val = _; omega

theorem idx1 : ∀ t : Fin cfg0.N, win0_1.index t = ![0, 0] := (by decide +kernel : ∀ t : Fin grid0.N, _)
theorem blk1 (c : Dev nD) (t : Fin cfg0.N) : iblk m c 1 t = A1 m c := by
  funext i
  obtain ⟨r, k, rfl⟩ : ∃ (r : Fin 8) (k : Fin 128), i = ix2 r k := ⟨i 0, i 1, eq_ix2 i⟩
  unfold iblk
  rw [View.read_apply]
  show V m c main_arg1 _ = _
  rw [V_main_arg1]
  have e := idx1 t
  congr 1; funext a; apply Fin.ext
  match a with
  | ⟨0, _⟩ => show win0_1.index t 0 * 8 + 1 * r.val = r.val; rw [e]; show 0 * 8 + 1 * r.val = _; omega
  | ⟨1, _⟩ => show win0_1.index t 1 * 128 + 1 * k.val = k.val; rw [e]; show 0 * 128 + 1 * k.val = _; omega

theorem idxB : ∀ t : Fin cfg0.N, win0_2.index t = ![0, 0] := (by decide +kernel : ∀ t : Fin grid0.N, _)
theorem idxT : ∀ t : Fin cfg0.N, win0_3.index t = ![0, 0] := (by decide +kernel : ∀ t : Fin grid0.N, _)

/-- The one point. -/
def tl : Fin cfg0.N := ⟨0, by rw [show cfg0.N = 1 from N_0]; decide⟩
theorem eq_tl (t : Fin cfg0.N) : t = tl := by
  have ht : t.val < 1 := lt_of_lt_of_eq t.isLt (show cfg0.N = 1 from N_0)
  apply Fin.ext
  show t.val = 0
  omega

/-- The array of block scales that the reference leaves. -/
def bsArr (c : Dev nD) : S1280x2048.Idx → EReal := (dats m 0 c).arrAt 2 cfg0.N

theorem bs_apply (c : Dev nD) (r : Fin 1280) (k : Fin 2048) :
    bsArr m c (ix2 r k) = blockScale (A0 m c (ix2 r k)) (tensorScale (top (A1 m c))) := by
  have e := congrFun ((dats m 0 c).read_blk_arrAt_eq_flushed 2
    (fun t t' _ _ hne => absurd ((eq_tl t).trans (eq_tl t').symm) hne) cfg0.N tl tl.isLt (flush0_2 tl)) (ix2 r k)
  rw [View.read_apply] at e
  have hi : (((cfg0.win 2).blk tl).view.emb (ix2 r k) : S1280x2048.Idx) = ix2 r k := by
    have e3 := idxB tl
    funext a; apply Fin.ext
    match a with
    | ⟨0, _⟩ => show win0_2.index tl 0 * 1280 + 1 * r.val = r.val; rw [e3]; show 0 * 1280 + 1 * r.val = _; omega
    | ⟨1, _⟩ => show win0_2.index tl 1 * 2048 + 1 * k.val = k.val; rw [e3]; show 0 * 2048 + 1 * k.val = _; omega
  refine (congrArg (bsArr m c) hi.symm).trans (e.trans ?_)
  show (cfg0.win 2).cut (grid0.coords tl) ((dats m 0 c).after 2 tl) (ix2 r k) = _
  rw [after0_2, blk0, blk1, out_bs]
  have hp := bs_pay (A0 m c) (A1 m c)
  generalize k0_pay2 (F := Ideal) (A1 m c) (A0 m c) = f at hp ⊢
  exact hp (ix2 r k)

/-- The array of one entry that holds the reference's tensor scale. -/
def tsArr (c : Dev nD) : S1x1.Idx → EReal := (dats m 0 c).arrAt 3 cfg0.N

theorem ts_apply (c : Dev nD) (r : Fin 1) (k : Fin 1) : tsArr m c (ix2 r k) = tensorScale (top (A1 m c)) := by
  have e := congrFun ((dats m 0 c).read_blk_arrAt_eq_flushed 3
    (fun t t' _ _ hne => absurd ((eq_tl t).trans (eq_tl t').symm) hne) cfg0.N tl tl.isLt (flush0_3 tl)) (ix2 r k)
  rw [View.read_apply] at e
  have hi : (((cfg0.win 3).blk tl).view.emb (ix2 r k) : S1x1.Idx) = ix2 r k := by
    have e3 := idxT tl
    funext a; apply Fin.ext
    match a with
    | ⟨0, _⟩ => show win0_3.index tl 0 * 1 + 1 * r.val = r.val; rw [e3]; show 0 * 1 + 1 * r.val = _; omega
    | ⟨1, _⟩ => show win0_3.index tl 1 * 1 + 1 * k.val = k.val; rw [e3]; show 0 * 1 + 1 * k.val = _; omega
  refine (congrArg (tsArr m c) hi.symm).trans (e.trans ?_)
  show (cfg0.win 3).cut (grid0.coords tl) ((dats m 0 c).after 3 tl) (ix2 r k) = _
  rw [after0_3, blk0, blk1, out_ts]
  have hp := ts_pay (A1 m c) (ix2 r k)
  generalize k0_pay3 (F := Ideal) (A1 m c) = f at hp ⊢
  exact hp

/-- The arrays of the call are distinct. -/
theorem arr_inj : Function.Injective (Pipeline.arrRef spec0) := by decide

/-- The second result, as the line after the call leaves it: the one entry. -/
theorem res_ts (c : Dev nD) : (Pipeline.afterTail₀ cfgs (dats m) 0 (V0 m) [hostOps1] c main_v1 : S_.Idx → EReal)
    = shapeCast S_ (tsArr m c) shapeCasts_S1x1_S_ := by
  unfold Pipeline.afterTail₀
  show StableHlo.after hostOps1 _ _ = _
  unfold hostOps1
  after_results
  exact congrArg (fun X : S1x1.Idx → EReal => shapeCast S_ X shapeCasts_S1x1_S_)
    (Pipeline.withArrays_arr spec0 arr_inj c (V0 m c) (fun w => (dats m 0 c).arrAt w cfg0.N) 3)

theorem ts_value (c : Dev nD) : (Pipeline.afterTail₀ cfgs (dats m) 0 (V0 m) [hostOps1] c main_v1 : S_.Idx → EReal)
    = fun _ => tensorScale (top (A1 m c)) := by
  rw [res_ts]
  funext i
  refine (shapeCast_apply _ shapeCasts_S1x1_S_ _ (ix2 0 0) ?_).trans (ts_apply m c 0 0)
  rw [Shape.rowMajor_val_two]
  exact (Nat.lt_one_iff.mp (lt_of_lt_of_eq (Shape.rowMajor S_ i).isLt (by decide))).symm

/-- The run, with the two results named and the argument as it was. -/
theorem run_results (ρ : Dev nD → PrngReg) : θ_run defs (onTc (τ := τ) (main (F := Ideal))) ⟨m, fun _ => 0, ρ⟩ fun r => ∀ c : Dev nD,
      r.2.mem ((c : Thread nD τ).loc main_v0_0) = bsArr m c
      ∧ r.2.mem ((c : Thread nD τ).loc main_v1) = Pipeline.afterTail₀ cfgs (dats m) 0 (V0 m) [hostOps1] c main_v1
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 : Pipeline.FramePost cfgs (dats m) 0 _ r) c).1 2,
      (h.1 c).2 main_v1 (Pipeline.mem_restRefs_of main_v1 (by decide) (by decide)), h.2 c⟩)
    (θ_run_and (run_main m ρ) (unchanged m ρ))

end Cert.ReferenceScalesCIdeal.Hand

end
-- ==== Proof.ScalesC.lean ====
/- The scales of an array of block maxima, 1280 rows of 2048: the tensor scale, which is the largest entry of the eight rows of partial maxima over 2688,
   or one where that is zero; and the block scales, which are each maximum times a constant over the tensor scale, kept between
   zero and 448. The kernel takes 128 rows at a time and finds the tensor scale anew at each; the reference takes all rows at
   once. The kernel multiplies by the reciprocal of 2688, which is read as the exact rational number. The theorems `value_bs` and
   `value_ts` say that the results are the reference's. -/
module

public import proofs.«01_k».proof.Proof.Gen.KernelScalesCIdeal.Frame
public import proofs.«01_k».proof.Proof.ScalesCReference
public import proofs.«01_k».proof.Proof.Common
public import Idealize.ShloMosaic.Lib.Pointwise.Reduce
public import Idealize.ShloMosaic.Lib.IdealHost
public import Idealize.ShloMosaic.Lib.KernelVsHost
public import Idealize.ShloMosaic.Lib.Tactic.ValueTie

@[expose] public section

set_option maxRecDepth 16384

noncomputable section

namespace Cert.KernelScalesCIdeal.Hand

open Cert.KernelScalesCIdeal Cert.KernelScalesCIdeal.Gen
open Idealize.ShloMosaic hiding ix1 ix2 ix3 eq_ix1 eq_ix2 eq_ix3
open Idealize.ShloMosaic.TcCoe Idealize.ShloMosaic.ValueIdx
open Idealize.ShloMosaic.Tactic Cert.Common
open Idealize.SL.Sem

variable (m : (ℓ : Loc nD τ sig) → Buf (Elt Ideal) ℓ)

/-- The arguments as arrays: the block maxima, and the partial maxima. -/
abbrev A0 (c : Dev nD) : S1280x2048.Idx → EReal := m ((c : Thread nD τ).loc main_arg0)
abbrev A1 (c : Dev nD) : S8x128.Idx → EReal := m ((c : Thread nD τ).loc main_arg1)

/-- The kernel's constant is the rational number 1/2688. -/
theorem inv_divisor : Named.named (F := Ideal) κ "inv_divisor" (φ := .f32) 0x39C30C31#32 = ((1 / 2688 : ℝ) : EReal) :=
  IdealRules.named_const.ideal_named_scalar _ _ _ _ rfl

/-- The kernel's tensor scale is the reference's: the largest entry times 1/2688 is the largest entry over 2688. -/
theorem pay1_top (x : S8x128.Idx → EReal) : k0_pay1 (F := Ideal) x = tensorScale (Cert.ReferenceScalesCIdeal.Hand.top x) := by
  unfold k0_pay1 Cert.ReferenceScalesCIdeal.Hand.top tensorScale
  dsimp only
  generalize extractAt _ _ _ = t
  rw [Ideal.scalar_mulf_def, Ideal.scalar_cmpf_def, inv_divisor]
  refine Eq.trans ?_ (congrArg (fun b : EReal => Scalar.select _ _ b) (over_2688 t))
  exact rfl

theorem bs_pay (x : S8x128.Idx → EReal) (y : S128x2048.Idx → EReal) (i : S128x2048.Idx) :
    k0_pay2 (F := Ideal) x y i = blockScale (y i) (tensorScale (Cert.ReferenceScalesCIdeal.Hand.top x)) := by
  rw [← pay1_top]
  unfold k0_pay2
  generalize k0_pay1 (F := Ideal) x = t
  exact blockScale_at y t _ i

theorem out_bs (y : S128x2048.Idx → EReal) (x : S8x128.Idx → EReal) : out0_2 (F := Ideal) y x = k0_pay2 (F := Ideal) x y := by
  unfold out0_2
  rw [View.canon_unit_zero hz2]
  simp only [View.ld_unit_zero (S := S128x2048) hz2, View.ld_unit_zero (S := S8x128) hz2]

theorem ts_pay (x : S8x128.Idx → EReal) (i : S8x128.Idx) : k0_pay4 (F := Ideal) x i = tensorScale (Cert.ReferenceScalesCIdeal.Hand.top x) := by
  refine Eq.trans ?_ (pay1_top x)
  unfold k0_pay4
  generalize k0_pay1 (F := Ideal) x = t
  exact broadcast_at t i

theorem out_ts (y : S128x2048.Idx → EReal) (x : S8x128.Idx → EReal) : out0_4 (F := Ideal) y x = k0_pay4 (F := Ideal) x := by
  unfold out0_4
  rw [View.canon_unit_zero hz2]
  simp only [View.ld_unit_zero (S := S8x128) hz2]

/-! ## The blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx4 : ∀ t : Fin cfg0.N, win0_4.index t = ![0, 0] := (by decide +kernel : ∀ t : Fin grid0.N, _)
theorem idx_inj2 : ∀ t t' : Fin cfg0.N, win0_2.index t = win0_2.index t' → t = t' :=
  (by decide +kernel : ∀ t t' : Fin grid0.N, win0_2.index t = win0_2.index t' → t = t')

/-- The block of the maxima at point t is the t-th stretch of 128 rows. -/
theorem blk0 (c : Dev nD) (t : Fin cfg0.N) (r : Fin 128) (k : Fin 2048) (R : Fin 1280) (hR : R.val = t.val * 128 + r.val) :
    iblk m c 0 t (ix2 r k) = A0 m c (ix2 R k) := by
  unfold iblk
  rw [View.read_apply]
  show V m c main_arg0 _ = _
  rw [V_main_arg0]
  have e := idx0 t
  congr 1; funext a; apply Fin.ext
  match a with
  | ⟨0, _⟩ => show win0_0.index t 0 * 128 + 1 * r.val = R.val; rw [e]; show t.val * 128 + 1 * r.val = _; omega
  | ⟨1, _⟩ => show win0_0.index t 1 * 2048 + 1 * k.val = k.val; rw [e]; show 0 * 2048 + 1 * k.val = _; omega

/-- What the largest entry is taken of is, at every point, the whole array. -/
theorem blk1 (c : Dev nD) (t : Fin cfg0.N) : iblk m c 1 t = A1 m c := by
  funext i
  obtain ⟨r, k, rfl⟩ : ∃ (r : Fin 8) (k : Fin 128), i = ix2 r k := ⟨i 0, i 1, eq_ix2 i⟩
  unfold iblk
  rw [View.read_apply]
  show V m c main_arg1 _ = _
  rw [V_main_arg1]
  have e := idx1 t
  congr 1; funext a; apply Fin.ext
  match a with
  | ⟨0, _⟩ => show win0_1.index t 0 * 8 + 1 * r.val = r.val; rw [e]; show 0 * 8 + 1 * r.val = _; omega
  | ⟨1, _⟩ => show win0_1.index t 1 * 128 + 1 * k.val = k.val; rw [e]; show 0 * 128 + 1 * k.val = _; omega

/-- Every row is row r of the block of some point. -/
theorem row_point (R : Fin 1280) : ∃ (t : Fin cfg0.N) (r : Fin 128), R.val = t.val * 128 + r.val := by
  have hR := R.isLt
  refine ⟨⟨R.val / 128, by rw [show cfg0.N = 10 from N_0]; omega⟩, ⟨R.val % 128, Nat.mod_lt _ (by decide)⟩, ?_⟩
  show R.val = R.val / 128 * 128 + R.val % 128
  omega

/-! ## The arrays -/

/-- The array of block scales that the kernel leaves. -/
def bsArr (c : Dev nD) : S1280x2048.Idx → EReal := (dats m 0 c).arrAt 2 cfg0.N

theorem bs_apply (c : Dev nD) (R : Fin 1280) (k : Fin 2048) :
    bsArr m c (ix2 R k) = blockScale (A0 m c (ix2 R k)) (tensorScale (Cert.ReferenceScalesCIdeal.Hand.top (A1 m c))) := by
  obtain ⟨t, r, hR⟩ := row_point R
  have e := congrFun ((dats m 0 c).read_blk_arrAt_eq_flushed 2
    (fun t t' _ _ hne => (cfg0.win 2).disjoint_blk fun h => hne (idx_inj2 t t' h)) cfg0.N t t.isLt (flush0_2 t)) (ix2 r k)
  rw [View.read_apply] at e
  have hi : (((cfg0.win 2).blk t).view.emb (ix2 r k) : S1280x2048.Idx) = ix2 R k := by
    have e3 := idx2 t
    funext a; apply Fin.ext
    match a with
    | ⟨0, _⟩ => show win0_2.index t 0 * 128 + 1 * r.val = R.val; rw [e3]; show t.val * 128 + 1 * r.val = _; omega
    | ⟨1, _⟩ => show win0_2.index t 1 * 2048 + 1 * k.val = k.val; rw [e3]; show 0 * 2048 + 1 * k.val = _; omega
  refine (congrArg (bsArr m c) hi.symm).trans (e.trans ?_)
  show (cfg0.win 2).cut (grid0.coords t) ((dats m 0 c).after 2 t) (ix2 r k) = _
  rw [after0_2, blk1, out_bs]
  have hp := bs_pay (A1 m c) (iblk m c 0 t) (ix2 r k)
  rw [blk0 m c t r k R hR] at hp
  generalize k0_pay2 (F := Ideal) (A1 m c) (iblk m c 0 t) = f at hp ⊢
  exact hp

/-- The last point. -/
def tl : Fin cfg0.N := ⟨9, by rw [show cfg0.N = 10 from N_0]; decide⟩

/-- The array that holds the tensor scale in every place. -/
def tsArr (c : Dev nD) : S8x128.Idx → EReal := (dats m 0 c).arrAt 4 cfg0.N

theorem ts_apply (c : Dev nD) (r : Fin 8) (k : Fin 128) : tsArr m c (ix2 r k) = tensorScale (Cert.ReferenceScalesCIdeal.Hand.top (A1 m c)) := by
  have hfl : ∀ t : Fin cfg0.N, (cfg0.win 4).flush t = true → t = tl := fun t h => by
    have h1 := (flush0_4 t).mp h
    have ht : t.val < 10 := lt_of_lt_of_eq t.isLt (show cfg0.N = 10 from N_0)
    apply Fin.ext
    show t.val = 9
    omega
  have e := congrFun ((dats m 0 c).read_blk_arrAt_eq_flushed 4
    (fun t t' h h' hne => absurd ((hfl t h).trans (hfl t' h').symm) hne) cfg0.N tl tl.isLt ((flush0_4 tl).mpr rfl)) (ix2 r k)
  rw [View.read_apply] at e
  have hi : (((cfg0.win 4).blk tl).view.emb (ix2 r k) : S8x128.Idx) = ix2 r k := by
    have e3 := idx4 tl
    funext a; apply Fin.ext
    match a with
    | ⟨0, _⟩ => show win0_4.index tl 0 * 8 + 1 * r.val = r.val; rw [e3]; show 0 * 8 + 1 * r.val = _; omega
    | ⟨1, _⟩ => show win0_4.index tl 1 * 128 + 1 * k.val = k.val; rw [e3]; show 0 * 128 + 1 * k.val = _; omega
  refine (congrArg (tsArr m c) hi.symm).trans (e.trans ?_)
  show (cfg0.win 4).cut (grid0.coords tl) ((dats m 0 c).after 4 tl) (ix2 r k) = _
  rw [after0_4, blk1, out_ts]
  have hp := ts_pay (A1 m c) (ix2 r k)
  generalize k0_pay4 (F := Ideal) (A1 m c) = f at hp ⊢
  exact hp

/-! ## The lines after the call -/

/-- The arrays of the call are distinct. -/
theorem arr_inj : Function.Injective (Pipeline.arrRef spec0) := by decide

/-- The second result: the first entry of the array that holds the tensor scale. -/
theorem res_ts (c : Dev nD) : (Pipeline.afterTail₀ cfgs (dats m) 0 (V0 m) [hostOps1] c main_v2 : S_.Idx → EReal)
    = shapeCast S_ (extractStridedSlice S1x1 ![0, 0] (tsArr m c) slices_S8x128_S1x1_0_0) shapeCasts_S1x1_S_ := by
  unfold Pipeline.afterTail₀
  show StableHlo.after hostOps1 _ _ = _
  unfold hostOps1
  after_results
  exact congrArg (fun X : S8x128.Idx → EReal => shapeCast S_ (extractStridedSlice S1x1 ![0, 0] X slices_S8x128_S1x1_0_0) shapeCasts_S1x1_S_)
    (Pipeline.withArrays_arr spec0 arr_inj c (V0 m c) (fun w => (dats m 0 c).arrAt w cfg0.N) 4)

/-- The run, with the two results named and the argument as it was. -/
theorem run_results (ρ : Dev nD → PrngReg) : θ_run defs (onTc (τ := τ) (main (F := Ideal))) ⟨m, fun _ => 0, ρ⟩ fun r => ∀ c : Dev nD,
      r.2.mem ((c : Thread nD τ).loc main_v0_0) = bsArr m c
      ∧ r.2.mem ((c : Thread nD τ).loc main_v2) = Pipeline.afterTail₀ cfgs (dats m) 0 (V0 m) [hostOps1] c main_v2
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 : Pipeline.FramePost cfgs (dats m) 0 _ r) c).1 2,
      (h.1 c).2 main_v2 (Pipeline.mem_restRefs_of main_v2 (by decide) (by decide)), h.2 c⟩)
    (θ_run_and (run_main m ρ) (unchanged m ρ))

/-! ## The results are the reference's -/

variable (m' : (ℓ : Loc Cert.ReferenceScalesCIdeal.nD Cert.ReferenceScalesCIdeal.τ Cert.ReferenceScalesCIdeal.sig) → Buf (Elt Ideal) ℓ)

theorem value_bs (c : Dev nD) (h0 : Cert.ReferenceScalesCIdeal.Hand.A0 m' c = A0 m c) (h1 : Cert.ReferenceScalesCIdeal.Hand.A1 m' c = A1 m c) :
    Cert.ReferenceScalesCIdeal.Hand.bsArr m' c = bsArr m c := by
  funext i
  obtain ⟨r, k, rfl⟩ : ∃ (r : Fin 1280) (k : Fin 2048), i = ix2 r k := ⟨i 0, i 1, eq_ix2 i⟩
  rw [bs_apply, Cert.ReferenceScalesCIdeal.Hand.bs_apply, h0, h1]

theorem value_ts (c : Dev nD) (h1 : Cert.ReferenceScalesCIdeal.Hand.A1 m' c = A1 m c) :
    (Pipeline.afterTail₀ Cert.ReferenceScalesCIdeal.cfgs (Cert.ReferenceScalesCIdeal.Gen.dats m') 0 (Cert.ReferenceScalesCIdeal.Gen.V0 m') [Cert.ReferenceScalesCIdeal.Gen.hostOps1] c Cert.ReferenceScalesCIdeal.main_v1 : S_.Idx → EReal)
      = Pipeline.afterTail₀ cfgs (dats m) 0 (V0 m) [hostOps1] c main_v2 := by
  refine (Cert.ReferenceScalesCIdeal.Hand.ts_value m' c).trans (Eq.symm ?_)
  rw [res_ts, h1]
  funext i
  refine (shapeCast_apply _ shapeCasts_S1x1_S_ _ (ix2 0 0) ?_).trans ?_
  · rw [Shape.rowMajor_val_two]
    exact (Nat.lt_one_iff.mp (lt_of_lt_of_eq (Shape.rowMajor S_ i).isLt (by decide))).symm
  · refine (extractStridedSlice_apply _ _ slices_S8x128_S1x1_0_0 _ (ix2 0 0) (fun a => ?_)).trans (ts_apply m c 0 0)
    match a with
    | ⟨0, _⟩ => rfl
    | ⟨1, _⟩ => rfl

end Cert.KernelScalesCIdeal.Hand

end
-- ==== Proof.ScalesRReference.lean ====
/- The scales of an array of block maxima, 128 rows of 20480: what the reference leaves, place by place, from the block maxima. -/
module

public import proofs.«01_k».proof.Proof.Gen.ReferenceScalesRIdeal.Frame
public import proofs.«01_k».proof.Proof.Common
public import Idealize.ShloMosaic.Lib.Pointwise.Reduce
public import Idealize.ShloMosaic.Lib.IdealHost
public import Idealize.ShloMosaic.Lib.KernelVsHost
public import Idealize.ShloMosaic.Lib.Tactic.ValueTie

@[expose] public section

set_option maxRecDepth 65536

noncomputable section

namespace Cert.ReferenceScalesRIdeal.Hand

open Cert.ReferenceScalesRIdeal Cert.ReferenceScalesRIdeal.Gen
open Idealize.ShloMosaic hiding ix1 ix2 ix3 eq_ix1 eq_ix2 eq_ix3
open Idealize.ShloMosaic.TcCoe Idealize.ShloMosaic.ValueIdx
open Idealize.ShloMosaic.Tactic Cert.Common
open Idealize.SL.Sem

variable (m : (ℓ : Loc nD τ sig) → Buf (Elt Ideal) ℓ)

/-- The arguments as arrays: the block maxima, and the partial maxima. -/
abbrev A0 (c : Dev nD) : S128x20480.Idx → EReal := m ((c : Thread nD τ).loc main_arg0)
abbrev A1 (c : Dev nD) : S8x128.Idx → EReal := m ((c : Thread nD τ).loc main_arg1)

/-- The largest entry. -/
@[irreducible] def top (x : S8x128.Idx → EReal) : EReal :=
  extractAt ![0, 0, 0] (shapeCast S1x1x1 (multiReduction (F := Ideal) (φ := .f32) .maximumf [1, 2] S1 (shapeCast S1x8x128 x shapeCasts_S8x128_S1x8x128)
    0xFF800000#32 reduces_S1x8x128_S1 (.inl rfl) rfl) shapeCasts_S1_S1x1x1) inpos_S1x1x1_p0_0_0

/-- The tensor scale, from the largest entry. -/
theorem pay1_top (x : S8x128.Idx → EReal) : k0_pay1 (F := Ideal) x = tensorScale (top x) := by
  unfold k0_pay1 top tensorScale
  dsimp only
  generalize extractAt _ _ _ = t
  rw [Ideal.scalar_divf_def, Ideal.scalar_cmpf_def]
  exact rfl

theorem bs_pay (x : S128x20480.Idx → EReal) (y : S8x128.Idx → EReal) (i : S128x20480.Idx) :
    k0_pay2 (F := Ideal) y x i = blockScale (x i) (tensorScale (top y)) := by
  rw [← pay1_top]
  unfold k0_pay2
  generalize k0_pay1 (F := Ideal) y = t
  exact blockScale_at x t _ i

theorem out_bs (x : S128x20480.Idx → EReal) (y : S8x128.Idx → EReal) : out0_2 (F := Ideal) x y = k0_pay2 (F := Ideal) y x := by
  unfold out0_2
  rw [View.canon_unit_zero hz2]
  simp only [View.ld_unit_zero (S := S128x20480) hz2, View.ld_unit_zero (S := S8x128) hz2]

theorem ts_pay (y : S8x128.Idx → EReal) (i : S1x1.Idx) : k0_pay3 (F := Ideal) y i = tensorScale (top y) := by
  refine Eq.trans ?_ (pay1_top y)
  unfold k0_pay3
  generalize k0_pay1 (F := Ideal) y = t
  exact broadcast_at t i

theorem out_ts (x : S128x20480.Idx → EReal) (y : S8x128.Idx → EReal) : out0_3 (F := Ideal) x y = k0_pay3 (F := Ideal) y := by
  unfold out0_3
  rw [View.canon_unit_zero hz2]
  simp only [View.ld_unit_zero (S := S8x128) hz2]

/-! ## The blocks: each window is its whole array -/

theorem idx0 : ∀ t : Fin cfg0.N, win0_0.index t = ![0, 0] := (by decide +kernel : ∀ t : Fin grid0.N, _)
theorem blk0 (c : Dev nD) (t : Fin cfg0.N) : iblk m c 0 t = A0 m c := by
  funext i
  obtain ⟨r, k, rfl⟩ : ∃ (r : Fin 128) (k : Fin 20480), i = ix2 r k := ⟨i 0, i 1, eq_ix2 i⟩
  unfold iblk
  rw [View.read_apply]
  show V m c main_arg0 _ = _
  rw [V_main_arg0]
  have e := idx0 t
  congr 1; funext a; apply Fin.ext
  match a with
  | ⟨0, _⟩ => show win0_0.index t 0 * 128 + 1 * r.val = r.val; rw [e]; show 0 * 128 + 1 * r.val = _; omega
  | ⟨1, _⟩ => show win0_0.index t 1 * 20480 + 1 * k.val = k.val; rw [e]; show 0 * 20480 + 1 * k.val = _; omega

theorem idx1 : ∀ t : Fin cfg0.N, win0_1.index t = ![0, 0] := (by decide +kernel : ∀ t : Fin grid0.N, _)
theorem blk1 (c : Dev nD) (t : Fin cfg0.N) : iblk m c 1 t = A1 m c := by
  funext i
  obtain ⟨r, k, rfl⟩ : ∃ (r : Fin 8) (k : Fin 128), i = ix2 r k := ⟨i 0, i 1, eq_ix2 i⟩
  unfold iblk
  rw [View.read_apply]
  show V m c main_arg1 _ = _
  rw [V_main_arg1]
  have e := idx1 t
  congr 1; funext a; apply Fin.ext
  match a with
  | ⟨0, _⟩ => show win0_1.index t 0 * 8 + 1 * r.val = r.val; rw [e]; show 0 * 8 + 1 * r.val = _; omega
  | ⟨1, _⟩ => show win0_1.index t 1 * 128 + 1 * k.val = k.val; rw [e]; show 0 * 128 + 1 * k.val = _; omega

theorem idxB : ∀ t : Fin cfg0.N, win0_2.index t = ![0, 0] := (by decide +kernel : ∀ t : Fin grid0.N, _)
theorem idxT : ∀ t : Fin cfg0.N, win0_3.index t = ![0, 0] := (by decide +kernel : ∀ t : Fin grid0.N, _)

/-- The one point. -/
def tl : Fin cfg0.N := ⟨0, by rw [show cfg0.N = 1 from N_0]; decide⟩
theorem eq_tl (t : Fin cfg0.N) : t = tl := by
  have ht : t.val < 1 := lt_of_lt_of_eq t.isLt (show cfg0.N = 1 from N_0)
  apply Fin.ext
  show t.val = 0
  omega

/-- The array of block scales that the reference leaves. -/
def bsArr (c : Dev nD) : S128x20480.Idx → EReal := (dats m 0 c).arrAt 2 cfg0.N

theorem bs_apply (c : Dev nD) (r : Fin 128) (k : Fin 20480) :
    bsArr m c (ix2 r k) = blockScale (A0 m c (ix2 r k)) (tensorScale (top (A1 m c))) := by
  have e := congrFun ((dats m 0 c).read_blk_arrAt_eq_flushed 2
    (fun t t' _ _ hne => absurd ((eq_tl t).trans (eq_tl t').symm) hne) cfg0.N tl tl.isLt (flush0_2 tl)) (ix2 r k)
  rw [View.read_apply] at e
  have hi : (((cfg0.win 2).blk tl).view.emb (ix2 r k) : S128x20480.Idx) = ix2 r k := by
    have e3 := idxB tl
    funext a; apply Fin.ext
    match a with
    | ⟨0, _⟩ => show win0_2.index tl 0 * 128 + 1 * r.val = r.val; rw [e3]; show 0 * 128 + 1 * r.val = _; omega
    | ⟨1, _⟩ => show win0_2.index tl 1 * 20480 + 1 * k.val = k.val; rw [e3]; show 0 * 20480 + 1 * k.val = _; omega
  refine (congrArg (bsArr m c) hi.symm).trans (e.trans ?_)
  show (cfg0.win 2).cut (grid0.coords tl) ((dats m 0 c).after 2 tl) (ix2 r k) = _
  rw [after0_2, blk0, blk1, out_bs]
  have hp := bs_pay (A0 m c) (A1 m c)
  generalize k0_pay2 (F := Ideal) (A1 m c) (A0 m c) = f at hp ⊢
  exact hp (ix2 r k)

/-- The array of one entry that holds the reference's tensor scale. -/
def tsArr (c : Dev nD) : S1x1.Idx → EReal := (dats m 0 c).arrAt 3 cfg0.N

theorem ts_apply (c : Dev nD) (r : Fin 1) (k : Fin 1) : tsArr m c (ix2 r k) = tensorScale (top (A1 m c)) := by
  have e := congrFun ((dats m 0 c).read_blk_arrAt_eq_flushed 3
    (fun t t' _ _ hne => absurd ((eq_tl t).trans (eq_tl t').symm) hne) cfg0.N tl tl.isLt (flush0_3 tl)) (ix2 r k)
  rw [View.read_apply] at e
  have hi : (((cfg0.win 3).blk tl).view.emb (ix2 r k) : S1x1.Idx) = ix2 r k := by
    have e3 := idxT tl
    funext a; apply Fin.ext
    match a with
    | ⟨0, _⟩ => show win0_3.index tl 0 * 1 + 1 * r.val = r.val; rw [e3]; show 0 * 1 + 1 * r.val = _; omega
    | ⟨1, _⟩ => show win0_3.index tl 1 * 1 + 1 * k.val = k.val; rw [e3]; show 0 * 1 + 1 * k.val = _; omega
  refine (congrArg (tsArr m c) hi.symm).trans (e.trans ?_)
  show (cfg0.win 3).cut (grid0.coords tl) ((dats m 0 c).after 3 tl) (ix2 r k) = _
  rw [after0_3, blk0, blk1, out_ts]
  have hp := ts_pay (A1 m c) (ix2 r k)
  generalize k0_pay3 (F := Ideal) (A1 m c) = f at hp ⊢
  exact hp

/-- The arrays of the call are distinct. -/
theorem arr_inj : Function.Injective (Pipeline.arrRef spec0) := by decide

/-- The second result, as the line after the call leaves it: the one entry. -/
theorem res_ts (c : Dev nD) : (Pipeline.afterTail₀ cfgs (dats m) 0 (V0 m) [hostOps1] c main_v1 : S_.Idx → EReal)
    = shapeCast S_ (tsArr m c) shapeCasts_S1x1_S_ := by
  unfold Pipeline.afterTail₀
  show StableHlo.after hostOps1 _ _ = _
  unfold hostOps1
  after_results
  exact congrArg (fun X : S1x1.Idx → EReal => shapeCast S_ X shapeCasts_S1x1_S_)
    (Pipeline.withArrays_arr spec0 arr_inj c (V0 m c) (fun w => (dats m 0 c).arrAt w cfg0.N) 3)

theorem ts_value (c : Dev nD) : (Pipeline.afterTail₀ cfgs (dats m) 0 (V0 m) [hostOps1] c main_v1 : S_.Idx → EReal)
    = fun _ => tensorScale (top (A1 m c)) := by
  rw [res_ts]
  funext i
  refine (shapeCast_apply _ shapeCasts_S1x1_S_ _ (ix2 0 0) ?_).trans (ts_apply m c 0 0)
  rw [Shape.rowMajor_val_two]
  exact (Nat.lt_one_iff.mp (lt_of_lt_of_eq (Shape.rowMajor S_ i).isLt (by decide))).symm

/-- The run, with the two results named and the argument as it was. -/
theorem run_results (ρ : Dev nD → PrngReg) : θ_run defs (onTc (τ := τ) (main (F := Ideal))) ⟨m, fun _ => 0, ρ⟩ fun r => ∀ c : Dev nD,
      r.2.mem ((c : Thread nD τ).loc main_v0_0) = bsArr m c
      ∧ r.2.mem ((c : Thread nD τ).loc main_v1) = Pipeline.afterTail₀ cfgs (dats m) 0 (V0 m) [hostOps1] c main_v1
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 : Pipeline.FramePost cfgs (dats m) 0 _ r) c).1 2,
      (h.1 c).2 main_v1 (Pipeline.mem_restRefs_of main_v1 (by decide) (by decide)), h.2 c⟩)
    (θ_run_and (run_main m ρ) (unchanged m ρ))

end Cert.ReferenceScalesRIdeal.Hand

end
-- ==== Proof.ScalesR.lean ====
/- The scales of an array of block maxima, 128 rows of 20480: the tensor scale, which is the largest entry of the eight rows of partial maxima over 2688,
   or one where that is zero; and the block scales, which are each maximum times a constant over the tensor scale, kept between
   zero and 448. The kernel takes 128 rows at a time and finds the tensor scale anew at each; the reference takes all rows at
   once. The kernel multiplies by the reciprocal of 2688, which is read as the exact rational number. The theorems `value_bs` and
   `value_ts` say that the results are the reference's. -/
module

public import proofs.«01_k».proof.Proof.Gen.KernelScalesRIdeal.Frame
public import proofs.«01_k».proof.Proof.ScalesRReference
public import proofs.«01_k».proof.Proof.Common
public import Idealize.ShloMosaic.Lib.Pointwise.Reduce
public import Idealize.ShloMosaic.Lib.IdealHost
public import Idealize.ShloMosaic.Lib.KernelVsHost
public import Idealize.ShloMosaic.Lib.Tactic.ValueTie

@[expose] public section

set_option maxRecDepth 65536

noncomputable section

namespace Cert.KernelScalesRIdeal.Hand

open Cert.KernelScalesRIdeal Cert.KernelScalesRIdeal.Gen
open Idealize.ShloMosaic hiding ix1 ix2 ix3 eq_ix1 eq_ix2 eq_ix3
open Idealize.ShloMosaic.TcCoe Idealize.ShloMosaic.ValueIdx
open Idealize.ShloMosaic.Tactic Cert.Common
open Idealize.SL.Sem

variable (m : (ℓ : Loc nD τ sig) → Buf (Elt Ideal) ℓ)

/-- The arguments as arrays: the block maxima, and the partial maxima. -/
abbrev A0 (c : Dev nD) : S128x20480.Idx → EReal := m ((c : Thread nD τ).loc main_arg0)
abbrev A1 (c : Dev nD) : S8x128.Idx → EReal := m ((c : Thread nD τ).loc main_arg1)

/-- The kernel's constant is the rational number 1/2688. -/
theorem inv_divisor : Named.named (F := Ideal) κ "inv_divisor" (φ := .f32) 0x39C30C31#32 = ((1 / 2688 : ℝ) : EReal) :=
  IdealRules.named_const.ideal_named_scalar _ _ _ _ rfl

/-- The kernel's tensor scale is the reference's: the largest entry times 1/2688 is the largest entry over 2688. -/
theorem pay1_top (x : S8x128.Idx → EReal) : k0_pay1 (F := Ideal) x = tensorScale (Cert.ReferenceScalesRIdeal.Hand.top x) := by
  unfold k0_pay1 Cert.ReferenceScalesRIdeal.Hand.top tensorScale
  dsimp only
  generalize extractAt _ _ _ = t
  rw [Ideal.scalar_mulf_def, Ideal.scalar_cmpf_def, inv_divisor]
  refine Eq.trans ?_ (congrArg (fun b : EReal => Scalar.select _ _ b) (over_2688 t))
  exact rfl

theorem bs_pay (x : S8x128.Idx → EReal) (y : S128x20480.Idx → EReal) (i : S128x20480.Idx) :
    k0_pay2 (F := Ideal) x y i = blockScale (y i) (tensorScale (Cert.ReferenceScalesRIdeal.Hand.top x)) := by
  rw [← pay1_top]
  unfold k0_pay2
  generalize k0_pay1 (F := Ideal) x = t
  exact blockScale_at y t _ i

theorem out_bs (y : S128x20480.Idx → EReal) (x : S8x128.Idx → EReal) : out0_2 (F := Ideal) y x = k0_pay2 (F := Ideal) x y := by
  unfold out0_2
  rw [View.canon_unit_zero hz2]
  simp only [View.ld_unit_zero (S := S128x20480) hz2, View.ld_unit_zero (S := S8x128) hz2]

theorem ts_pay (x : S8x128.Idx → EReal) (i : S8x128.Idx) : k0_pay4 (F := Ideal) x i = tensorScale (Cert.ReferenceScalesRIdeal.Hand.top x) := by
  refine Eq.trans ?_ (pay1_top x)
  unfold k0_pay4
  generalize k0_pay1 (F := Ideal) x = t
  exact broadcast_at t i

theorem out_ts (y : S128x20480.Idx → EReal) (x : S8x128.Idx → EReal) : out0_4 (F := Ideal) y x = k0_pay4 (F := Ideal) x := by
  unfold out0_4
  rw [View.canon_unit_zero hz2]
  simp only [View.ld_unit_zero (S := S8x128) hz2]

/-! ## The blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx4 : ∀ t : Fin cfg0.N, win0_4.index t = ![0, 0] := (by decide +kernel : ∀ t : Fin grid0.N, _)
theorem idx_inj2 : ∀ t t' : Fin cfg0.N, win0_2.index t = win0_2.index t' → t = t' :=
  (by decide +kernel : ∀ t t' : Fin grid0.N, win0_2.index t = win0_2.index t' → t = t')

/-- The block of the maxima at point t is the t-th stretch of 128 rows. -/
theorem blk0 (c : Dev nD) (t : Fin cfg0.N) (r : Fin 128) (k : Fin 20480) (R : Fin 128) (hR : R.val = t.val * 128 + r.val) :
    iblk m c 0 t (ix2 r k) = A0 m c (ix2 R k) := by
  unfold iblk
  rw [View.read_apply]
  show V m c main_arg0 _ = _
  rw [V_main_arg0]
  have e := idx0 t
  congr 1; funext a; apply Fin.ext
  match a with
  | ⟨0, _⟩ => show win0_0.index t 0 * 128 + 1 * r.val = R.val; rw [e]; show t.val * 128 + 1 * r.val = _; omega
  | ⟨1, _⟩ => show win0_0.index t 1 * 20480 + 1 * k.val = k.val; rw [e]; show 0 * 20480 + 1 * k.val = _; omega

/-- What the largest entry is taken of is, at every point, the whole array. -/
theorem blk1 (c : Dev nD) (t : Fin cfg0.N) : iblk m c 1 t = A1 m c := by
  funext i
  obtain ⟨r, k, rfl⟩ : ∃ (r : Fin 8) (k : Fin 128), i = ix2 r k := ⟨i 0, i 1, eq_ix2 i⟩
  unfold iblk
  rw [View.read_apply]
  show V m c main_arg1 _ = _
  rw [V_main_arg1]
  have e := idx1 t
  congr 1; funext a; apply Fin.ext
  match a with
  | ⟨0, _⟩ => show win0_1.index t 0 * 8 + 1 * r.val = r.val; rw [e]; show 0 * 8 + 1 * r.val = _; omega
  | ⟨1, _⟩ => show win0_1.index t 1 * 128 + 1 * k.val = k.val; rw [e]; show 0 * 128 + 1 * k.val = _; omega

/-- Every row is row r of the block of some point. -/
theorem row_point (R : Fin 128) : ∃ (t : Fin cfg0.N) (r : Fin 128), R.val = t.val * 128 + r.val := by
  have hR := R.isLt
  refine ⟨⟨R.val / 128, by rw [show cfg0.N = 1 from N_0]; omega⟩, ⟨R.val % 128, Nat.mod_lt _ (by decide)⟩, ?_⟩
  show R.val = R.val / 128 * 128 + R.val % 128
  omega

/-! ## The arrays -/

/-- The array of block scales that the kernel leaves. -/
def bsArr (c : Dev nD) : S128x20480.Idx → EReal := (dats m 0 c).arrAt 2 cfg0.N

theorem bs_apply (c : Dev nD) (R : Fin 128) (k : Fin 20480) :
    bsArr m c (ix2 R k) = blockScale (A0 m c (ix2 R k)) (tensorScale (Cert.ReferenceScalesRIdeal.Hand.top (A1 m c))) := by
  obtain ⟨t, r, hR⟩ := row_point R
  have e := congrFun ((dats m 0 c).read_blk_arrAt_eq_flushed 2
    (fun t t' _ _ hne => (cfg0.win 2).disjoint_blk fun h => hne (idx_inj2 t t' h)) cfg0.N t t.isLt (flush0_2 t)) (ix2 r k)
  rw [View.read_apply] at e
  have hi : (((cfg0.win 2).blk t).view.emb (ix2 r k) : S128x20480.Idx) = ix2 R k := by
    have e3 := idx2 t
    funext a; apply Fin.ext
    match a with
    | ⟨0, _⟩ => show win0_2.index t 0 * 128 + 1 * r.val = R.val; rw [e3]; show t.val * 128 + 1 * r.val = _; omega
    | ⟨1, _⟩ => show win0_2.index t 1 * 20480 + 1 * k.val = k.val; rw [e3]; show 0 * 20480 + 1 * k.val = _; omega
  refine (congrArg (bsArr m c) hi.symm).trans (e.trans ?_)
  show (cfg0.win 2).cut (grid0.coords t) ((dats m 0 c).after 2 t) (ix2 r k) = _
  rw [after0_2, blk1, out_bs]
  have hp := bs_pay (A1 m c) (iblk m c 0 t) (ix2 r k)
  rw [blk0 m c t r k R hR] at hp
  generalize k0_pay2 (F := Ideal) (A1 m c) (iblk m c 0 t) = f at hp ⊢
  exact hp

/-- The last point. -/
def tl : Fin cfg0.N := ⟨0, by rw [show cfg0.N = 1 from N_0]; decide⟩

/-- The array that holds the tensor scale in every place. -/
def tsArr (c : Dev nD) : S8x128.Idx → EReal := (dats m 0 c).arrAt 4 cfg0.N

theorem ts_apply (c : Dev nD) (r : Fin 8) (k : Fin 128) : tsArr m c (ix2 r k) = tensorScale (Cert.ReferenceScalesRIdeal.Hand.top (A1 m c)) := by
  have hfl : ∀ t : Fin cfg0.N, (cfg0.win 4).flush t = true → t = tl := fun t h => by
    skip
    have ht : t.val < 1 := lt_of_lt_of_eq t.isLt (show cfg0.N = 1 from N_0)
    apply Fin.ext
    show t.val = 0
    omega
  have e := congrFun ((dats m 0 c).read_blk_arrAt_eq_flushed 4
    (fun t t' h h' hne => absurd ((hfl t h).trans (hfl t' h').symm) hne) cfg0.N tl tl.isLt (flush0_4 tl)) (ix2 r k)
  rw [View.read_apply] at e
  have hi : (((cfg0.win 4).blk tl).view.emb (ix2 r k) : S8x128.Idx) = ix2 r k := by
    have e3 := idx4 tl
    funext a; apply Fin.ext
    match a with
    | ⟨0, _⟩ => show win0_4.index tl 0 * 8 + 1 * r.val = r.val; rw [e3]; show 0 * 8 + 1 * r.val = _; omega
    | ⟨1, _⟩ => show win0_4.index tl 1 * 128 + 1 * k.val = k.val; rw [e3]; show 0 * 128 + 1 * k.val = _; omega
  refine (congrArg (tsArr m c) hi.symm).trans (e.trans ?_)
  show (cfg0.win 4).cut (grid0.coords tl) ((dats m 0 c).after 4 tl) (ix2 r k) = _
  rw [after0_4, blk1, out_ts]
  have hp := ts_pay (A1 m c) (ix2 r k)
  generalize k0_pay4 (F := Ideal) (A1 m c) = f at hp ⊢
  exact hp

/-! ## The lines after the call -/

/-- The arrays of the call are distinct. -/
theorem arr_inj : Function.Injective (Pipeline.arrRef spec0) := by decide

/-- The second result: the first entry of the array that holds the tensor scale. -/
theorem res_ts (c : Dev nD) : (Pipeline.afterTail₀ cfgs (dats m) 0 (V0 m) [hostOps1] c main_v2 : S_.Idx → EReal)
    = shapeCast S_ (extractStridedSlice S1x1 ![0, 0] (tsArr m c) slices_S8x128_S1x1_0_0) shapeCasts_S1x1_S_ := by
  unfold Pipeline.afterTail₀
  show StableHlo.after hostOps1 _ _ = _
  unfold hostOps1
  after_results
  exact congrArg (fun X : S8x128.Idx → EReal => shapeCast S_ (extractStridedSlice S1x1 ![0, 0] X slices_S8x128_S1x1_0_0) shapeCasts_S1x1_S_)
    (Pipeline.withArrays_arr spec0 arr_inj c (V0 m c) (fun w => (dats m 0 c).arrAt w cfg0.N) 4)

/-- The run, with the two results named and the argument as it was. -/
theorem run_results (ρ : Dev nD → PrngReg) : θ_run defs (onTc (τ := τ) (main (F := Ideal))) ⟨m, fun _ => 0, ρ⟩ fun r => ∀ c : Dev nD,
      r.2.mem ((c : Thread nD τ).loc main_v0_0) = bsArr m c
      ∧ r.2.mem ((c : Thread nD τ).loc main_v2) = Pipeline.afterTail₀ cfgs (dats m) 0 (V0 m) [hostOps1] c main_v2
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 : Pipeline.FramePost cfgs (dats m) 0 _ r) c).1 2,
      (h.1 c).2 main_v2 (Pipeline.mem_restRefs_of main_v2 (by decide) (by decide)), h.2 c⟩)
    (θ_run_and (run_main m ρ) (unchanged m ρ))

/-! ## The results are the reference's -/

variable (m' : (ℓ : Loc Cert.ReferenceScalesRIdeal.nD Cert.ReferenceScalesRIdeal.τ Cert.ReferenceScalesRIdeal.sig) → Buf (Elt Ideal) ℓ)

theorem value_bs (c : Dev nD) (h0 : Cert.ReferenceScalesRIdeal.Hand.A0 m' c = A0 m c) (h1 : Cert.ReferenceScalesRIdeal.Hand.A1 m' c = A1 m c) :
    Cert.ReferenceScalesRIdeal.Hand.bsArr m' c = bsArr m c := by
  funext i
  obtain ⟨r, k, rfl⟩ : ∃ (r : Fin 128) (k : Fin 20480), i = ix2 r k := ⟨i 0, i 1, eq_ix2 i⟩
  rw [bs_apply, Cert.ReferenceScalesRIdeal.Hand.bs_apply, h0, h1]

theorem value_ts (c : Dev nD) (h1 : Cert.ReferenceScalesRIdeal.Hand.A1 m' c = A1 m c) :
    (Pipeline.afterTail₀ Cert.ReferenceScalesRIdeal.cfgs (Cert.ReferenceScalesRIdeal.Gen.dats m') 0 (Cert.ReferenceScalesRIdeal.Gen.V0 m') [Cert.ReferenceScalesRIdeal.Gen.hostOps1] c Cert.ReferenceScalesRIdeal.main_v1 : S_.Idx → EReal)
      = Pipeline.afterTail₀ cfgs (dats m) 0 (V0 m) [hostOps1] c main_v2 := by
  refine (Cert.ReferenceScalesRIdeal.Hand.ts_value m' c).trans (Eq.symm ?_)
  rw [res_ts, h1]
  funext i
  refine (shapeCast_apply _ shapeCasts_S1x1_S_ _ (ix2 0 0) ?_).trans ?_
  · rw [Shape.rowMajor_val_two]
    exact (Nat.lt_one_iff.mp (lt_of_lt_of_eq (Shape.rowMajor S_ i).isLt (by decide))).symm
  · refine (extractStridedSlice_apply _ _ slices_S8x128_S1x1_0_0 _ (ix2 0 0) (fun a => ?_)).trans (ts_apply m c 0 0)
    match a with
    | ⟨0, _⟩ => rfl
    | ⟨1, _⟩ => rfl

end Cert.KernelScalesRIdeal.Hand

end
-- ==== Proof.WmaxCommon.lean ====
/- The maximum of the absolute values of each 16 by 16 block of a matrix, as the kernel's operations and as the host's take it:
   the largest of 16 rows at a time, an exchange of the axes, then the largest of 16 of the former columns. Both are read at
   one place as one nested maximum over the block. No program is mentioned here. -/
module

public import proofs.«01_k».proof.Proof.Common
public import Idealize.ShloMosaic.Lib.Pointwise.Reduce
public import Idealize.ShloMosaic.Lib.IdealHost
public import Idealize.ShloMosaic.Lib.ValueLayout
public import Idealize.ShloMosaic.Lib.KernelVsHost
public import Idealize.ShloMosaic.Lib.Pipeline.Value

@[expose] public section

noncomputable section

namespace Cert.Wmax

open Idealize.ShloMosaic hiding ix1 ix2 ix3 eq_ix1 eq_ix2 eq_ix3
open Idealize.ShloMosaic.ValueIdx

/-- The largest absolute value of a 16 by 16 block, where `g a b` is its entry in column a and row b; each maximum begins at
    the value of the word of minus infinity. -/
def tileMax (g : Fin 16 → Fin 16 → EReal) : EReal :=
  (Finset.univ : Finset (Fin 16)).fold max (FloatOps.ofBits (F := Ideal) .f32 0xFF800000#32) fun a =>
    (Finset.univ : Finset (Fin 16)).fold max (FloatOps.ofBits (F := Ideal) .f32 0xFF800000#32) fun b => max (g a b) (-(g a b))

/-- The index (a, c) with the coordinate k put back in the middle is (a, k, c). -/
theorem lift_mid {A B C : ℕ} (h : (⟨3, ![A, B, C]⟩ : Shape).Reduces [1] (⟨2, ![A, C]⟩ : Shape)) (a : Fin A) (c : Fin C) (k : Fin B) :
    h.lift (ix2 a c) k = ix3 a k c := by
  funext x; apply Fin.ext
  match x with
  | ⟨0, _⟩ => rfl
  | ⟨1, _⟩ => rfl
  | ⟨2, _⟩ => rfl

/-- The kernel's maximum over the middle axis, at one place. -/
theorem midMax {A C : ℕ} (x : FVec Ideal ⟨3, ![A, 16, C]⟩ .f32) (h : (⟨3, ![A, 16, C]⟩ : Shape).Reduces [1] (⟨2, ![A, C]⟩ : Shape))
    (hφ : FKind.Formats .f32) (hacc : (0xFF800000#32 : BitVec 32) = FKind.maximumf.neutral .f32 hφ) (a : Fin A) (c : Fin C) :
    multiReduction .maximumf [1] (⟨2, ![A, C]⟩ : Shape) x 0xFF800000#32 h hφ hacc (ix2 a c)
      = (Finset.univ : Finset (Fin 16)).fold max (FloatOps.ofBits (F := Ideal) .f32 0xFF800000#32) fun k => x (ix3 a k c) := by
  refine (Ideal.multiReduction_maximumf_single x _ h hφ hacc (ix2 a c)).trans ?_
  exact Finset.fold_congr fun k _ => congrArg x (lift_mid h a c k)

/-- Sixteen rows at a time: the matrix as a stack, at (p, b, c), is the matrix at row 16 p + b. -/
theorem split_at {R C P : ℕ} (x : (⟨2, ![R, C]⟩ : Shape).Idx → EReal) (h : (⟨2, ![R, C]⟩ : Shape).ShapeCasts ⟨3, ![P, 16, C]⟩)
    (p : Fin P) (b : Fin 16) (c : Fin C) (r : Fin R) (hr : r.val = 16 * p.val + b.val) :
    shapeCast ⟨3, ![P, 16, C]⟩ x h (ix3 p b c) = x (ix2 r c) := by
  refine shapeCast_apply x h (ix3 p b c) (ix2 r c) ?_
  rw [Shape.rowMajor_val_two, Shape.rowMajor_val_three]
  show r.val * C + c.val = (p.val * 16 + b.val) * C + c.val
  rw [hr, Nat.mul_comm 16]

/-- The kernel's operations on a matrix v, at (q, p): the largest absolute value of the block in rows 16 p to 16 p + 15 and
    columns 16 q to 16 q + 15. -/
theorem kernel_at {R C P Q : ℕ} (v : FVec Ideal ⟨2, ![R, C]⟩ .f32) (hR : R = 16 * P) (hC : C = 16 * Q)
    (hs1 : (⟨2, ![R, C]⟩ : Shape).ShapeCasts ⟨3, ![P, 16, C]⟩)
    (hr1 : (⟨3, ![P, 16, C]⟩ : Shape).Reduces [1] (⟨2, ![P, C]⟩ : Shape))
    (ht : (⟨2, ![P, C]⟩ : Shape).Transposes [1, 0] ⟨2, ![C, P]⟩)
    (hs2 : (⟨2, ![C, P]⟩ : Shape).ShapeCasts ⟨3, ![Q, 16, P]⟩)
    (hr2 : (⟨3, ![Q, 16, P]⟩ : Shape).Reduces [1] (⟨2, ![Q, P]⟩ : Shape))
    (hφ : FKind.Formats .f32) (hacc : (0xFF800000#32 : BitVec 32) = FKind.maximumf.neutral .f32 hφ)
    (g : Fin 16 → Fin 16 → EReal) (q : Fin Q) (p : Fin P)
    (hg : ∀ (a b : Fin 16) (r : Fin R) (c : Fin C), r.val = 16 * p.val + b.val → c.val = 16 * q.val + a.val → v (ix2 r c) = g a b) :
    multiReduction .maximumf [1] (⟨2, ![Q, P]⟩ : Shape) (shapeCast ⟨3, ![Q, 16, P]⟩ (transpose ⟨2, ![C, P]⟩ [1, 0]
      (multiReduction .maximumf [1] (⟨2, ![P, C]⟩ : Shape) (shapeCast ⟨3, ![P, 16, C]⟩ (absf v) hs1) 0xFF800000#32 hr1 hφ hacc) ht) hs2)
      0xFF800000#32 hr2 hφ hacc (ix2 q p) = tileMax g := by
  rw [midMax]
  refine Finset.fold_congr fun a _ => ?_
  have hq := q.isLt
  have hp := p.isLt
  have ha := a.isLt
  obtain ⟨c, hc⟩ : ∃ c : Fin C, c.val = 16 * q.val + a.val := ⟨⟨16 * q.val + a.val, by omega⟩, rfl⟩
  rw [split_at _ hs2 q a p c hc, transpose_ix2_apply, midMax]
  refine Finset.fold_congr fun b _ => ?_
  have hb := b.isLt
  obtain ⟨r, hr⟩ : ∃ r : Fin R, r.val = 16 * p.val + b.val := ⟨⟨16 * p.val + b.val, by omega⟩, rfl⟩
  rw [split_at _ hs1 p b c r hr]
  show max (v (ix2 r c)) (-(v (ix2 r c))) = _
  rw [hg a b r c hr hc]

/-- The host's operations on a matrix are the kernel's, so they are read in the same way. -/
theorem host_at {R C P Q : ℕ} (v : FVec Ideal ⟨2, ![R, C]⟩ .f32) (hR : R = 16 * P) (hC : C = 16 * Q)
    (hs1 : (⟨2, ![R, C]⟩ : Shape).ShapeCasts ⟨3, ![P, 16, C]⟩)
    (hr1' : (⟨3, ![P, 16, C]⟩ : Shape).ReducesTo [1] (⟨2, ![P, C]⟩ : Shape))
    (hr1 : (⟨3, ![P, 16, C]⟩ : Shape).Reduces [1] (⟨2, ![P, C]⟩ : Shape))
    (ht : (⟨2, ![P, C]⟩ : Shape).Transposes [1, 0] ⟨2, ![C, P]⟩)
    (hs2 : (⟨2, ![C, P]⟩ : Shape).ShapeCasts ⟨3, ![Q, 16, P]⟩)
    (hr2' : (⟨3, ![Q, 16, P]⟩ : Shape).ReducesTo [1] (⟨2, ![Q, P]⟩ : Shape))
    (hr2 : (⟨3, ![Q, 16, P]⟩ : Shape).Reduces [1] (⟨2, ![Q, P]⟩ : Shape))
    (hu hu' : 0 < (⟨0, ![]⟩ : Shape).numel)
    (g : Fin 16 → Fin 16 → EReal) (q : Fin Q) (p : Fin P)
    (hg : ∀ (a b : Fin 16) (r : Fin R) (c : Fin C), r.val = 16 * p.val + b.val → c.val = 16 * q.val + a.val → v (ix2 r c) = g a b) :
    Host.reduce FloatOps.maximumf (shapeCast ⟨3, ![Q, 16, P]⟩ (transpose ⟨2, ![C, P]⟩ [1, 0]
      (Host.reduce FloatOps.maximumf (Host.absf (shapeCast ⟨3, ![P, 16, C]⟩ v hs1) : FVec Ideal ⟨3, ![P, 16, C]⟩ .f32)
        (constant (⟨0, ![]⟩ : Shape) .f32 0xFF800000#32) hr1' hu : FVec Ideal ⟨2, ![P, C]⟩ .f32) ht) hs2 : FVec Ideal ⟨3, ![Q, 16, P]⟩ .f32)
      (constant (⟨0, ![]⟩ : Shape) .f32 0xFF800000#32) hr2' hu' (ix2 q p) = tileMax g := by
  rw [hostReduce_maximumf_eq_multiReduction _ 0xFF800000#32 hr2' hu' hr2 (.inl rfl) rfl,
    hostReduce_maximumf_eq_multiReduction _ 0xFF800000#32 hr1' hu hr1 (.inl rfl) rfl]
  exact kernel_at v hR hC hs1 hr1 ht hs2 hr2 (.inl rfl) rfl g q p hg

end Cert.Wmax

end
-- ==== Proof.Wmax1.lean ====
/- The maxima of the 16 by 16 blocks of w1, as the kernel takes them: a grid of 2048 by 256 tiles, each tile taken in two
   halves of 128 columns, the block maxima of each half written as 8 rows. The theorem `value` says that the array left is the
   reference's, which takes the maxima of the whole matrix at once. -/
module

public import proofs.«01_k».proof.Proof.Gen.KernelWmax1Ideal.Frame
public import proofs.«01_k».proof.Proof.Gen.ReferenceWmax1Ideal.Run
public import proofs.«01_k».proof.Proof.WmaxCommon
public import Idealize.ShloMosaic.Lib.Tactic.ValueTie

@[expose] public section

set_option maxRecDepth 65536

noncomputable section

namespace Cert.KernelWmax1Ideal.Hand

open Cert.KernelWmax1Ideal Cert.KernelWmax1Ideal.Gen
open Idealize.ShloMosaic hiding ix1 ix2 ix3 eq_ix1 eq_ix2 eq_ix3
open Idealize.ShloMosaic.TcCoe Idealize.ShloMosaic.ValueIdx
open Idealize.ShloMosaic.Tactic Cert.Common Cert.Wmax
open Idealize.SL.Sem

variable (m : (ℓ : Loc nD τ sig) → Buf (Elt Ideal) ℓ)

/-- The argument as an array: the matrix. -/
abbrev A0 (c : Dev nD) : S20480x5120.Idx → EReal := m ((c : Thread nD τ).loc main_arg0)

/-! ## What a point writes -/

/-- The block maximum of a tile at row q and column p of the block written. -/
def elt (x0 : S2048x256.Idx → EReal) (q : Fin 16) (p : Fin 128) : EReal :=
  tileMax fun a b => x0 (ix2 (⟨16 * p.val + b.val, by omega⟩ : Fin 2048) (⟨16 * q.val + a.val, by omega⟩ : Fin 256))

/-- The first half of a tile. -/
theorem pay1_apply (x0 : Vec Ideal S2048x256 .f32) (q : Fin 8) (p : Fin 128) (q' : Fin 16) (hq : q'.val = q.val) :
    k0_pay1 (F := Ideal) (View.ld x0 r0_0) (ix2 q p) = elt x0 q' p := by
  unfold k0_pay1 elt
  refine kernel_at (R := 2048) (C := 128) (P := 128) (Q := 8) (View.ld x0 r0_0) rfl rfl _ _ _ _ _ _ _ _ q p (fun a b r c hr hc => ?_)
  refine congrArg x0 (funext fun y => Fin.ext ?_)
  match y with
  | ⟨0, _⟩ => show 0 + 1 * r.val = 16 * p.val + b.val; omega
  | ⟨1, _⟩ => show 0 + 1 * c.val = 16 * q'.val + a.val; omega

/-- The second half of a tile. -/
theorem pay2_apply (x0 : Vec Ideal S2048x256 .f32) (q : Fin 8) (p : Fin 128) (q' : Fin 16) (hq : q'.val = 8 + q.val) :
    k0_pay2 (F := Ideal) (View.ld x0 r0_2) (ix2 q p) = elt x0 q' p := by
  unfold k0_pay2 elt
  refine kernel_at (R := 2048) (C := 128) (P := 128) (Q := 8) (View.ld x0 r0_2) rfl rfl _ _ _ _ _ _ _ _ q p (fun a b r c hr hc => ?_)
  refine congrArg x0 (funext fun y => Fin.ext ?_)
  match y with
  | ⟨0, _⟩ => show 0 + 1 * r.val = 16 * p.val + b.val; omega
  | ⟨1, _⟩ => show 128 + 1 * c.val = 16 * q'.val + a.val; omega

/-- Both halves together: the block written holds at (q, p) the block maximum of the tile there. -/
theorem out_apply (x0 : Vec Ideal S2048x256 .f32) (q : Fin 16) (p : Fin 128) : out0_1 (F := Ideal) x0 (ix2 q p) = elt x0 q p := by
  unfold out0_1
  refine View.canon_apply_of_pieces (Val := Elt Ideal) (e := .f32) (fun y : S16x128.Idx => elt x0 (y 0) (y 1)) _ ?_ (ix2 q p) (cover0_1 _ _ _)
  intro pc hp x
  simp only [List.mem_cons, List.not_mem_nil, or_false] at hp
  rcases hp with rfl | rfl
  · obtain ⟨q, p, rfl⟩ : ∃ (q : Fin 8) (p : Fin 128), x = ix2 q p := ⟨x 0, x 1, eq_ix2 x⟩
    have e1 : p = r0_3.emb (ix2 q p) 1 := Fin.ext (show p.val = 0 + 1 * p.val by omega)
    refine (pay2_apply x0 q p (r0_3.emb (ix2 q p) 0) (show 8 + 1 * q.val = 8 + q.val by omega)).trans ?_
    exact congrArg (fun z : Fin 128 => elt x0 (r0_3.emb (ix2 q p) 0) z) e1
  · obtain ⟨q, p, rfl⟩ : ∃ (q : Fin 8) (p : Fin 128), x = ix2 q p := ⟨x 0, x 1, eq_ix2 x⟩
    have e1 : p = r0_1.emb (ix2 q p) 1 := Fin.ext (show p.val = 0 + 1 * p.val by omega)
    refine (pay1_apply x0 q p (r0_1.emb (ix2 q p) 0) (show 0 + 1 * q.val = q.val by omega)).trans ?_
    exact congrArg (fun z : Fin 128 => elt x0 (r0_1.emb (ix2 q p) 0) z) e1

/-! ## The tiles -/

theorem idx0 : ∀ t : Fin cfg0.N, win0_0.index t = ![t.val / 20, t.val % 20] := (by decide +kernel : ∀ t : Fin grid0.N, _)
theorem idx1 : ∀ t : Fin cfg0.N, win0_1.index t = ![t.val % 20, t.val / 20] := (by decide +kernel : ∀ t : Fin grid0.N, _)

/-- Two points with the same block of the result are the same point. -/
theorem idx_inj1 (t t' : Fin cfg0.N) (h : win0_1.index t = win0_1.index t') : t = t' := by
  rw [idx1, idx1] at h
  have h0 : t.val % 20 = t'.val % 20 := congrFun h 0
  have h1 : t.val / 20 = t'.val / 20 := congrFun h 1
  apply Fin.ext
  omega

/-- The tile at point t. -/
theorem blk0 (c : Dev nD) (t : Fin cfg0.N) (r : Fin 2048) (k : Fin 256) (R : Fin 20480) (K : Fin 5120)
    (hR : R.val = t.val / 20 * 2048 + r.val) (hK : K.val = t.val % 20 * 256 + k.val) :
    iblk m c 0 t (ix2 r k) = A0 m c (ix2 R K) := by
  unfold iblk
  rw [View.read_apply]
  show V m c main_arg0 _ = _
  rw [V_main_arg0]
  have e := idx0 t
  congr 1; funext a; apply Fin.ext
  match a with
  | ⟨0, _⟩ => show win0_0.index t 0 * 2048 + 1 * r.val = R.val; rw [e]; show t.val / 20 * 2048 + 1 * r.val = _; omega
  | ⟨1, _⟩ => show win0_0.index t 1 * 256 + 1 * k.val = K.val; rw [e]; show t.val % 20 * 256 + 1 * k.val = _; omega

/-! ## The array -/

/-- The array of block maxima that the kernel leaves. -/
def arr (c : Dev nD) : S320x1280.Idx → EReal := (dats m 0 c).arrAt 1 cfg0.N

/-- At (Q, P) it holds the largest absolute value of the block in rows 16 P on and columns 16 Q on. -/
theorem arr_apply (c : Dev nD) (Q : Fin 320) (P : Fin 1280) :
    arr m c (ix2 Q P) = tileMax fun a b =>
      A0 m c (ix2 (⟨16 * P.val + b.val, by omega⟩ : Fin 20480) (⟨16 * Q.val + a.val, by omega⟩ : Fin 5120)) := by
  have hQ := Q.isLt
  have hP := P.isLt
  obtain ⟨t, ht⟩ : ∃ t : Fin cfg0.N, t.val = 20 * (P.val / 128) + Q.val / 16 :=
    ⟨⟨20 * (P.val / 128) + Q.val / 16, by rw [show cfg0.N = 200 from N_0]; omega⟩, rfl⟩
  obtain ⟨q, hq⟩ : ∃ q : Fin 16, q.val = Q.val % 16 := ⟨⟨Q.val % 16, Nat.mod_lt _ (by decide)⟩, rfl⟩
  obtain ⟨p, hp⟩ : ∃ p : Fin 128, p.val = P.val % 128 := ⟨⟨P.val % 128, Nat.mod_lt _ (by decide)⟩, rfl⟩
  have e := congrFun ((dats m 0 c).read_blk_arrAt_eq_flushed 1
    (fun t t' _ _ hne => (cfg0.win 1).disjoint_blk fun h => hne (idx_inj1 t t' h)) cfg0.N t t.isLt (flush0_1 t)) (ix2 q p)
  rw [View.read_apply] at e
  have hi : (((cfg0.win 1).blk t).view.emb (ix2 q p) : S320x1280.Idx) = ix2 Q P := by
    have e3 := idx1 t
    funext a; apply Fin.ext
    match a with
    | ⟨0, _⟩ => show win0_1.index t 0 * 16 + 1 * q.val = Q.val; rw [e3]; show t.val % 20 * 16 + 1 * q.val = _; omega
    | ⟨1, _⟩ => show win0_1.index t 1 * 128 + 1 * p.val = P.val; rw [e3]; show t.val / 20 * 128 + 1 * p.val = _; omega
  refine (congrArg (arr m c) hi.symm).trans (e.trans ?_)
  show (cfg0.win 1).cut (grid0.coords t) ((dats m 0 c).after 1 t) (ix2 q p) = _
  rw [after0_1]
  have ho := out_apply (iblk m c 0 t) q p
  generalize out0_1 (F := Ideal) (iblk m c 0 t) = f at ho ⊢
  refine Eq.trans ho ?_
  unfold elt
  refine congrArg tileMax (funext fun a => funext fun b => blk0 m c t _ _ _ _ ?_ ?_)
  · show 16 * P.val + b.val = t.val / 20 * 2048 + (16 * p.val + b.val); omega
  · show 16 * Q.val + a.val = t.val % 20 * 256 + (16 * q.val + a.val); omega

/-- The run, with the result named and the argument as it was. -/
theorem run_result (ρ : Dev nD → PrngReg) : θ_run defs (onTc (τ := τ) (main (F := Ideal))) ⟨m, fun _ => 0, ρ⟩ fun r => ∀ c : Dev nD,
      r.2.mem ((c : Thread nD τ).loc main_v0) = arr m c
      ∧ r.2.mem ((c : Thread nD τ).loc main_arg0) = m ((c : Thread nD τ).loc main_arg0) :=
  (θ_run defs _ _).mono (fun r h c => ⟨((h.1 : Pipeline.FramePost cfgs (dats m) 0 _ r) c).1 1, h.2 c⟩)
    (θ_run_and (run_main m ρ) (unchanged m ρ))

/-! ## The result is the reference's -/

theorem reduces_rows : (⟨3, ![1280, 16, 5120]⟩ : Shape).Reduces [1] (⟨2, ![1280, 5120]⟩ : Shape) := by decide
theorem reduces_cols : (⟨3, ![320, 16, 1280]⟩ : Shape).Reduces [1] (⟨2, ![320, 1280]⟩ : Shape) := by decide

open Cert.ReferenceWmax1Ideal.Gen in
/-- The reference's term over the same matrix is the array the kernel leaves. -/
theorem value (c : Dev nD) :
    (Host.reduce (FloatOps.maximumf (F := Ideal) (φ := .f32)) (shapeCast Cert.ReferenceWmax1Ideal.S320x16x1280 (transpose Cert.ReferenceWmax1Ideal.S5120x1280 [1, 0]
      (Host.reduce (FloatOps.maximumf (F := Ideal) (φ := .f32)) (Host.absf (shapeCast Cert.ReferenceWmax1Ideal.S1280x16x5120 (A0 m c) shapeCasts_S20480x5120_S1280x16x5120) : FVec Ideal Cert.ReferenceWmax1Ideal.S1280x16x5120 .f32)
        (constant (F := Ideal) Cert.ReferenceWmax1Ideal.S_ .f32 0xFF800000#32) reducesTo_S1280x16x5120_S1280x5120_d1 h_S_ : FVec Ideal Cert.ReferenceWmax1Ideal.S1280x5120 .f32)
        transposes_S1280x5120_S5120x1280_1_0) shapeCasts_S5120x1280_S320x16x1280 : FVec Ideal Cert.ReferenceWmax1Ideal.S320x16x1280 .f32)
      (constant (F := Ideal) Cert.ReferenceWmax1Ideal.S_ .f32 0xFF800000#32) reducesTo_S320x16x1280_S320x1280_d1 h_S_ : S320x1280.Idx → EReal) = arr m c := by
  funext i
  obtain ⟨Q, P, rfl⟩ : ∃ (Q : Fin 320) (P : Fin 1280), i = ix2 Q P := ⟨i 0, i 1, eq_ix2 i⟩
  rw [arr_apply]
  refine host_at (R := 20480) (C := 5120) (P := 1280) (Q := 320) (A0 m c) rfl rfl _ _ reduces_rows _ _ _ reduces_cols _ _ _ Q P (fun a b r k hr hk => ?_)
  refine congrArg (A0 m c) ?_
  rw [show r = (⟨16 * P.val + b.val, by omega⟩ : Fin 20480) from Fin.ext hr, show k = (⟨16 * Q.val + a.val, by omega⟩ : Fin 5120) from Fin.ext hk]

end Cert.KernelWmax1Ideal.Hand

end
-- ==== Proof.Wmax2.lean ====
/- The maxima of the 16 by 16 blocks of w2, as the kernel takes them: a grid of 5120 by 256 tiles, each tile taken in two
   halves of 128 columns, the block maxima of each half written as 8 rows. The theorem `value` says that the array left is the
   reference's, which takes the maxima of the whole matrix at once. -/
module

public import proofs.«01_k».proof.Proof.Gen.KernelWmax2Ideal.Frame
public import proofs.«01_k».proof.Proof.Gen.ReferenceWmax2Ideal.Run
public import proofs.«01_k».proof.Proof.WmaxCommon
public import Idealize.ShloMosaic.Lib.Tactic.ValueTie

@[expose] public section

set_option maxRecDepth 65536

noncomputable section

namespace Cert.KernelWmax2Ideal.Hand

open Cert.KernelWmax2Ideal Cert.KernelWmax2Ideal.Gen
open Idealize.ShloMosaic hiding ix1 ix2 ix3 eq_ix1 eq_ix2 eq_ix3
open Idealize.ShloMosaic.TcCoe Idealize.ShloMosaic.ValueIdx
open Idealize.ShloMosaic.Tactic Cert.Common Cert.Wmax
open Idealize.SL.Sem

variable (m : (ℓ : Loc nD τ sig) → Buf (Elt Ideal) ℓ)

/-- The argument as an array: the matrix. -/
abbrev A0 (c : Dev nD) : S5120x20480.Idx → EReal := m ((c : Thread nD τ).loc main_arg0)

/-! ## What a point writes -/

/-- The block maximum of a tile at row q and column p of the block written. -/
def elt (x0 : S5120x256.Idx → EReal) (q : Fin 16) (p : Fin 320) : EReal :=
  tileMax fun a b => x0 (ix2 (⟨16 * p.val + b.val, by omega⟩ : Fin 5120) (⟨16 * q.val + a.val, by omega⟩ : Fin 256))

/-- The first half of a tile. -/
theorem pay1_apply (x0 : Vec Ideal S5120x256 .f32) (q : Fin 8) (p : Fin 320) (q' : Fin 16) (hq : q'.val = q.val) :
    k0_pay1 (F := Ideal) (View.ld x0 r0_0) (ix2 q p) = elt x0 q' p := by
  unfold k0_pay1 elt
  refine kernel_at (R := 5120) (C := 128) (P := 320) (Q := 8) (View.ld x0 r0_0) rfl rfl _ _ _ _ _ _ _ _ q p (fun a b r c hr hc => ?_)
  refine congrArg x0 (funext fun y => Fin.ext ?_)
  match y with
  | ⟨0, _⟩ => show 0 + 1 * r.val = 16 * p.val + b.val; omega
  | ⟨1, _⟩ => show 0 + 1 * c.val = 16 * q'.val + a.val; omega

/-- The second half of a tile. -/
theorem pay2_apply (x0 : Vec Ideal S5120x256 .f32) (q : Fin 8) (p : Fin 320) (q' : Fin 16) (hq : q'.val = 8 + q.val) :
    k0_pay2 (F := Ideal) (View.ld x0 r0_2) (ix2 q p) = elt x0 q' p := by
  unfold k0_pay2 elt
  refine kernel_at (R := 5120) (C := 128) (P := 320) (Q := 8) (View.ld x0 r0_2) rfl rfl _ _ _ _ _ _ _ _ q p (fun a b r c hr hc => ?_)
  refine congrArg x0 (funext fun y => Fin.ext ?_)
  match y with
  | ⟨0, _⟩ => show 0 + 1 * r.val = 16 * p.val + b.val; omega
  | ⟨1, _⟩ => show 128 + 1 * c.val = 16 * q'.val + a.val; omega

/-- Both halves together: the block written holds at (q, p) the block maximum of the tile there. -/
theorem out_apply (x0 : Vec Ideal S5120x256 .f32) (q : Fin 16) (p : Fin 320) : out0_1 (F := Ideal) x0 (ix2 q p) = elt x0 q p := by
  unfold out0_1
  refine View.canon_apply_of_pieces (Val := Elt Ideal) (e := .f32) (fun y : S16x320.Idx => elt x0 (y 0) (y 1)) _ ?_ (ix2 q p) (cover0_1 _ _ _)
  intro pc hp x
  simp only [List.mem_cons, List.not_mem_nil, or_false] at hp
  rcases hp with rfl | rfl
  · obtain ⟨q, p, rfl⟩ : ∃ (q : Fin 8) (p : Fin 320), x = ix2 q p := ⟨x 0, x 1, eq_ix2 x⟩
    have e1 : p = r0_3.emb (ix2 q p) 1 := Fin.ext (show p.val = 0 + 1 * p.val by omega)
    refine (pay2_apply x0 q p (r0_3.emb (ix2 q p) 0) (show 8 + 1 * q.val = 8 + q.val by omega)).trans ?_
    exact congrArg (fun z : Fin 320 => elt x0 (r0_3.emb (ix2 q p) 0) z) e1
  · obtain ⟨q, p, rfl⟩ : ∃ (q : Fin 8) (p : Fin 320), x = ix2 q p := ⟨x 0, x 1, eq_ix2 x⟩
    have e1 : p = r0_1.emb (ix2 q p) 1 := Fin.ext (show p.val = 0 + 1 * p.val by omega)
    refine (pay1_apply x0 q p (r0_1.emb (ix2 q p) 0) (show 0 + 1 * q.val = q.val by omega)).trans ?_
    exact congrArg (fun z : Fin 320 => elt x0 (r0_1.emb (ix2 q p) 0) z) e1

/-! ## The tiles -/

theorem idx0 : ∀ t : Fin cfg0.N, win0_0.index t = ![t.val / 80, t.val % 80] := (by decide +kernel : ∀ t : Fin grid0.N, _)
theorem idx1 : ∀ t : Fin cfg0.N, win0_1.index t = ![t.val % 80, t.val / 80] := (by decide +kernel : ∀ t : Fin grid0.N, _)

/-- Two points with the same block of the result are the same point. -/
theorem idx_inj1 (t t' : Fin cfg0.N) (h : win0_1.index t = win0_1.index t') : t = t' := by
  rw [idx1, idx1] at h
  have h0 : t.val % 80 = t'.val % 80 := congrFun h 0
  have h1 : t.val / 80 = t'.val / 80 := congrFun h 1
  apply Fin.ext
  omega

/-- The tile at point t. -/
theorem blk0 (c : Dev nD) (t : Fin cfg0.N) (r : Fin 5120) (k : Fin 256) (R : Fin 5120) (K : Fin 20480)
    (hR : R.val = t.val / 80 * 5120 + r.val) (hK : K.val = t.val % 80 * 256 + k.val) :
    iblk m c 0 t (ix2 r k) = A0 m c (ix2 R K) := by
  unfold iblk
  rw [View.read_apply]
  show V m c main_arg0 _ = _
  rw [V_main_arg0]
  have e := idx0 t
  congr 1; funext a; apply Fin.ext
  match a with
  | ⟨0, _⟩ => show win0_0.index t 0 * 5120 + 1 * r.val = R.val; rw [e]; show t.val / 80 * 5120 + 1 * r.val = _; omega
  | ⟨1, _⟩ => show win0_0.index t 1 * 256 + 1 * k.val = K.val; rw [e]; show t.val % 80 * 256 + 1 * k.val = _; omega

/-! ## The array -/

/-- The array of block maxima that the kernel leaves. -/
def arr (c : Dev nD) : S1280x320.Idx → EReal := (dats m 0 c).arrAt 1 cfg0.N

/-- At (Q, P) it holds the largest absolute value of the block in rows 16 P on and columns 16 Q on. -/
theorem arr_apply (c : Dev nD) (Q : Fin 1280) (P : Fin 320) :
    arr m c (ix2 Q P) = tileMax fun a b =>
      A0 m c (ix2 (⟨16 * P.val + b.val, by omega⟩ : Fin 5120) (⟨16 * Q.val + a.val, by omega⟩ : Fin 20480)) := by
  have hQ := Q.isLt
  have hP := P.isLt
  obtain ⟨t, ht⟩ : ∃ t : Fin cfg0.N, t.val = 80 * (P.val / 320) + Q.val / 16 :=
    ⟨⟨80 * (P.val / 320) + Q.val / 16, by rw [show cfg0.N = 80 from N_0]; omega⟩, rfl⟩
  obtain ⟨q, hq⟩ : ∃ q : Fin 16, q.val = Q.val % 16 := ⟨⟨Q.val % 16, Nat.mod_lt _ (by decide)⟩, rfl⟩
  obtain ⟨p, hp⟩ : ∃ p : Fin 320, p.val = P.val % 320 := ⟨⟨P.val % 320, Nat.mod_lt _ (by decide)⟩, rfl⟩
  have e := congrFun ((dats m 0 c).read_blk_arrAt_eq_flushed 1
    (fun t t' _ _ hne => (cfg0.win 1).disjoint_blk fun h => hne (idx_inj1 t t' h)) cfg0.N t t.isLt (flush0_1 t)) (ix2 q p)
  rw [View.read_apply] at e
  have hi : (((cfg0.win 1).blk t).view.emb (ix2 q p) : S1280x320.Idx) = ix2 Q P := by
    have e3 := idx1 t
    funext a; apply Fin.ext
    match a with
    | ⟨0, _⟩ => show win0_1.index t 0 * 16 + 1 * q.val = Q.val; rw [e3]; show t.val % 80 * 16 + 1 * q.val = _; omega
    | ⟨1, _⟩ => show win0_1.index t 1 * 320 + 1 * p.val = P.val; rw [e3]; show t.val / 80 * 320 + 1 * p.val = _; omega
  refine (congrArg (arr m c) hi.symm).trans (e.trans ?_)
  show (cfg0.win 1).cut (grid0.coords t) ((dats m 0 c).after 1 t) (ix2 q p) = _
  rw [after0_1]
  have ho := out_apply (iblk m c 0 t) q p
  generalize out0_1 (F := Ideal) (iblk m c 0 t) = f at ho ⊢
  refine Eq.trans ho ?_
  unfold elt
  refine congrArg tileMax (funext fun a => funext fun b => blk0 m c t _ _ _ _ ?_ ?_)
  · show 16 * P.val + b.val = t.val / 80 * 5120 + (16 * p.val + b.val); omega
  · show 16 * Q.val + a.val = t.val % 80 * 256 + (16 * q.val + a.val); omega

/-- The run, with the result named and the argument as it was. -/
theorem run_result (ρ : Dev nD → PrngReg) : θ_run defs (onTc (τ := τ) (main (F := Ideal))) ⟨m, fun _ => 0, ρ⟩ fun r => ∀ c : Dev nD,
      r.2.mem ((c : Thread nD τ).loc main_v0) = arr m c
      ∧ r.2.mem ((c : Thread nD τ).loc main_arg0) = m ((c : Thread nD τ).loc main_arg0) :=
  (θ_run defs _ _).mono (fun r h c => ⟨((h.1 : Pipeline.FramePost cfgs (dats m) 0 _ r) c).1 1, h.2 c⟩)
    (θ_run_and (run_main m ρ) (unchanged m ρ))

/-! ## The result is the reference's -/

theorem reduces_rows : (⟨3, ![320, 16, 20480]⟩ : Shape).Reduces [1] (⟨2, ![320, 20480]⟩ : Shape) := by decide
theorem reduces_cols : (⟨3, ![1280, 16, 320]⟩ : Shape).Reduces [1] (⟨2, ![1280, 320]⟩ : Shape) := by decide

open Cert.ReferenceWmax2Ideal.Gen in
/-- The reference's term over the same matrix is the array the kernel leaves. -/
theorem value (c : Dev nD) :
    (Host.reduce (FloatOps.maximumf (F := Ideal) (φ := .f32)) (shapeCast Cert.ReferenceWmax2Ideal.S1280x16x320 (transpose Cert.ReferenceWmax2Ideal.S20480x320 [1, 0]
      (Host.reduce (FloatOps.maximumf (F := Ideal) (φ := .f32)) (Host.absf (shapeCast Cert.ReferenceWmax2Ideal.S320x16x20480 (A0 m c) shapeCasts_S5120x20480_S320x16x20480) : FVec Ideal Cert.ReferenceWmax2Ideal.S320x16x20480 .f32)
        (constant (F := Ideal) Cert.ReferenceWmax2Ideal.S_ .f32 0xFF800000#32) reducesTo_S320x16x20480_S320x20480_d1 h_S_ : FVec Ideal Cert.ReferenceWmax2Ideal.S320x20480 .f32)
        transposes_S320x20480_S20480x320_1_0) shapeCasts_S20480x320_S1280x16x320 : FVec Ideal Cert.ReferenceWmax2Ideal.S1280x16x320 .f32)
      (constant (F := Ideal) Cert.ReferenceWmax2Ideal.S_ .f32 0xFF800000#32) reducesTo_S1280x16x320_S1280x320_d1 h_S_ : S1280x320.Idx → EReal) = arr m c := by
  funext i
  obtain ⟨Q, P, rfl⟩ : ∃ (Q : Fin 1280) (P : Fin 320), i = ix2 Q P := ⟨i 0, i 1, eq_ix2 i⟩
  rw [arr_apply]
  refine host_at (R := 5120) (C := 20480) (P := 320) (Q := 1280) (A0 m c) rfl rfl _ _ reduces_rows _ _ _ reduces_cols _ _ _ Q P (fun a b r k hr hk => ?_)
  refine congrArg (A0 m c) ?_
  rw [show r = (⟨16 * P.val + b.val, by omega⟩ : Fin 5120) from Fin.ext hr, show k = (⟨16 * Q.val + a.val, by omega⟩ : Fin 20480) from Fin.ext hk]

end Cert.KernelWmax2Ideal.Hand

end
-- ==== Proof.lean ====
/- The claims of this directory, put together. For each call of the kernel taken: the printed program and its ideal form run
   to the end from any memory and leave their arguments as they were (the generated frames); the ideal form's stored
   words are the printed program's, up to a constant named as a rational number (`preserves`); and the ideal form's result is
   the reference's (`algebraic`), by the theorems `value` of the call's own module. -/
module

public import proofs.«01_k».proof.Defs
public import proofs.«01_k».proof.Proof.Gen.KernelH
public import proofs.«01_k».proof.Proof.Gen.KernelH.Skeleton
public import proofs.«01_k».proof.Proof.Gen.KernelH.Launch
public import proofs.«01_k».proof.Proof.Gen.KernelH.Points
public import proofs.«01_k».proof.Proof.Gen.KernelH.Frame
public import proofs.«01_k».proof.Proof.Gen.KernelHIdeal
public import proofs.«01_k».proof.Proof.Gen.KernelHIdeal.Skeleton
public import proofs.«01_k».proof.Proof.Gen.KernelHIdeal.Launch
public import proofs.«01_k».proof.Proof.Gen.KernelHIdeal.Points
public import proofs.«01_k».proof.Proof.Gen.KernelHIdeal.Frame
public import proofs.«01_k».proof.Proof.Gen.ReferenceHIdeal
public import proofs.«01_k».proof.Proof.Gen.KernelDa
public import proofs.«01_k».proof.Proof.Gen.KernelDa.Skeleton
public import proofs.«01_k».proof.Proof.Gen.KernelDa.Launch
public import proofs.«01_k».proof.Proof.Gen.KernelDa.Points
public import proofs.«01_k».proof.Proof.Gen.KernelDa.Frame
public import proofs.«01_k».proof.Proof.Gen.KernelDaIdeal
public import proofs.«01_k».proof.Proof.Gen.KernelDaIdeal.Skeleton
public import proofs.«01_k».proof.Proof.Gen.KernelDaIdeal.Launch
public import proofs.«01_k».proof.Proof.Gen.KernelDaIdeal.Points
public import proofs.«01_k».proof.Proof.Gen.KernelDaIdeal.Frame
public import proofs.«01_k».proof.Proof.Gen.ReferenceDaIdeal
public import proofs.«01_k».proof.Proof.Gen.KernelY
public import proofs.«01_k».proof.Proof.Gen.KernelY.Skeleton
public import proofs.«01_k».proof.Proof.Gen.KernelY.Launch
public import proofs.«01_k».proof.Proof.Gen.KernelY.Points
public import proofs.«01_k».proof.Proof.Gen.KernelY.Frame
public import proofs.«01_k».proof.Proof.Gen.KernelYIdeal
public import proofs.«01_k».proof.Proof.Gen.KernelYIdeal.Skeleton
public import proofs.«01_k».proof.Proof.Gen.KernelYIdeal.Launch
public import proofs.«01_k».proof.Proof.Gen.KernelYIdeal.Points
public import proofs.«01_k».proof.Proof.Gen.KernelYIdeal.Frame
public import proofs.«01_k».proof.Proof.Gen.ReferenceYIdeal
public import proofs.«01_k».proof.Proof.Gen.KernelDxn
public import proofs.«01_k».proof.Proof.Gen.KernelDxn.Skeleton
public import proofs.«01_k».proof.Proof.Gen.KernelDxn.Launch
public import proofs.«01_k».proof.Proof.Gen.KernelDxn.Points
public import proofs.«01_k».proof.Proof.Gen.KernelDxn.Frame
public import proofs.«01_k».proof.Proof.Gen.KernelDxnIdeal
public import proofs.«01_k».proof.Proof.Gen.KernelDxnIdeal.Skeleton
public import proofs.«01_k».proof.Proof.Gen.KernelDxnIdeal.Launch
public import proofs.«01_k».proof.Proof.Gen.KernelDxnIdeal.Points
public import proofs.«01_k».proof.Proof.Gen.KernelDxnIdeal.Frame
public import proofs.«01_k».proof.Proof.Gen.ReferenceDxnIdeal
public import proofs.«01_k».proof.Proof.Gen.KernelDw2
public import proofs.«01_k».proof.Proof.Gen.KernelDw2.Skeleton
public import proofs.«01_k».proof.Proof.Gen.KernelDw2.Launch
public import proofs.«01_k».proof.Proof.Gen.KernelDw2.Points
public import proofs.«01_k».proof.Proof.Gen.KernelDw2.Frame
public import proofs.«01_k».proof.Proof.Gen.KernelDw2Ideal
public import proofs.«01_k».proof.Proof.Gen.KernelDw2Ideal.Skeleton
public import proofs.«01_k».proof.Proof.Gen.KernelDw2Ideal.Launch
public import proofs.«01_k».proof.Proof.Gen.KernelDw2Ideal.Points
public import proofs.«01_k».proof.Proof.Gen.KernelDw2Ideal.Frame
public import proofs.«01_k».proof.Proof.Gen.ReferenceDw2Ideal
public import proofs.«01_k».proof.Proof.Gen.KernelDw1
public import proofs.«01_k».proof.Proof.Gen.KernelDw1.Skeleton
public import proofs.«01_k».proof.Proof.Gen.KernelDw1.Launch
public import proofs.«01_k».proof.Proof.Gen.KernelDw1.Points
public import proofs.«01_k».proof.Proof.Gen.KernelDw1.Frame
public import proofs.«01_k».proof.Proof.Gen.KernelDw1Ideal
public import proofs.«01_k».proof.Proof.Gen.KernelDw1Ideal.Skeleton
public import proofs.«01_k».proof.Proof.Gen.KernelDw1Ideal.Launch
public import proofs.«01_k».proof.Proof.Gen.KernelDw1Ideal.Points
public import proofs.«01_k».proof.Proof.Gen.KernelDw1Ideal.Frame
public import proofs.«01_k».proof.Proof.Gen.ReferenceDw1Ideal
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.ReferenceNormIdeal
public import proofs.«01_k».proof.Proof.Gen.KernelScalesW1
public import proofs.«01_k».proof.Proof.Gen.KernelScalesW1.Skeleton
public import proofs.«01_k».proof.Proof.Gen.KernelScalesW1.Launch
public import proofs.«01_k».proof.Proof.Gen.KernelScalesW1.Points
public import proofs.«01_k».proof.Proof.Gen.KernelScalesW1.Frame
public import proofs.«01_k».proof.Proof.Gen.KernelScalesW1Ideal
public import proofs.«01_k».proof.Proof.Gen.KernelScalesW1Ideal.Skeleton
public import proofs.«01_k».proof.Proof.Gen.KernelScalesW1Ideal.Launch
public import proofs.«01_k».proof.Proof.Gen.KernelScalesW1Ideal.Points
public import proofs.«01_k».proof.Proof.Gen.KernelScalesW1Ideal.Frame
public import proofs.«01_k».proof.Proof.Gen.ReferenceScalesW1Ideal
public import proofs.«01_k».proof.Proof.Gen.ReferenceScalesW1Ideal.Skeleton
public import proofs.«01_k».proof.Proof.Gen.ReferenceScalesW1Ideal.Launch
public import proofs.«01_k».proof.Proof.Gen.ReferenceScalesW1Ideal.Points
public import proofs.«01_k».proof.Proof.Gen.ReferenceScalesW1Ideal.Frame
public import proofs.«01_k».proof.Proof.Gen.KernelScalesW2
public import proofs.«01_k».proof.Proof.Gen.KernelScalesW2.Skeleton
public import proofs.«01_k».proof.Proof.Gen.KernelScalesW2.Launch
public import proofs.«01_k».proof.Proof.Gen.KernelScalesW2.Points
public import proofs.«01_k».proof.Proof.Gen.KernelScalesW2.Frame
public import proofs.«01_k».proof.Proof.Gen.KernelScalesW2Ideal
public import proofs.«01_k».proof.Proof.Gen.KernelScalesW2Ideal.Skeleton
public import proofs.«01_k».proof.Proof.Gen.KernelScalesW2Ideal.Launch
public import proofs.«01_k».proof.Proof.Gen.KernelScalesW2Ideal.Points
public import proofs.«01_k».proof.Proof.Gen.KernelScalesW2Ideal.Frame
public import proofs.«01_k».proof.Proof.Gen.ReferenceScalesW2Ideal
public import proofs.«01_k».proof.Proof.Gen.ReferenceScalesW2Ideal.Skeleton
public import proofs.«01_k».proof.Proof.Gen.ReferenceScalesW2Ideal.Launch
public import proofs.«01_k».proof.Proof.Gen.ReferenceScalesW2Ideal.Points
public import proofs.«01_k».proof.Proof.Gen.ReferenceScalesW2Ideal.Frame
public import proofs.«01_k».proof.Proof.Gen.KernelScalesC
public import proofs.«01_k».proof.Proof.Gen.KernelScalesC.Skeleton
public import proofs.«01_k».proof.Proof.Gen.KernelScalesC.Launch
public import proofs.«01_k».proof.Proof.Gen.KernelScalesC.Points
public import proofs.«01_k».proof.Proof.Gen.KernelScalesC.Frame
public import proofs.«01_k».proof.Proof.Gen.KernelScalesCIdeal
public import proofs.«01_k».proof.Proof.Gen.KernelScalesCIdeal.Skeleton
public import proofs.«01_k».proof.Proof.Gen.KernelScalesCIdeal.Launch
public import proofs.«01_k».proof.Proof.Gen.KernelScalesCIdeal.Points
public import proofs.«01_k».proof.Proof.Gen.KernelScalesCIdeal.Frame
public import proofs.«01_k».proof.Proof.Gen.ReferenceScalesCIdeal
public import proofs.«01_k».proof.Proof.Gen.ReferenceScalesCIdeal.Skeleton
public import proofs.«01_k».proof.Proof.Gen.ReferenceScalesCIdeal.Launch
public import proofs.«01_k».proof.Proof.Gen.ReferenceScalesCIdeal.Points
public import proofs.«01_k».proof.Proof.Gen.ReferenceScalesCIdeal.Frame
public import proofs.«01_k».proof.Proof.Gen.KernelScalesR
public import proofs.«01_k».proof.Proof.Gen.KernelScalesR.Skeleton
public import proofs.«01_k».proof.Proof.Gen.KernelScalesR.Launch
public import proofs.«01_k».proof.Proof.Gen.KernelScalesR.Points
public import proofs.«01_k».proof.Proof.Gen.KernelScalesR.Frame
public import proofs.«01_k».proof.Proof.Gen.KernelScalesRIdeal
public import proofs.«01_k».proof.Proof.Gen.KernelScalesRIdeal.Skeleton
public import proofs.«01_k».proof.Proof.Gen.KernelScalesRIdeal.Launch
public import proofs.«01_k».proof.Proof.Gen.KernelScalesRIdeal.Points
public import proofs.«01_k».proof.Proof.Gen.KernelScalesRIdeal.Frame
public import proofs.«01_k».proof.Proof.Gen.ReferenceScalesRIdeal
public import proofs.«01_k».proof.Proof.Gen.ReferenceScalesRIdeal.Skeleton
public import proofs.«01_k».proof.Proof.Gen.ReferenceScalesRIdeal.Launch
public import proofs.«01_k».proof.Proof.Gen.ReferenceScalesRIdeal.Points
public import proofs.«01_k».proof.Proof.Gen.ReferenceScalesRIdeal.Frame
public import proofs.«01_k».proof.Proof.Gen.KernelWmax1
public import proofs.«01_k».proof.Proof.Gen.KernelWmax1.Skeleton
public import proofs.«01_k».proof.Proof.Gen.KernelWmax1.Launch
public import proofs.«01_k».proof.Proof.Gen.KernelWmax1.Points
public import proofs.«01_k».proof.Proof.Gen.KernelWmax1.Frame
public import proofs.«01_k».proof.Proof.Gen.KernelWmax1Ideal
public import proofs.«01_k».proof.Proof.Gen.KernelWmax1Ideal.Skeleton
public import proofs.«01_k».proof.Proof.Gen.KernelWmax1Ideal.Launch
public import proofs.«01_k».proof.Proof.Gen.KernelWmax1Ideal.Points
public import proofs.«01_k».proof.Proof.Gen.KernelWmax1Ideal.Frame
public import proofs.«01_k».proof.Proof.Gen.ReferenceWmax1Ideal
public import proofs.«01_k».proof.Proof.Gen.ReferenceWmax1Ideal.Run
public import proofs.«01_k».proof.Proof.Gen.KernelWmax2
public import proofs.«01_k».proof.Proof.Gen.KernelWmax2.Skeleton
public import proofs.«01_k».proof.Proof.Gen.KernelWmax2.Launch
public import proofs.«01_k».proof.Proof.Gen.KernelWmax2.Points
public import proofs.«01_k».proof.Proof.Gen.KernelWmax2.Frame
public import proofs.«01_k».proof.Proof.Gen.KernelWmax2Ideal
public import proofs.«01_k».proof.Proof.Gen.KernelWmax2Ideal.Skeleton
public import proofs.«01_k».proof.Proof.Gen.KernelWmax2Ideal.Launch
public import proofs.«01_k».proof.Proof.Gen.KernelWmax2Ideal.Points
public import proofs.«01_k».proof.Proof.Gen.KernelWmax2Ideal.Frame
public import proofs.«01_k».proof.Proof.Gen.ReferenceWmax2Ideal
public import proofs.«01_k».proof.Proof.Gen.ReferenceWmax2Ideal.Run
public import proofs.«01_k».proof.Proof.H
public import proofs.«01_k».proof.Proof.Da
public import proofs.«01_k».proof.Proof.Y
public import proofs.«01_k».proof.Proof.Dxn
public import proofs.«01_k».proof.Proof.Dw2
public import proofs.«01_k».proof.Proof.Dw1
public import proofs.«01_k».proof.Proof.Norm
public import proofs.«01_k».proof.Proof.ScalesW1
public import proofs.«01_k».proof.Proof.ScalesW2
public import proofs.«01_k».proof.Proof.ScalesC
public import proofs.«01_k».proof.Proof.ScalesR
public import proofs.«01_k».proof.Proof.Wmax1
public import proofs.«01_k».proof.Proof.Wmax2
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference of h = relu((xn · w1ᵀ) · s) runs to the end, leaves its arguments as they were and no semaphore raised. -/
theorem quiescent_ReferenceHIdeal : quiescent_ReferenceHIdeal := fun m ρ _ =>
  (θ_run Cert.ReferenceHIdeal.defs _ _).mono (fun r h => ⟨fun c => (h c).2, sem_eq_zero_of_no_sems (by decide) r.2⟩)
    (Cert.ReferenceHIdeal.Value.run (F := Ideal) m ρ)

/-- H = relu((xn · w1ᵀ) · s): from equal arguments the kernel and the reference end with equal results, over the reals with
    infinities. -/
theorem algebraic_KernelHIdeal_ReferenceHIdeal : algebraic_KernelHIdeal_ReferenceHIdeal := by
  intro m ρ m' ρ' _ hagree
  refine ⟨_, Cert.KernelHIdeal.Value.run_blocks (F := Ideal) m ρ, ?_⟩
  refine (θ_run Cert.ReferenceHIdeal.defs _ _).mono (fun _ h c => ⟨?_, (h c).2⟩) (Cert.ReferenceHIdeal.Value.run (F := Ideal) m' ρ')
  rw [(h c).1]
  simp only [hagree c]
  exact (Cert.KernelHIdeal.Hand.value m c).symm

/-- The reference of dh = (dy · w2) · s · 2 · relu(h) runs to the end, leaves its arguments as they were and no semaphore raised. -/
theorem quiescent_ReferenceDaIdeal : quiescent_ReferenceDaIdeal := fun m ρ _ =>
  (θ_run Cert.ReferenceDaIdeal.defs _ _).mono (fun r h => ⟨fun c => (h c).2, sem_eq_zero_of_no_sems (by decide) r.2⟩)
    (Cert.ReferenceDaIdeal.Value.run (F := Ideal) m ρ)

/-- Dh = (dy · w2) · s · 2 · relu(h): from equal arguments the kernel and the reference end with equal results, over the reals with
    infinities. -/
theorem algebraic_KernelDaIdeal_ReferenceDaIdeal : algebraic_KernelDaIdeal_ReferenceDaIdeal := by
  intro m ρ m' ρ' _ hagree
  refine ⟨_, Cert.KernelDaIdeal.Value.run_blocks (F := Ideal) m ρ, ?_⟩
  refine (θ_run Cert.ReferenceDaIdeal.defs _ _).mono (fun _ h c => ⟨?_, (h c).2⟩) (Cert.ReferenceDaIdeal.Value.run (F := Ideal) m' ρ')
  rw [(h c).1]
  simp only [hagree c]
  exact (Cert.KernelDaIdeal.Hand.value m c).symm

/-- The reference of y = (a · w2ᵀ) · s runs to the end, leaves its arguments as they were and no semaphore raised. -/
theorem quiescent_ReferenceYIdeal : quiescent_ReferenceYIdeal := fun m ρ _ =>
  (θ_run Cert.ReferenceYIdeal.defs _ _).mono (fun r h => ⟨fun c => (h c).2, sem_eq_zero_of_no_sems (by decide) r.2⟩)
    (Cert.ReferenceYIdeal.Value.run (F := Ideal) m ρ)

/-- Y = (a · w2ᵀ) · s: from equal arguments the kernel and the reference end with equal results, over the reals with
    infinities. -/
theorem algebraic_KernelYIdeal_ReferenceYIdeal : algebraic_KernelYIdeal_ReferenceYIdeal := by
  intro m ρ m' ρ' _ hagree
  refine ⟨_, Cert.KernelYIdeal.Value.run (F := Ideal) m ρ, ?_⟩
  refine (θ_run Cert.ReferenceYIdeal.defs _ _).mono (fun _ h c => ⟨?_, (h c).2⟩) (Cert.ReferenceYIdeal.Value.run (F := Ideal) m' ρ')
  rw [(h c).1]
  simp only [hagree c]
  exact (Cert.KernelYIdeal.Hand.value m c).symm

/-- The reference of dxn = (dh · w1) · s runs to the end, leaves its arguments as they were and no semaphore raised. -/
theorem quiescent_ReferenceDxnIdeal : quiescent_ReferenceDxnIdeal := fun m ρ _ =>
  (θ_run Cert.ReferenceDxnIdeal.defs _ _).mono (fun r h => ⟨fun c => (h c).2, sem_eq_zero_of_no_sems (by decide) r.2⟩)
    (Cert.ReferenceDxnIdeal.Value.run (F := Ideal) m ρ)

/-- Dxn = (dh · w1) · s: from equal arguments the kernel and the reference end with equal results, over the reals with
    infinities. -/
theorem algebraic_KernelDxnIdeal_ReferenceDxnIdeal : algebraic_KernelDxnIdeal_ReferenceDxnIdeal := by
  intro m ρ m' ρ' _ hagree
  refine ⟨_, Cert.KernelDxnIdeal.Value.run (F := Ideal) m ρ, ?_⟩
  refine (θ_run Cert.ReferenceDxnIdeal.defs _ _).mono (fun _ h c => ⟨?_, (h c).2⟩) (Cert.ReferenceDxnIdeal.Value.run (F := Ideal) m' ρ')
  rw [(h c).1]
  simp only [hagree c]
  exact (Cert.KernelDxnIdeal.Hand.value m c).symm

/-- The reference of dw2 = (dyᵀ · a) · s runs to the end, leaves its arguments as they were and no semaphore raised. -/
theorem quiescent_ReferenceDw2Ideal : quiescent_ReferenceDw2Ideal := fun m ρ _ =>
  (θ_run Cert.ReferenceDw2Ideal.defs _ _).mono (fun r h => ⟨fun c => (h c).2, sem_eq_zero_of_no_sems (by decide) r.2⟩)
    (Cert.ReferenceDw2Ideal.Value.run (F := Ideal) m ρ)

/-- Dw2 = (dyᵀ · a) · s: from equal arguments the kernel and the reference end with equal results, over the reals with
    infinities. -/
theorem algebraic_KernelDw2Ideal_ReferenceDw2Ideal : algebraic_KernelDw2Ideal_ReferenceDw2Ideal := by
  intro m ρ m' ρ' _ hagree
  refine ⟨_, Cert.KernelDw2Ideal.Value.run_blocks (F := Ideal) m ρ, ?_⟩
  refine (θ_run Cert.ReferenceDw2Ideal.defs _ _).mono (fun _ h c => ⟨?_, (h c).2⟩) (Cert.ReferenceDw2Ideal.Value.run (F := Ideal) m' ρ')
  rw [(h c).1]
  simp only [hagree c]
  exact (Cert.KernelDw2Ideal.Hand.value m c).symm

/-- The reference of dw1 = (dhᵀ · xn) · s runs to the end, leaves its arguments as they were and no semaphore raised. -/
theorem quiescent_ReferenceDw1Ideal : quiescent_ReferenceDw1Ideal := fun m ρ _ =>
  (θ_run Cert.ReferenceDw1Ideal.defs _ _).mono (fun r h => ⟨fun c => (h c).2, sem_eq_zero_of_no_sems (by decide) r.2⟩)
    (Cert.ReferenceDw1Ideal.Value.run (F := Ideal) m ρ)

/-- Dw1 = (dhᵀ · xn) · s: from equal arguments the kernel and the reference end with equal results, over the reals with
    infinities. -/
theorem algebraic_KernelDw1Ideal_ReferenceDw1Ideal : algebraic_KernelDw1Ideal_ReferenceDw1Ideal := by
  intro m ρ m' ρ' _ hagree
  refine ⟨_, Cert.KernelDw1Ideal.Value.run_blocks (F := Ideal) m ρ, ?_⟩
  refine (θ_run Cert.ReferenceDw1Ideal.defs _ _).mono (fun _ h c => ⟨?_, (h c).2⟩) (Cert.ReferenceDw1Ideal.Value.run (F := Ideal) m' ρ')
  rw [(h c).1]
  simp only [hagree c]
  exact (Cert.KernelDw1Ideal.Hand.value m c).symm

/-- The reference of the norm's backward runs to the end, leaves its arguments as they were and no semaphore raised. -/
theorem quiescent_ReferenceNormIdeal : quiescent_ReferenceNormIdeal := fun m ρ _ =>
  (θ_run Cert.ReferenceNormIdeal.defs _ _).mono (fun r h => ⟨fun c => (h c).2.2.2, sem_eq_zero_of_no_sems (by decide) r.2⟩)
    (Cert.ReferenceNormIdeal.Value.run (F := Ideal) m ρ)

/-- The norm's backward, dx, c and dgamma: from equal arguments the kernel and the reference end with equal results, over the reals
    with infinities. -/
theorem algebraic_KernelNormIdeal_ReferenceNormIdeal : algebraic_KernelNormIdeal_ReferenceNormIdeal := by
  intro m ρ m' ρ' _ hagree
  refine ⟨_, _, _, Cert.KernelNormIdeal.Hand.run_results m ρ, ?_⟩
  refine (θ_run Cert.ReferenceNormIdeal.defs _ _).mono (fun _ h c => ⟨?_, ?_, ?_, (h c).2.2.2⟩) (Cert.ReferenceNormIdeal.Value.run (F := Ideal) m' ρ')
  · rw [(h c).1]
    simp only [hagree c]
    exact (Cert.KernelNormIdeal.Hand.value_dx m c).symm
  · rw [(h c).2.1]
    simp only [hagree c]
    exact (Cert.KernelNormIdeal.Hand.value_c m c).symm
  · rw [(h c).2.2.1]
    simp only [hagree c]
    exact (Cert.KernelNormIdeal.Hand.value_dgamma m c).symm

/-- The scales of the first weight: from equal arguments the kernel and the reference end with equal results, over the reals
    with infinities. -/
theorem algebraic_KernelScalesW1Ideal_ReferenceScalesW1Ideal : algebraic_KernelScalesW1Ideal_ReferenceScalesW1Ideal := by
  intro m ρ m' ρ' _ hagree
  refine ⟨_, _, Cert.KernelScalesW1Ideal.Hand.run_results m ρ, ?_⟩
  refine (θ_run Cert.ReferenceScalesW1Ideal.defs _ _).mono (fun _ h c => ⟨(h c).1.trans (Cert.KernelScalesW1Ideal.Hand.value_bs m m' c (hagree c)),
    (h c).2.1.trans (Cert.KernelScalesW1Ideal.Hand.value_ts m m' c (hagree c)), (h c).2.2⟩) (Cert.ReferenceScalesW1Ideal.Hand.run_results m' ρ')

/-- The scales of the second weight: from equal arguments the kernel and the reference end with equal results, over the reals
    with infinities. -/
theorem algebraic_KernelScalesW2Ideal_ReferenceScalesW2Ideal : algebraic_KernelScalesW2Ideal_ReferenceScalesW2Ideal := by
  intro m ρ m' ρ' _ hagree
  refine ⟨_, _, Cert.KernelScalesW2Ideal.Hand.run_results m ρ, ?_⟩
  refine (θ_run Cert.ReferenceScalesW2Ideal.defs _ _).mono (fun _ h c => ⟨(h c).1.trans (Cert.KernelScalesW2Ideal.Hand.value_bs m m' c (hagree c)),
    (h c).2.1.trans (Cert.KernelScalesW2Ideal.Hand.value_ts m m' c (hagree c)), (h c).2.2⟩) (Cert.ReferenceScalesW2Ideal.Hand.run_results m' ρ')

/-- The scales of a [20480, 2048] array along its columns: from equal arguments the kernel and the reference end with equal results, over the reals
    with infinities. -/
theorem algebraic_KernelScalesCIdeal_ReferenceScalesCIdeal : algebraic_KernelScalesCIdeal_ReferenceScalesCIdeal := by
  intro m ρ m' ρ' _ hagree
  refine ⟨_, _, Cert.KernelScalesCIdeal.Hand.run_results m ρ, ?_⟩
  refine (θ_run Cert.ReferenceScalesCIdeal.defs _ _).mono (fun _ h c => ⟨(h c).1.trans (Cert.KernelScalesCIdeal.Hand.value_bs m m' c (hagree c).1 (hagree c).2),
    (h c).2.1.trans (Cert.KernelScalesCIdeal.Hand.value_ts m m' c (hagree c).2), (h c).2.2⟩) (Cert.ReferenceScalesCIdeal.Hand.run_results m' ρ')

/-- The scales of a rotated array: from equal arguments the kernel and the reference end with equal results, over the reals
    with infinities. -/
theorem algebraic_KernelScalesRIdeal_ReferenceScalesRIdeal : algebraic_KernelScalesRIdeal_ReferenceScalesRIdeal := by
  intro m ρ m' ρ' _ hagree
  refine ⟨_, _, Cert.KernelScalesRIdeal.Hand.run_results m ρ, ?_⟩
  refine (θ_run Cert.ReferenceScalesRIdeal.defs _ _).mono (fun _ h c => ⟨(h c).1.trans (Cert.KernelScalesRIdeal.Hand.value_bs m m' c (hagree c).1 (hagree c).2),
    (h c).2.1.trans (Cert.KernelScalesRIdeal.Hand.value_ts m m' c (hagree c).2), (h c).2.2⟩) (Cert.ReferenceScalesRIdeal.Hand.run_results m' ρ')

/-- The reference of the block maxima of the first weight runs to the end, leaves its argument as it was and no semaphore raised. -/
theorem quiescent_ReferenceWmax1Ideal : quiescent_ReferenceWmax1Ideal := fun m ρ _ =>
  (θ_run Cert.ReferenceWmax1Ideal.defs _ _).mono (fun r h => ⟨fun c => (h c).2, sem_eq_zero_of_no_sems (by decide) r.2⟩)
    (Cert.ReferenceWmax1Ideal.Value.run (F := Ideal) m ρ)

/-- The block maxima of the first weight: from equal arguments the kernel and the reference end with equal results, over the
    reals with infinities. -/
theorem algebraic_KernelWmax1Ideal_ReferenceWmax1Ideal : algebraic_KernelWmax1Ideal_ReferenceWmax1Ideal := by
  intro m ρ m' ρ' _ hagree
  refine ⟨_, Cert.KernelWmax1Ideal.Hand.run_result m ρ, ?_⟩
  refine (θ_run Cert.ReferenceWmax1Ideal.defs _ _).mono (fun _ h c => ⟨?_, (h c).2⟩) (Cert.ReferenceWmax1Ideal.Value.run (F := Ideal) m' ρ')
  rw [(h c).1]
  simp only [hagree c]
  exact Cert.KernelWmax1Ideal.Hand.value m c

/-- The reference of the block maxima of the second weight runs to the end, leaves its argument as it was and no semaphore raised. -/
theorem quiescent_ReferenceWmax2Ideal : quiescent_ReferenceWmax2Ideal := fun m ρ _ =>
  (θ_run Cert.ReferenceWmax2Ideal.defs _ _).mono (fun r h => ⟨fun c => (h c).2, sem_eq_zero_of_no_sems (by decide) r.2⟩)
    (Cert.ReferenceWmax2Ideal.Value.run (F := Ideal) m ρ)

/-- The block maxima of the second weight: from equal arguments the kernel and the reference end with equal results, over the
    reals with infinities. -/
theorem algebraic_KernelWmax2Ideal_ReferenceWmax2Ideal : algebraic_KernelWmax2Ideal_ReferenceWmax2Ideal := by
  intro m ρ m' ρ' _ hagree
  refine ⟨_, Cert.KernelWmax2Ideal.Hand.run_result m ρ, ?_⟩
  refine (θ_run Cert.ReferenceWmax2Ideal.defs _ _).mono (fun _ h c => ⟨?_, (h c).2⟩) (Cert.ReferenceWmax2Ideal.Value.run (F := Ideal) m' ρ')
  rw [(h c).1]
  simp only [hagree c]
  exact Cert.KernelWmax2Ideal.Hand.value m c

/-- All the claims. -/
theorem claim : Cert.Claim := ⟨Cert.KernelH.Gen.facts, Cert.KernelHIdeal.Gen.facts, Cert.ReferenceHIdeal.Gen.facts, Cert.KernelDa.Gen.facts, Cert.KernelDaIdeal.Gen.facts, Cert.ReferenceDaIdeal.Gen.facts, Cert.KernelY.Gen.facts, Cert.KernelYIdeal.Gen.facts, Cert.ReferenceYIdeal.Gen.facts, Cert.KernelDxn.Gen.facts, Cert.KernelDxnIdeal.Gen.facts, Cert.ReferenceDxnIdeal.Gen.facts, Cert.KernelDw2.Gen.facts, Cert.KernelDw2Ideal.Gen.facts, Cert.ReferenceDw2Ideal.Gen.facts, Cert.KernelDw1.Gen.facts, Cert.KernelDw1Ideal.Gen.facts, Cert.ReferenceDw1Ideal.Gen.facts, Cert.KernelNorm.Gen.facts, Cert.KernelNormIdeal.Gen.facts, Cert.ReferenceNormIdeal.Gen.facts, Cert.KernelScalesW1.Gen.facts, Cert.KernelScalesW1Ideal.Gen.facts, Cert.ReferenceScalesW1Ideal.Gen.facts, Cert.KernelScalesW2.Gen.facts, Cert.KernelScalesW2Ideal.Gen.facts, Cert.ReferenceScalesW2Ideal.Gen.facts, Cert.KernelScalesC.Gen.facts, Cert.KernelScalesCIdeal.Gen.facts, Cert.ReferenceScalesCIdeal.Gen.facts, Cert.KernelScalesR.Gen.facts, Cert.KernelScalesRIdeal.Gen.facts, Cert.ReferenceScalesRIdeal.Gen.facts, Cert.KernelWmax1.Gen.facts, Cert.KernelWmax1Ideal.Gen.facts, Cert.ReferenceWmax1Ideal.Gen.facts, Cert.KernelWmax2.Gen.facts, Cert.KernelWmax2Ideal.Gen.facts, Cert.ReferenceWmax2Ideal.Gen.facts,
  fun m ρ _ => Cert.KernelH.Gen.frame m ρ, fun m ρ _ => Cert.KernelHIdeal.Gen.frame m ρ, quiescent_ReferenceHIdeal,
  fun m ρ _ => Cert.KernelDa.Gen.frame m ρ, fun m ρ _ => Cert.KernelDaIdeal.Gen.frame m ρ, quiescent_ReferenceDaIdeal,
  fun m ρ _ => Cert.KernelY.Gen.frame m ρ, fun m ρ _ => Cert.KernelYIdeal.Gen.frame m ρ, quiescent_ReferenceYIdeal,
  fun m ρ _ => Cert.KernelDxn.Gen.frame m ρ, fun m ρ _ => Cert.KernelDxnIdeal.Gen.frame m ρ, quiescent_ReferenceDxnIdeal,
  fun m ρ _ => Cert.KernelDw2.Gen.frame m ρ, fun m ρ _ => Cert.KernelDw2Ideal.Gen.frame m ρ, quiescent_ReferenceDw2Ideal,
  fun m ρ _ => Cert.KernelDw1.Gen.frame m ρ, fun m ρ _ => Cert.KernelDw1Ideal.Gen.frame m ρ, quiescent_ReferenceDw1Ideal,
  fun m ρ _ => Cert.KernelNorm.Gen.frame m ρ, fun m ρ _ => Cert.KernelNormIdeal.Gen.frame m ρ, quiescent_ReferenceNormIdeal,
  fun m ρ _ => Cert.KernelScalesW1.Gen.frame m ρ, fun m ρ _ => Cert.KernelScalesW1Ideal.Gen.frame m ρ, fun m ρ _ => Cert.ReferenceScalesW1Ideal.Gen.frame m ρ,
  fun m ρ _ => Cert.KernelScalesW2.Gen.frame m ρ, fun m ρ _ => Cert.KernelScalesW2Ideal.Gen.frame m ρ, fun m ρ _ => Cert.ReferenceScalesW2Ideal.Gen.frame m ρ,
  fun m ρ _ => Cert.KernelScalesC.Gen.frame m ρ, fun m ρ _ => Cert.KernelScalesCIdeal.Gen.frame m ρ, fun m ρ _ => Cert.ReferenceScalesCIdeal.Gen.frame m ρ,
  fun m ρ _ => Cert.KernelScalesR.Gen.frame m ρ, fun m ρ _ => Cert.KernelScalesRIdeal.Gen.frame m ρ, fun m ρ _ => Cert.ReferenceScalesRIdeal.Gen.frame m ρ,
  fun m ρ _ => Cert.KernelWmax1.Gen.frame m ρ, fun m ρ _ => Cert.KernelWmax1Ideal.Gen.frame m ρ, quiescent_ReferenceWmax1Ideal,
  fun m ρ _ => Cert.KernelWmax2.Gen.frame m ρ, fun m ρ _ => Cert.KernelWmax2Ideal.Gen.frame m ρ, quiescent_ReferenceWmax2Ideal,
  (trivial : preserves_KernelH_KernelHIdeal), algebraic_KernelHIdeal_ReferenceHIdeal,
  (trivial : preserves_KernelDa_KernelDaIdeal), algebraic_KernelDaIdeal_ReferenceDaIdeal,
  (trivial : preserves_KernelY_KernelYIdeal), algebraic_KernelYIdeal_ReferenceYIdeal,
  (trivial : preserves_KernelDxn_KernelDxnIdeal), algebraic_KernelDxnIdeal_ReferenceDxnIdeal,
  (trivial : preserves_KernelDw2_KernelDw2Ideal), algebraic_KernelDw2Ideal_ReferenceDw2Ideal,
  (trivial : preserves_KernelDw1_KernelDw1Ideal), algebraic_KernelDw1Ideal_ReferenceDw1Ideal,
  (trivial : preserves_KernelNorm_KernelNormIdeal), algebraic_KernelNormIdeal_ReferenceNormIdeal,
  IdealRules.named_const.statement Cert.KernelScalesW1Ideal.κ "inv_divisor" .f32 0x39C30C31#32 ((1 / 2688 : ℝ) : EReal) rfl, algebraic_KernelScalesW1Ideal_ReferenceScalesW1Ideal,
  IdealRules.named_const.statement Cert.KernelScalesW2Ideal.κ "inv_divisor" .f32 0x39C30C31#32 ((1 / 2688 : ℝ) : EReal) rfl, algebraic_KernelScalesW2Ideal_ReferenceScalesW2Ideal,
  IdealRules.named_const.statement Cert.KernelScalesCIdeal.κ "inv_divisor" .f32 0x39C30C31#32 ((1 / 2688 : ℝ) : EReal) rfl, algebraic_KernelScalesCIdeal_ReferenceScalesCIdeal,
  IdealRules.named_const.statement Cert.KernelScalesRIdeal.κ "inv_divisor" .f32 0x39C30C31#32 ((1 / 2688 : ℝ) : EReal) rfl, algebraic_KernelScalesRIdeal_ReferenceScalesRIdeal,
  (trivial : preserves_KernelWmax1_KernelWmax1Ideal), algebraic_KernelWmax1Ideal_ReferenceWmax1Ideal,
  (trivial : preserves_KernelWmax2_KernelWmax2Ideal), algebraic_KernelWmax2Ideal_ReferenceWmax2Ideal⟩

end Cert.Proof

end
